-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_parameters_ok [hPre_parameters_ok : Cert.Pre_parameters_ok.Facts] (m : (ℓ : Loc Cert.KernelIdeal.nD Cert.KernelIdeal.τ Cert.KernelIdeal.sig) → Buf (Elt Ideal) ℓ) : Prop :=
  ∀ c : Dev Cert.KernelIdeal.nD,
    (Cert.Pre_parameters_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_parameters_ok [hPre_parameters_ok : Cert.Pre_parameters_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_parameters_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_parameters2_ok [hPre_parameters2_ok : Cert.Pre_parameters2_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_parameters2_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_parameters2_ok [hPre_parameters2_ok : Cert.Pre_parameters2_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_parameters2_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_parameters_ok [hKernelIdeal : Cert.KernelIdeal.Facts] [hPre_parameters_ok : Cert.Pre_parameters_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_parameters_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_parameters_ok [hReferenceIdeal : Cert.ReferenceIdeal.Facts] [hPre_parameters_ok : Cert.Pre_parameters_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_parameters_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_parameters2_ok [hKernel2Ideal : Cert.Kernel2Ideal.Facts] [hPre_parameters2_ok : Cert.Pre_parameters2_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_parameters2_ok m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_parameters2_ok [hReference2Ideal : Cert.Reference2Ideal.Facts] [hPre_parameters2_ok : Cert.Pre_parameters2_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_parameters2_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_parameters_ok [hKernelIdeal : Cert.KernelIdeal.Facts] [hReferenceIdeal : Cert.ReferenceIdeal.Facts] [hPre_parameters_ok : Cert.Pre_parameters_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_parameters_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal_pre_parameters2_ok [hKernel2Ideal : Cert.Kernel2Ideal.Facts] [hReference2Ideal : Cert.Reference2Ideal.Facts] [hPre_parameters2_ok : Cert.Pre_parameters2_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_parameters2_ok m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v119)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v119) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v208) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "inv_pi" .f32 0x3EA2F983#32 ((4194304 / 13176795 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_parameters_ok : Cert.Pre_parameters_ok.Facts) (hPre_parameters2_ok : Cert.Pre_parameters2_ok.Facts),
    quiescent_Kernel (hKernel := hKernel)
    ∧ quiescent_KernelIdeal (hKernelIdeal := hKernelIdeal)
    ∧ quiescent_KernelIdeal_pre_parameters_ok (hKernelIdeal := hKernelIdeal) (hPre_parameters_ok := hPre_parameters_ok)
    ∧ quiescent_ReferenceIdeal (hReferenceIdeal := hReferenceIdeal)
    ∧ quiescent_ReferenceIdeal_pre_parameters_ok (hReferenceIdeal := hReferenceIdeal) (hPre_parameters_ok := hPre_parameters_ok)
    ∧ quiescent_Kernel2 (hKernel2 := hKernel2)
    ∧ quiescent_Kernel2Ideal (hKernel2Ideal := hKernel2Ideal)
    ∧ quiescent_Kernel2Ideal_pre_parameters2_ok (hKernel2Ideal := hKernel2Ideal) (hPre_parameters2_ok := hPre_parameters2_ok)
    ∧ quiescent_Reference2Ideal (hReference2Ideal := hReference2Ideal)
    ∧ quiescent_Reference2Ideal_pre_parameters2_ok (hReference2Ideal := hReference2Ideal) (hPre_parameters2_ok := hPre_parameters2_ok)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_parameters_ok (hKernelIdeal := hKernelIdeal) (hReferenceIdeal := hReferenceIdeal) (hPre_parameters_ok := hPre_parameters_ok)
    ∧ preserves_Kernel2_Kernel2Ideal
    ∧ algebraic_Kernel2Ideal_Reference2Ideal_pre_parameters2_ok (hKernel2Ideal := hKernel2Ideal) (hReference2Ideal := hReference2Ideal) (hPre_parameters2_ok := hPre_parameters2_ok)
    ∧ preserves_Kernel3_Kernel3Ideal
    ∧ algebraic_Kernel3Ideal_Reference3Ideal (hKernel3Ideal := hKernel3Ideal) (hReference3Ideal := hReference3Ideal)
-- ==== Pre_parameters2_ok.lean ====
abbrev S16x3x256x129 : Shape := ⟨4, ![16, 3, 256, 129]⟩
abbrev S16x96x1 : Shape := ⟨3, ![16, 96, 1]⟩
abbrev S32x3x3 : Shape := ⟨3, ![32, 3, 3]⟩
abbrev S32 : Shape := ⟨1, ![32]⟩
abbrev S4x32 : Shape := ⟨2, ![4, 32]⟩
abbrev S32x32x3 : Shape := ⟨3, ![32, 32, 3]⟩
abbrev S256x176 : Shape := ⟨2, ![256, 176]⟩
abbrev S256 : Shape := ⟨1, ![256]⟩
abbrev S128x256 : Shape := ⟨2, ![128, 256]⟩
abbrev S128 : Shape := ⟨1, ![128]⟩
abbrev S1x32 : Shape := ⟨2, ![1, 32]⟩
abbrev S_ : Shape := ⟨0, ![]⟩
abbrev S64 : Shape := ⟨1, ![64]⟩

class Facts : Prop where
  slices_S4x32_S1x32_0_0 : S4x32.Slices ![0, 0] S1x32
  shapeCasts_S1x32_S32 : S1x32.ShapeCasts S32
  slices_S4x32_S1x32_1_0 : S4x32.Slices ![1, 0] S1x32
  slices_S4x32_S1x32_2_0 : S4x32.Slices ![2, 0] S1x32
  slices_S4x32_S1x32_3_0 : S4x32.Slices ![3, 0] S1x32
  bcast_S_S32 : S_.BroadcastsInDim S32 (![] : Fin 0 → Fin S32.rank)
  concatenates_S32_S32_S64_d0 : Shape.Concatenates [S32, S32] S64 0

variable [Facts]

def fn_part2 {F : FTy → Type} [FloatOps F] (main_v23 : IVec S32 1) (main_v31 : FVec F S32 .f32) (main_v38 : IVec S32 1) (main_v39 : FVec F S32 .f32) (main_cst_6 : FVec F S_ .f32) : IVec S64 1 :=
  let main_v40 : FVec F S32 .f32 := broadcastInDim S32 ![] bcast_S_S32 main_cst_6
  let main_v41 : IVec S32 1 := cmpf .olt main_v39 main_v40
  let main_v42 : IVec S32 1 := andi main_v38 main_v41
  let main_cst_7 : FVec F S_ .f32 := constant S_ .f32 0x3727C5AC#32
  let main_v43 : FVec F S32 .f32 := broadcastInDim S32 ![] bcast_S_S32 main_cst_7
  let main_v44 : FVec F S32 .f32 := addf main_v31 main_v43
  let main_cst_8 : FVec F S_ .f32 := constant S_ .f32 0x00000000#32
  let main_v45 : FVec F S32 .f32 := broadcastInDim S32 ![] bcast_S_S32 main_cst_8
  let main_v46 : IVec S32 1 := cmpf .ogt main_v44 main_v45
  let main_v47 : IVec S32 1 := andi main_v42 main_v46
  let main_v48 : IVec S64 1 := (fun a b => concatenate S64 0 [⟨S32, a⟩, ⟨S32, b⟩] concatenates_S32_S32_S64_d0) main_v23 main_v47
  main_v48

def fn_part1 {F : FTy → Type} [FloatOps F] (main_arg6 : FVec F S32 .f32) (main_arg7 : FVec F S4x32 .f32) (main_v7 : FVec F S32 .f32) (main_v18 : IVec S32 1) (main_v19 : FVec F S32 .f32) : IVec S64 1 :=
  let main_v20 : FVec F S32 .f32 := addf main_v7 main_v19
  let main_cst_3 : FVec F S_ .f32 := constant S_ .f32 0x00000000#32
  let main_v21 : FVec F S32 .f32 := broadcastInDim S32 ![] bcast_S_S32 main_cst_3
  let main_v22 : IVec S32 1 := cmpf .ogt main_v20 main_v21
  let main_v23 : IVec S32 1 := andi main_v18 main_v22
  let main_v24 : FVec F S1x32 .f32 := (extractStridedSlice S1x32 ![0, 0] · slices_S4x32_S1x32_0_0) main_arg7
  let main_v25 : FVec F S32 .f32 := shapeCast S32 main_v24 shapeCasts_S1x32_S32
  let main_v26 : FVec F S1x32 .f32 := (extractStridedSlice S1x32 ![1, 0] · slices_S4x32_S1x32_1_0) main_arg7
  let main_v27 : FVec F S32 .f32 := shapeCast S32 main_v26 shapeCasts_S1x32_S32
  let main_v28 : FVec F S1x32 .f32 := (extractStridedSlice S1x32 ![2, 0] · slices_S4x32_S1x32_2_0) main_arg7
  let main_v29 : FVec F S32 .f32 := shapeCast S32 main_v28 shapeCasts_S1x32_S32
  let main_v30 : FVec F S1x32 .f32 := (extractStridedSlice S1x32 ![3, 0] · slices_S4x32_S1x32_3_0) main_arg7
  let main_v31 : FVec F S32 .f32 := shapeCast S32 main_v30 shapeCasts_S1x32_S32
  let main_v32 : FVec F S32 .f32 := Host.absf main_arg6
  let main_cst_4 : FVec F S_ .f32 := constant S_ .f32 0x7F800000#32
  let main_v33 : FVec F S32 .f32 := broadcastInDim S32 ![] bcast_S_S32 main_cst_4
  let main_v34 : IVec S32 1 := cmpf .olt main_v32 main_v33
  let main_v35 : FVec F S32 .f32 := Host.absf main_v25
  let main_cst_5 : FVec F S_ .f32 := constant S_ .f32 0x7F800000#32
  let main_v36 : FVec F S32 .f32 := broadcastInDim S32 ![] bcast_S_S32 main_cst_5
  let main_v37 : IVec S32 1 := cmpf .olt main_v35 main_v36
  let main_v38 : IVec S32 1 := andi main_v34 main_v37
  let main_v39 : FVec F S32 .f32 := Host.absf main_v29
  let main_cst_6 : FVec F S_ .f32 := constant S_ .f32 0x7F800000#32
  fn_part2 (F := F) main_v23 main_v31 main_v38 main_v39 main_cst_6

def fn {F : FTy → Type} [FloatOps F] (main_arg0 : FVec F S16x3x256x129 .f32) (main_arg1 : FVec F S16x96x1 .f32) (main_arg2 : FVec F S32x3x3 .f32) (main_arg3 : FVec F S32 .f32) (main_arg4 : FVec F S4x32 .f32) (main_arg5 : FVec F S32x32x3 .f32) (main_arg6 : FVec F S32 .f32) (main_arg7 : FVec F S4x32 .f32) (main_arg8 : FVec F S256x176 .f32) (main_arg9 : FVec F S256 .f32) (main_arg10 : FVec F S256 .f32) (main_arg11 : FVec F S256 .f32) (main_arg12 : FVec F S128x256 .f32) (main_arg13 : FVec F S128 .f32) : IVec S64 1 :=
  let main_v0 : FVec F S1x32 .f32 := (extractStridedSlice S1x32 ![0, 0] · slices_S4x32_S1x32_0_0) main_arg4
  let main_v1 : FVec F S32 .f32 := shapeCast S32 main_v0 shapeCasts_S1x32_S32
  let main_v2 : FVec F S1x32 .f32 := (extractStridedSlice S1x32 ![1, 0] · slices_S4x32_S1x32_1_0) main_arg4
  let main_v3 : FVec F S32 .f32 := shapeCast S32 main_v2 shapeCasts_S1x32_S32
  let main_v4 : FVec F S1x32 .f32 := (extractStridedSlice S1x32 ![2, 0] · slices_S4x32_S1x32_2_0) main_arg4
  let main_v5 : FVec F S32 .f32 := shapeCast S32 main_v4 shapeCasts_S1x32_S32
  let main_v6 : FVec F S1x32 .f32 := (extractStridedSlice S1x32 ![3, 0] · slices_S4x32_S1x32_3_0) main_arg4
  let main_v7 : FVec F S32 .f32 := shapeCast S32 main_v6 shapeCasts_S1x32_S32
  let main_v8 : FVec F S32 .f32 := Host.absf main_arg3
  let main_cst : FVec F S_ .f32 := constant S_ .f32 0x7F800000#32
  let main_v9 : FVec F S32 .f32 := broadcastInDim S32 ![] bcast_S_S32 main_cst
  let main_v10 : IVec S32 1 := cmpf .olt main_v8 main_v9
  let main_v11 : FVec F S32 .f32 := Host.absf main_v1
  let main_cst_0 : FVec F S_ .f32 := constant S_ .f32 0x7F800000#32
  let main_v12 : FVec F S32 .f32 := broadcastInDim S32 ![] bcast_S_S32 main_cst_0
  let main_v13 : IVec S32 1 := cmpf .olt main_v11 main_v12
  let main_v14 : IVec S32 1 := andi main_v10 main_v13
  let main_v15 : FVec F S32 .f32 := Host.absf main_v5
  let main_cst_1 : FVec F S_ .f32 := constant S_ .f32 0x7F800000#32
  let main_v16 : FVec F S32 .f32 := broadcastInDim S32 ![] bcast_S_S32 main_cst_1
  let main_v17 : IVec S32 1 := cmpf .olt main_v15 main_v16
  let main_v18 : IVec S32 1 := andi main_v14 main_v17
  let main_cst_2 : FVec F S_ .f32 := constant S_ .f32 0x3727C5AC#32
  let main_v19 : FVec F S32 .f32 := broadcastInDim S32 ![] bcast_S_S32 main_cst_2
  fn_part1 (F := F) main_arg6 main_arg7 main_v7 main_v18 main_v19
-- ==== Pre_parameters_ok.lean ====
abbrev S16x3x256x256 : Shape := ⟨4, ![16, 3, 256, 256]⟩
abbrev S64x3x3x3 : Shape := ⟨4, ![64, 3, 3, 3]⟩
abbrev S64 : Shape := ⟨1, ![64]⟩
abbrev S4x64 : Shape := ⟨2, ![4, 64]⟩
abbrev S64x64x3x3 : Shape := ⟨4, ![64, 64, 3, 3]⟩
abbrev S32x3x3x3 : Shape := ⟨4, ![32, 3, 3, 3]⟩
abbrev S32 : Shape := ⟨1, ![32]⟩
abbrev S4x32 : Shape := ⟨2, ![4, 32]⟩
abbrev S32x32x3x3 : Shape := ⟨4, ![32, 32, 3, 3]⟩
abbrev S1x64 : Shape := ⟨2, ![1, 64]⟩
abbrev S_ : Shape := ⟨0, ![]⟩
abbrev S1x32 : Shape := ⟨2, ![1, 32]⟩
abbrev S192 : Shape := ⟨1, ![192]⟩

class Facts : Prop where
  slices_S4x64_S1x64_0_0 : S4x64.Slices ![0, 0] S1x64
  shapeCasts_S1x64_S64 : S1x64.ShapeCasts S64
  slices_S4x64_S1x64_1_0 : S4x64.Slices ![1, 0] S1x64
  slices_S4x64_S1x64_2_0 : S4x64.Slices ![2, 0] S1x64
  slices_S4x64_S1x64_3_0 : S4x64.Slices ![3, 0] S1x64
  bcast_S_S64 : S_.BroadcastsInDim S64 (![] : Fin 0 → Fin S64.rank)
  slices_S4x32_S1x32_0_0 : S4x32.Slices ![0, 0] S1x32
  shapeCasts_S1x32_S32 : S1x32.ShapeCasts S32
  slices_S4x32_S1x32_1_0 : S4x32.Slices ![1, 0] S1x32
  slices_S4x32_S1x32_2_0 : S4x32.Slices ![2, 0] S1x32
  slices_S4x32_S1x32_3_0 : S4x32.Slices ![3, 0] S1x32
  bcast_S_S32 : S_.BroadcastsInDim S32 (![] : Fin 0 → Fin S32.rank)
  concatenates_S64_S64_S32_S32_S192_d0 : Shape.Concatenates [S64, S64, S32, S32] S192 0

variable [Facts]

def fn_part4 {F : FTy → Type} [FloatOps F] (main_v23 : IVec S64 1) (main_v47 : IVec S64 1) (main_v71 : IVec S32 1) (main_v73 : FVec F S32 .f32) (main_v77 : FVec F S32 .f32) (main_v79 : FVec F S32 .f32) (main_v80 : FVec F S32 .f32) : IVec S192 1 :=
  let main_cst_14 : FVec F S_ .f32 := constant S_ .f32 0x7F800000#32
  let main_v81 : FVec F S32 .f32 := broadcastInDim S32 ![] bcast_S_S32 main_cst_14
  let main_v82 : IVec S32 1 := cmpf .olt main_v80 main_v81
  let main_v83 : FVec F S32 .f32 := Host.absf main_v73
  let main_cst_15 : FVec F S_ .f32 := constant S_ .f32 0x7F800000#32
  let main_v84 : FVec F S32 .f32 := broadcastInDim S32 ![] bcast_S_S32 main_cst_15
  let main_v85 : IVec S32 1 := cmpf .olt main_v83 main_v84
  let main_v86 : IVec S32 1 := andi main_v82 main_v85
  let main_v87 : FVec F S32 .f32 := Host.absf main_v77
  let main_cst_16 : FVec F S_ .f32 := constant S_ .f32 0x7F800000#32
  let main_v88 : FVec F S32 .f32 := broadcastInDim S32 ![] bcast_S_S32 main_cst_16
  let main_v89 : IVec S32 1 := cmpf .olt main_v87 main_v88
  let main_v90 : IVec S32 1 := andi main_v86 main_v89
  let main_cst_17 : FVec F S_ .f32 := constant S_ .f32 0x3727C5AC#32
  let main_v91 : FVec F S32 .f32 := broadcastInDim S32 ![] bcast_S_S32 main_cst_17
  let main_v92 : FVec F S32 .f32 := addf main_v79 main_v91
  let main_cst_18 : FVec F S_ .f32 := constant S_ .f32 0x00000000#32
  let main_v93 : FVec F S32 .f32 := broadcastInDim S32 ![] bcast_S_S32 main_cst_18
  let main_v94 : IVec S32 1 := cmpf .ogt main_v92 main_v93
  let main_v95 : IVec S32 1 := andi main_v90 main_v94
  let main_v96 : IVec S192 1 := concatenate S192 0 [⟨S64, main_v23⟩, ⟨S64, main_v47⟩, ⟨S32, main_v71⟩, ⟨S32, main_v95⟩] concatenates_S64_S64_S32_S32_S192_d0
  main_v96

def fn_part3 {F : FTy → Type} [FloatOps F] (main_arg12 : FVec F S32 .f32) (main_arg13 : FVec F S4x32 .f32) (main_v23 : IVec S64 1) (main_v47 : IVec S64 1) (main_v53 : FVec F S32 .f32) (main_v55 : FVec F S32 .f32) (main_v58 : IVec S32 1) (main_v59 : FVec F S32 .f32) (main_cst_10 : FVec F S_ .f32) : IVec S192 1 :=
  let main_v60 : FVec F S32 .f32 := broadcastInDim S32 ![] bcast_S_S32 main_cst_10
  let main_v61 : IVec S32 1 := cmpf .olt main_v59 main_v60
  let main_v62 : IVec S32 1 := andi main_v58 main_v61
  let main_v63 : FVec F S32 .f32 := Host.absf main_v53
  let main_cst_11 : FVec F S_ .f32 := constant S_ .f32 0x7F800000#32
  let main_v64 : FVec F S32 .f32 := broadcastInDim S32 ![] bcast_S_S32 main_cst_11
  let main_v65 : IVec S32 1 := cmpf .olt main_v63 main_v64
  let main_v66 : IVec S32 1 := andi main_v62 main_v65
  let main_cst_12 : FVec F S_ .f32 := constant S_ .f32 0x3727C5AC#32
  let main_v67 : FVec F S32 .f32 := broadcastInDim S32 ![] bcast_S_S32 main_cst_12
  let main_v68 : FVec F S32 .f32 := addf main_v55 main_v67
  let main_cst_13 : FVec F S_ .f32 := constant S_ .f32 0x00000000#32
  let main_v69 : FVec F S32 .f32 := broadcastInDim S32 ![] bcast_S_S32 main_cst_13
  let main_v70 : IVec S32 1 := cmpf .ogt main_v68 main_v69
  let main_v71 : IVec S32 1 := andi main_v66 main_v70
  let main_v72 : FVec F S1x32 .f32 := (extractStridedSlice S1x32 ![0, 0] · slices_S4x32_S1x32_0_0) main_arg13
  let main_v73 : FVec F S32 .f32 := shapeCast S32 main_v72 shapeCasts_S1x32_S32
  let main_v74 : FVec F S1x32 .f32 := (extractStridedSlice S1x32 ![1, 0] · slices_S4x32_S1x32_1_0) main_arg13
  let main_v75 : FVec F S32 .f32 := shapeCast S32 main_v74 shapeCasts_S1x32_S32
  let main_v76 : FVec F S1x32 .f32 := (extractStridedSlice S1x32 ![2, 0] · slices_S4x32_S1x32_2_0) main_arg13
  let main_v77 : FVec F S32 .f32 := shapeCast S32 main_v76 shapeCasts_S1x32_S32
  let main_v78 : FVec F S1x32 .f32 := (extractStridedSlice S1x32 ![3, 0] · slices_S4x32_S1x32_3_0) main_arg13
  let main_v79 : FVec F S32 .f32 := shapeCast S32 main_v78 shapeCasts_S1x32_S32
  let main_v80 : FVec F S32 .f32 := Host.absf main_arg12
  fn_part4 (F := F) main_v23 main_v47 main_v71 main_v73 main_v77 main_v79 main_v80

def fn_part2 {F : FTy → Type} [FloatOps F] (main_arg9 : FVec F S32 .f32) (main_arg10 : FVec F S4x32 .f32) (main_arg12 : FVec F S32 .f32) (main_arg13 : FVec F S4x32 .f32) (main_v23 : IVec S64 1) (main_v31 : FVec F S64 .f32) (main_v38 : IVec S64 1) (main_v39 : FVec F S64 .f32) (main_cst_6 : FVec F S_ .f32) : IVec S192 1 :=
  let main_v40 : FVec F S64 .f32 := broadcastInDim S64 ![] bcast_S_S64 main_cst_6
  let main_v41 : IVec S64 1 := cmpf .olt main_v39 main_v40
  let main_v42 : IVec S64 1 := andi main_v38 main_v41
  let main_cst_7 : FVec F S_ .f32 := constant S_ .f32 0x3727C5AC#32
  let main_v43 : FVec F S64 .f32 := broadcastInDim S64 ![] bcast_S_S64 main_cst_7
  let main_v44 : FVec F S64 .f32 := addf main_v31 main_v43
  let main_cst_8 : FVec F S_ .f32 := constant S_ .f32 0x00000000#32
  let main_v45 : FVec F S64 .f32 := broadcastInDim S64 ![] bcast_S_S64 main_cst_8
  let main_v46 : IVec S64 1 := cmpf .ogt main_v44 main_v45
  let main_v47 : IVec S64 1 := andi main_v42 main_v46
  let main_v48 : FVec F S1x32 .f32 := (extractStridedSlice S1x32 ![0, 0] · slices_S4x32_S1x32_0_0) main_arg10
  let main_v49 : FVec F S32 .f32 := shapeCast S32 main_v48 shapeCasts_S1x32_S32
  let main_v50 : FVec F S1x32 .f32 := (extractStridedSlice S1x32 ![1, 0] · slices_S4x32_S1x32_1_0) main_arg10
  let main_v51 : FVec F S32 .f32 := shapeCast S32 main_v50 shapeCasts_S1x32_S32
  let main_v52 : FVec F S1x32 .f32 := (extractStridedSlice S1x32 ![2, 0] · slices_S4x32_S1x32_2_0) main_arg10
  let main_v53 : FVec F S32 .f32 := shapeCast S32 main_v52 shapeCasts_S1x32_S32
  let main_v54 : FVec F S1x32 .f32 := (extractStridedSlice S1x32 ![3, 0] · slices_S4x32_S1x32_3_0) main_arg10
  let main_v55 : FVec F S32 .f32 := shapeCast S32 main_v54 shapeCasts_S1x32_S32
  let main_v56 : FVec F S32 .f32 := Host.absf main_arg9
  let main_cst_9 : FVec F S_ .f32 := constant S_ .f32 0x7F800000#32
  let main_v57 : FVec F S32 .f32 := broadcastInDim S32 ![] bcast_S_S32 main_cst_9
  let main_v58 : IVec S32 1 := cmpf .olt main_v56 main_v57
  let main_v59 : FVec F S32 .f32 := Host.absf main_v49
  let main_cst_10 : FVec F S_ .f32 := constant S_ .f32 0x7F800000#32
  fn_part3 (F := F) main_arg12 main_arg13 main_v23 main_v47 main_v53 main_v55 main_v58 main_v59 main_cst_10

def fn_part1 {F : FTy → Type} [FloatOps F] (main_arg6 : FVec F S64 .f32) (main_arg7 : FVec F S4x64 .f32) (main_arg9 : FVec F S32 .f32) (main_arg10 : FVec F S4x32 .f32) (main_arg12 : FVec F S32 .f32) (main_arg13 : FVec F S4x32 .f32) (main_v7 : FVec F S64 .f32) (main_v18 : IVec S64 1) (main_v19 : FVec F S64 .f32) : IVec S192 1 :=
  let main_v20 : FVec F S64 .f32 := addf main_v7 main_v19
  let main_cst_3 : FVec F S_ .f32 := constant S_ .f32 0x00000000#32
  let main_v21 : FVec F S64 .f32 := broadcastInDim S64 ![] bcast_S_S64 main_cst_3
  let main_v22 : IVec S64 1 := cmpf .ogt main_v20 main_v21
  let main_v23 : IVec S64 1 := andi main_v18 main_v22
  let main_v24 : FVec F S1x64 .f32 := (extractStridedSlice S1x64 ![0, 0] · slices_S4x64_S1x64_0_0) main_arg7
  let main_v25 : FVec F S64 .f32 := shapeCast S64 main_v24 shapeCasts_S1x64_S64
  let main_v26 : FVec F S1x64 .f32 := (extractStridedSlice S1x64 ![1, 0] · slices_S4x64_S1x64_1_0) main_arg7
  let main_v27 : FVec F S64 .f32 := shapeCast S64 main_v26 shapeCasts_S1x64_S64
  let main_v28 : FVec F S1x64 .f32 := (extractStridedSlice S1x64 ![2, 0] · slices_S4x64_S1x64_2_0) main_arg7
  let main_v29 : FVec F S64 .f32 := shapeCast S64 main_v28 shapeCasts_S1x64_S64
  let main_v30 : FVec F S1x64 .f32 := (extractStridedSlice S1x64 ![3, 0] · slices_S4x64_S1x64_3_0) main_arg7
  let main_v31 : FVec F S64 .f32 := shapeCast S64 main_v30 shapeCasts_S1x64_S64
  let main_v32 : FVec F S64 .f32 := Host.absf main_arg6
  let main_cst_4 : FVec F S_ .f32 := constant S_ .f32 0x7F800000#32
  let main_v33 : FVec F S64 .f32 := broadcastInDim S64 ![] bcast_S_S64 main_cst_4
  let main_v34 : IVec S64 1 := cmpf .olt main_v32 main_v33
  let main_v35 : FVec F S64 .f32 := Host.absf main_v25
  let main_cst_5 : FVec F S_ .f32 := constant S_ .f32 0x7F800000#32
  let main_v36 : FVec F S64 .f32 := broadcastInDim S64 ![] bcast_S_S64 main_cst_5
  let main_v37 : IVec S64 1 := cmpf .olt main_v35 main_v36
  let main_v38 : IVec S64 1 := andi main_v34 main_v37
  let main_v39 : FVec F S64 .f32 := Host.absf main_v29
  let main_cst_6 : FVec F S_ .f32 := constant S_ .f32 0x7F800000#32
  fn_part2 (F := F) main_arg9 main_arg10 main_arg12 main_arg13 main_v23 main_v31 main_v38 main_v39 main_cst_6

def fn {F : FTy → Type} [FloatOps F] (main_arg0 : FVec F S16x3x256x256 .f32) (main_arg1 : FVec F S16x3x256x256 .f32) (main_arg2 : FVec F S64x3x3x3 .f32) (main_arg3 : FVec F S64 .f32) (main_arg4 : FVec F S4x64 .f32) (main_arg5 : FVec F S64x64x3x3 .f32) (main_arg6 : FVec F S64 .f32) (main_arg7 : FVec F S4x64 .f32) (main_arg8 : FVec F S32x3x3x3 .f32) (main_arg9 : FVec F S32 .f32) (main_arg10 : FVec F S4x32 .f32) (main_arg11 : FVec F S32x32x3x3 .f32) (main_arg12 : FVec F S32 .f32) (main_arg13 : FVec F S4x32 .f32) : IVec S192 1 :=
  let main_v0 : FVec F S1x64 .f32 := (extractStridedSlice S1x64 ![0, 0] · slices_S4x64_S1x64_0_0) main_arg4
  let main_v1 : FVec F S64 .f32 := shapeCast S64 main_v0 shapeCasts_S1x64_S64
  let main_v2 : FVec F S1x64 .f32 := (extractStridedSlice S1x64 ![1, 0] · slices_S4x64_S1x64_1_0) main_arg4
  let main_v3 : FVec F S64 .f32 := shapeCast S64 main_v2 shapeCasts_S1x64_S64
  let main_v4 : FVec F S1x64 .f32 := (extractStridedSlice S1x64 ![2, 0] · slices_S4x64_S1x64_2_0) main_arg4
  let main_v5 : FVec F S64 .f32 := shapeCast S64 main_v4 shapeCasts_S1x64_S64
  let main_v6 : FVec F S1x64 .f32 := (extractStridedSlice S1x64 ![3, 0] · slices_S4x64_S1x64_3_0) main_arg4
  let main_v7 : FVec F S64 .f32 := shapeCast S64 main_v6 shapeCasts_S1x64_S64
  let main_v8 : FVec F S64 .f32 := Host.absf main_arg3
  let main_cst : FVec F S_ .f32 := constant S_ .f32 0x7F800000#32
  let main_v9 : FVec F S64 .f32 := broadcastInDim S64 ![] bcast_S_S64 main_cst
  let main_v10 : IVec S64 1 := cmpf .olt main_v8 main_v9
  let main_v11 : FVec F S64 .f32 := Host.absf main_v1
  let main_cst_0 : FVec F S_ .f32 := constant S_ .f32 0x7F800000#32
  let main_v12 : FVec F S64 .f32 := broadcastInDim S64 ![] bcast_S_S64 main_cst_0
  let main_v13 : IVec S64 1 := cmpf .olt main_v11 main_v12
  let main_v14 : IVec S64 1 := andi main_v10 main_v13
  let main_v15 : FVec F S64 .f32 := Host.absf main_v5
  let main_cst_1 : FVec F S_ .f32 := constant S_ .f32 0x7F800000#32
  let main_v16 : FVec F S64 .f32 := broadcastInDim S64 ![] bcast_S_S64 main_cst_1
  let main_v17 : IVec S64 1 := cmpf .olt main_v15 main_v16
  let main_v18 : IVec S64 1 := andi main_v14 main_v17
  let main_cst_2 : FVec F S_ .f32 := constant S_ .f32 0x3727C5AC#32
  let main_v19 : FVec F S64 .f32 := broadcastInDim S64 ![] bcast_S_S64 main_cst_2
  fn_part1 (F := F) main_arg6 main_arg7 main_arg9 main_arg10 main_arg12 main_arg13 main_v7 main_v18 main_v19
-- ==== Kernel.lean ====
abbrev S16x3x256x256 : Shape := ⟨4, ![16, 3, 256, 256]⟩
abbrev S64x3x3x3 : Shape := ⟨4, ![64, 3, 3, 3]⟩
abbrev S64 : Shape := ⟨1, ![64]⟩
abbrev S4x64 : Shape := ⟨2, ![4, 64]⟩
abbrev S64x64x3x3 : Shape := ⟨4, ![64, 64, 3, 3]⟩
abbrev S32x3x3x3 : Shape := ⟨4, ![32, 3, 3, 3]⟩
abbrev S32 : Shape := ⟨1, ![32]⟩
abbrev S4x32 : Shape := ⟨2, ![4, 32]⟩
abbrev S32x32x3x3 : Shape := ⟨4, ![32, 32, 3, 3]⟩
abbrev S67072 : Shape := ⟨1, ![67072]⟩
abbrev S1x67072 : Shape := ⟨2, ![1, 67072]⟩
abbrev S_ : Shape := ⟨0, ![]⟩
abbrev S9x96x6 : Shape := ⟨3, ![9, 96, 6]⟩
abbrev S3x3x64x3 : Shape := ⟨4, ![3, 3, 64, 3]⟩
abbrev S9x64x3 : Shape := ⟨3, ![9, 64, 3]⟩
abbrev S1 : Shape := ⟨1, ![1]⟩
abbrev S2 : Shape := ⟨1, ![2]⟩
abbrev S3x3x32x3 : Shape := ⟨4, ![3, 3, 32, 3]⟩
abbrev S9x32x3 : Shape := ⟨3, ![9, 32, 3]⟩
abbrev S96x9x6 : Shape := ⟨3, ![96, 9, 6]⟩
abbrev S96x54 : Shape := ⟨2, ![96, 54]⟩
abbrev S9x96x96 : Shape := ⟨3, ![9, 96, 96]⟩
abbrev S3x3x64x64 : Shape := ⟨4, ![3, 3, 64, 64]⟩
abbrev S9x64x64 : Shape := ⟨3, ![9, 64, 64]⟩
abbrev S3x3x32x32 : Shape := ⟨4, ![3, 3, 32, 32]⟩
abbrev S9x32x32 : Shape := ⟨3, ![9, 32, 32]⟩
abbrev S96x9x96 : Shape := ⟨3, ![96, 9, 96]⟩
abbrev S96x864 : Shape := ⟨2, ![96, 864]⟩
abbrev S1x64 : Shape := ⟨2, ![1, 64]⟩
abbrev S1x32 : Shape := ⟨2, ![1, 32]⟩
abbrev S96 : Shape := ⟨1, ![96]⟩
abbrev S96x1 : Shape := ⟨2, ![96, 1]⟩
abbrev S16x6x256x256 : Shape := ⟨4, ![16, 6, 256, 256]⟩
abbrev S16x6x258x258 : Shape := ⟨4, ![16, 6, 258, 258]⟩
abbrev S16x6x66564 : Shape := ⟨3, ![16, 6, 66564]⟩
abbrev S16x6x67968 : Shape := ⟨3, ![16, 6, 67968]⟩
abbrev S16x96x1 : Shape := ⟨3, ![16, 96, 1]⟩
abbrev S1x6x67968 : Shape := ⟨3, ![1, 6, 67968]⟩
abbrev S1x96x1 : Shape := ⟨3, ![1, 96, 1]⟩
abbrev S96x67968 : Shape := ⟨2, ![96, 67968]⟩
abbrev S96x512 : Shape := ⟨2, ![96, 512]⟩
abbrev S96x384 : Shape := ⟨2, ![96, 384]⟩
abbrev S1x6x1280 : Shape := ⟨3, ![1, 6, 1280]⟩
abbrev S6x1280 : Shape := ⟨2, ![6, 1280]⟩
abbrev S6x512 : Shape := ⟨2, ![6, 512]⟩
abbrev S54x512 : Shape := ⟨2, ![54, 512]⟩
abbrev S1x512 : Shape := ⟨2, ![1, 512]⟩
abbrev S96x1280 : Shape := ⟨2, ![96, 1280]⟩
abbrev S864x512 : Shape := ⟨2, ![864, 512]⟩

abbrev nBuf : Space → Nat
  | .hbm => 137
  | .vmem => 12
  | .smem => 0
  | _ => 0

abbrev hbmTy0_0 (i : Nat) : BufTy := match i % 128 with
  | 0 => ⟨S16x3x256x256, .f32⟩
  | 1 => ⟨S16x3x256x256, .f32⟩
  | 2 => ⟨S64x3x3x3, .f32⟩
  | 3 => ⟨S64, .f32⟩
  | 4 => ⟨S4x64, .f32⟩
  | 5 => ⟨S64x64x3x3, .f32⟩
  | 6 => ⟨S64, .f32⟩
  | 7 => ⟨S4x64, .f32⟩
  | 8 => ⟨S32x3x3x3, .f32⟩
  | 9 => ⟨S32, .f32⟩
  | 10 => ⟨S4x32, .f32⟩
  | 11 => ⟨S32x32x3x3, .f32⟩
  | 12 => ⟨S32, .f32⟩
  | 13 => ⟨S4x32, .f32⟩
  | 14 => ⟨S67072, .f32⟩
  | 15 => ⟨S1x67072, .f32⟩
  | 16 => ⟨S_, .f32⟩
  | 17 => ⟨S9x96x6, .f32⟩
  | 18 => ⟨S3x3x64x3, .f32⟩
  | 19 => ⟨S9x64x3, .f32⟩
  | 20 => ⟨S_, .i32⟩
  | 21 => ⟨S1, .i32⟩
  | 22 => ⟨S_, .i32⟩
  | 23 => ⟨S1, .i32⟩
  | 24 => ⟨S2, .i32⟩
  | 25 => ⟨S9x96x6, .f32⟩
  | 26 => ⟨S3x3x32x3, .f32⟩
  | 27 => ⟨S9x32x3, .f32⟩
  | 28 => ⟨S_, .i32⟩
  | 29 => ⟨S1, .i32⟩
  | 30 => ⟨S_, .i32⟩
  | 31 => ⟨S1, .i32⟩
  | 32 => ⟨S2, .i32⟩
  | 33 => ⟨S9x96x6, .f32⟩
  | 34 => ⟨S96x9x6, .f32⟩
  | 35 => ⟨S96x54, .f32⟩
  | 36 => ⟨S_, .f32⟩
  | 37 => ⟨S9x96x96, .f32⟩
  | 38 => ⟨S3x3x64x64, .f32⟩
  | 39 => ⟨S9x64x64, .f32⟩
  | 40 => ⟨S_, .i32⟩
  | 41 => ⟨S1, .i32⟩
  | 42 => ⟨S_, .i32⟩
  | 43 => ⟨S1, .i32⟩
  | 44 => ⟨S2, .i32⟩
  | 45 => ⟨S9x96x96, .f32⟩
  | 46 => ⟨S3x3x32x32, .f32⟩
  | 47 => ⟨S9x32x32, .f32⟩
  | 48 => ⟨S_, .i32⟩
  | 49 => ⟨S1, .i32⟩
  | 50 => ⟨S_, .i32⟩
  | 51 => ⟨S1, .i32⟩
  | 52 => ⟨S2, .i32⟩
  | 53 => ⟨S9x96x96, .f32⟩
  | 54 => ⟨S96x9x96, .f32⟩
  | 55 => ⟨S96x864, .f32⟩
  | 56 => ⟨S1x64, .f32⟩
  | 57 => ⟨S64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S64, .f32⟩
  | 64 => ⟨S_, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S64, .f32⟩
  | 72 => ⟨S1x32, .f32⟩
  | 73 => ⟨S32, .f32⟩
  | 74 => ⟨S1x32, .f32⟩
  | 75 => ⟨S32, .f32⟩
  | 76 => ⟨S1x32, .f32⟩
  | 77 => ⟨S32, .f32⟩
  | 78 => ⟨S1x32, .f32⟩
  | 79 => ⟨S32, .f32⟩
  | 80 => ⟨S_, .f32⟩
  | 81 => ⟨S32, .f32⟩
  | 82 => ⟨S32, .f32⟩
  | 83 => ⟨S32, .f32⟩
  | 84 => ⟨S32, .f32⟩
  | 85 => ⟨S32, .f32⟩
  | 86 => ⟨S32, .f32⟩
  | 87 => ⟨S32, .f32⟩
  | 88 => ⟨S96, .f32⟩
  | 89 => ⟨S96x1, .f32⟩
  | 90 => ⟨S96, .f32⟩
  | 91 => ⟨S96x1, .f32⟩
  | 92 => ⟨S1x64, .f32⟩
  | 93 => ⟨S64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S64, .f32⟩
  | 100 => ⟨S_, .f32⟩
  | 101 => ⟨S64, .f32⟩
  | 102 => ⟨S64, .f32⟩
  | 103 => ⟨S64, .f32⟩
  | 104 => ⟨S64, .f32⟩
  | 105 => ⟨S64, .f32⟩
  | 106 => ⟨S64, .f32⟩
  | 107 => ⟨S64, .f32⟩
  | 108 => ⟨S1x32, .f32⟩
  | 109 => ⟨S32, .f32⟩
  | 110 => ⟨S1x32, .f32⟩
  | 111 => ⟨S32, .f32⟩
  | 112 => ⟨S1x32, .f32⟩
  | 113 => ⟨S32, .f32⟩
  | 114 => ⟨S1x32, .f32⟩
  | 115 => ⟨S32, .f32⟩
  | 116 => ⟨S_, .f32⟩
  | 117 => ⟨S32, .f32⟩
  | 118 => ⟨S32, .f32⟩
  | 119 => ⟨S32, .f32⟩
  | 120 => ⟨S32, .f32⟩
  | 121 => ⟨S32, .f32⟩
  | 122 => ⟨S32, .f32⟩
  | 123 => ⟨S32, .f32⟩
  | 124 => ⟨S96, .f32⟩
  | 125 => ⟨S96x1, .f32⟩
  | 126 => ⟨S96, .f32⟩
  | 127 => ⟨S96x1, .f32⟩
  | _ => ⟨S16x3x256x256, .f32⟩

abbrev hbmTy0_1 (i : Nat) : BufTy := match i % 128 with
  | 0 => ⟨S16x6x256x256, .f32⟩
  | 1 => ⟨S_, .i32⟩
  | 2 => ⟨S_, .f32⟩
  | 3 => ⟨S16x6x258x258, .f32⟩
  | 4 => ⟨S16x6x66564, .f32⟩
  | 5 => ⟨S_, .i32⟩
  | 6 => ⟨S_, .f32⟩
  | 7 => ⟨S16x6x67968, .f32⟩
  | 8 => ⟨S16x96x1, .f32⟩
  | _ => ⟨S16x3x256x256, .f32⟩

abbrev hbmTy (i : Nat) : BufTy := match i / 128 with
  | 0 => hbmTy0_0 i
  | 1 => hbmTy0_1 i
  | _ => ⟨S16x3x256x256, .f32⟩

abbrev bufTy : (tb : Table) → Fin (tcTables nBuf tb) → BufTy
  | .hbm, ⟨i, _⟩ => hbmTy i
  | .local _ .vmem, ⟨0, _⟩ => ⟨S1x6x67968, .f32⟩
  | .local _ .vmem, ⟨1, _⟩ => ⟨S1x6x67968, .f32⟩
  | .local _ .vmem, ⟨2, _⟩ => ⟨S96x54, .f32⟩
  | .local _ .vmem, ⟨3, _⟩ => ⟨S96x864, .f32⟩
  | .local _ .vmem, ⟨4, _⟩ => ⟨S96x1, .f32⟩
  | .local _ .vmem, ⟨5, _⟩ => ⟨S96x1, .f32⟩
  | .local _ .vmem, ⟨6, _⟩ => ⟨S96x1, .f32⟩
  | .local _ .vmem, ⟨7, _⟩ => ⟨S96x1, .f32⟩
  | .local _ .vmem, ⟨8, _⟩ => ⟨S1x67072, .f32⟩
  | .local _ .vmem, ⟨9, _⟩ => ⟨S1x96x1, .f32⟩
  | .local _ .vmem, ⟨10, _⟩ => ⟨S1x96x1, .f32⟩
  | .local _ .vmem, ⟨11, _⟩ => ⟨S96x67968, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_c_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_c_8 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_11 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_13 : Ref sig .tc := ⟨.hbm, 129, rfl⟩
abbrev main_call0_v0 : Ref sig .tc := ⟨.hbm, 130, rfl⟩
abbrev main_v100 : Ref sig .tc := ⟨.hbm, 131, rfl⟩
abbrev main_v101 : Ref sig .tc := ⟨.hbm, 132, rfl⟩
abbrev main_c_14 : Ref sig .tc := ⟨.hbm, 133, rfl⟩
abbrev main_call1_v0 : Ref sig .tc := ⟨.hbm, 134, rfl⟩
abbrev main_v102 : Ref sig .tc := ⟨.hbm, 135, rfl⟩
abbrev main_v103 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c131_i32 : BitVec 32 := 131#32
  let v20 : BitVec 32 := Scalar.addi c0_i32 c131_i32
  let c1_i32 : BitVec 32 := 1#32
  ⟨c0_i32, v20, c1_i32⟩
def k0_mult1 (k0_t1 : Fin k0_t1_loop.trips) : BitVec 32 :=
  let c128_i32 : BitVec 32 := 128#32
  let c0_i32 : BitVec 32 := 0#32
  let c1_i32 : BitVec 32 := 1#32
  let arg12 : BitVec 32 := Scf.iv c0_i32 c1_i32 k0_t1
  let c512_i32 : BitVec 32 := 512#32
  let v31 : BitVec 32 := Scalar.muli arg12 c512_i32
  let v32 : BitVec 32 := Scalar.addi c128_i32 v31
  v32
def k0_off1 (k0_t1 : Fin k0_t1_loop.trips) : Fin 3 → Nat :=
  let c0_26 : Index := 0#32
  let c0_27 : Index := 0#32
  let c128_i32 : BitVec 32 := 128#32
  let c0_i32 : BitVec 32 := 0#32
  let c1_i32 : BitVec 32 := 1#32
  let arg12 : BitVec 32 := Scf.iv c0_i32 c1_i32 k0_t1
  let c512_i32 : BitVec 32 := 512#32
  let v31 : BitVec 32 := Scalar.muli arg12 c512_i32
  let v32 : BitVec 32 := Scalar.addi c128_i32 v31
  let v33 : BitVec 32 := v32
  let v34 : Index := Scalar.indexCast v33
  ![0, 0, v34.toNat]
def k0_off2 (k0_t1 : Fin k0_t1_loop.trips) : Fin 2 → Nat :=
  let c0_31 : Index := 0#32
  let c0_i32 : BitVec 32 := 0#32
  let c1_i32 : BitVec 32 := 1#32
  let arg12 : BitVec 32 := Scf.iv c0_i32 c1_i32 k0_t1
  let c512_i32_30 : BitVec 32 := 512#32
  let v54 : BitVec 32 := Scalar.muli arg12 c512_i32_30
  let v55 : Index := Scalar.indexCast v54
  ![0, v55.toNat]
def k0_mult2 (k0_t1 : Fin k0_t1_loop.trips) : BitVec 32 :=
  let c512_i32_33 : BitVec 32 := 512#32
  let c0_i32 : BitVec 32 := 0#32
  let c1_i32 : BitVec 32 := 1#32
  let arg12 : BitVec 32 := Scf.iv c0_i32 c1_i32 k0_t1
  let c512_i32_32 : BitVec 32 := 512#32
  let v59 : BitVec 32 := Scalar.muli arg12 c512_i32_32
  let v60 : BitVec 32 := Scalar.addi c512_i32_33 v59
  v60
def k0_off3 (k0_t1 : Fin k0_t1_loop.trips) : Fin 2 → Nat :=
  let c0_34 : Index := 0#32
  let c512_i32_33 : BitVec 32 := 512#32
  let c0_i32 : BitVec 32 := 0#32
  let c1_i32 : BitVec 32 := 1#32
  let arg12 : BitVec 32 := Scf.iv c0_i32 c1_i32 k0_t1
  let c512_i32_32 : BitVec 32 := 512#32
  let v59 : BitVec 32 := Scalar.muli arg12 c512_i32_32
  let v60 : BitVec 32 := Scalar.addi c512_i32_33 v59
  let v61 : BitVec 32 := v60
  let v62 : Index := Scalar.indexCast v61
  ![0, v62.toNat]
@[reducible] def k0_t2_loop : Scf.Loop 32 :=
  let c0_i32_17 : BitVec 32 := 0#32
  let c131_i32_18 : BitVec 32 := 131#32
  let v22 : BitVec 32 := Scalar.addi c0_i32_17 c131_i32_18
  let c1_i32_19 : BitVec 32 := 1#32
  ⟨c0_i32_17, v22, c1_i32_19⟩
def k0_mult3 (k0_t2 : Fin k0_t2_loop.trips) : BitVec 32 :=
  let c128_i32 : BitVec 32 := 128#32
  let c0_i32_17 : BitVec 32 := 0#32
  let c1_i32_19 : BitVec 32 := 1#32
  let arg12 : BitVec 32 := Scf.iv c0_i32_17 c1_i32_19 k0_t2
  let c512_i32 : BitVec 32 := 512#32
  let v31 : BitVec 32 := Scalar.muli arg12 c512_i32
  let v32 : BitVec 32 := Scalar.addi c128_i32 v31
  v32
def k0_off4 (k0_t2 : Fin k0_t2_loop.trips) : Fin 2 → Nat :=
  let c0_26 : Index := 0#32
  let c128_i32 : BitVec 32 := 128#32
  let c0_i32_17 : BitVec 32 := 0#32
  let c1_i32_19 : BitVec 32 := 1#32
  let arg12 : BitVec 32 := Scf.iv c0_i32_17 c1_i32_19 k0_t2
  let c512_i32 : BitVec 32 := 512#32
  let v31 : BitVec 32 := Scalar.muli arg12 c512_i32
  let v32 : BitVec 32 := Scalar.addi c128_i32 v31
  let v33 : BitVec 32 := v32
  let v34 : Index := Scalar.indexCast v33
  ![0, v34.toNat]
def k0_off5 (k0_t2 : Fin k0_t2_loop.trips) : Fin 2 → Nat :=
  let c0_30 : Index := 0#32
  let c0_i32_17 : BitVec 32 := 0#32
  let c1_i32_19 : BitVec 32 := 1#32
  let arg12 : BitVec 32 := Scf.iv c0_i32_17 c1_i32_19 k0_t2
  let c512_i32_29 : BitVec 32 := 512#32
  let v53 : BitVec 32 := Scalar.muli arg12 c512_i32_29
  let v54 : Index := Scalar.indexCast v53
  ![0, v54.toNat]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x6x67968 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x67072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x96x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x3x256x256 : Shape := ⟨4, ![16, 3, 256, 256]⟩
abbrev S64x3x3x3 : Shape := ⟨4, ![64, 3, 3, 3]⟩
abbrev S64 : Shape := ⟨1, ![64]⟩
abbrev S4x64 : Shape := ⟨2, ![4, 64]⟩
abbrev S64x64x3x3 : Shape := ⟨4, ![64, 64, 3, 3]⟩
abbrev S32x3x3x3 : Shape := ⟨4, ![32, 3, 3, 3]⟩
abbrev S32 : Shape := ⟨1, ![32]⟩
abbrev S4x32 : Shape := ⟨2, ![4, 32]⟩
abbrev S32x32x3x3 : Shape := ⟨4, ![32, 32, 3, 3]⟩
abbrev S_ : Shape := ⟨0, ![]⟩
abbrev S16x3x258x258 : Shape := ⟨4, ![16, 3, 258, 258]⟩
abbrev S64x3x1x1 : Shape := ⟨4, ![64, 3, 1, 1]⟩
abbrev S64x3 : Shape := ⟨2, ![64, 3]⟩
abbrev S16x256x256x64 : Shape := ⟨4, ![16, 256, 256, 64]⟩
abbrev S16x64x256x256 : Shape := ⟨4, ![16, 64, 256, 256]⟩
abbrev S1x64x1x1 : Shape := ⟨4, ![1, 64, 1, 1]⟩
abbrev S1x64 : Shape := ⟨2, ![1, 64]⟩
abbrev S16x64x258x258 : Shape := ⟨4, ![16, 64, 258, 258]⟩
abbrev S64x64x1x1 : Shape := ⟨4, ![64, 64, 1, 1]⟩
abbrev S64x64 : Shape := ⟨2, ![64, 64]⟩
abbrev S16x64 : Shape := ⟨2, ![16, 64]⟩
abbrev S32x3x1x1 : Shape := ⟨4, ![32, 3, 1, 1]⟩
abbrev S32x3 : Shape := ⟨2, ![32, 3]⟩
abbrev S16x256x256x32 : Shape := ⟨4, ![16, 256, 256, 32]⟩
abbrev S16x32x256x256 : Shape := ⟨4, ![16, 32, 256, 256]⟩
abbrev S1x32x1x1 : Shape := ⟨4, ![1, 32, 1, 1]⟩
abbrev S1x32 : Shape := ⟨2, ![1, 32]⟩
abbrev S16x32x258x258 : Shape := ⟨4, ![16, 32, 258, 258]⟩
abbrev S32x32x1x1 : Shape := ⟨4, ![32, 32, 1, 1]⟩
abbrev S32x32 : Shape := ⟨2, ![32, 32]⟩
abbrev S16x32 : Shape := ⟨2, ![16, 32]⟩
abbrev S16x96 : Shape := ⟨2, ![16, 96]⟩
abbrev S16x96x1 : Shape := ⟨3, ![16, 96, 1]⟩

abbrev nBuf : Space → Nat
  | .hbm => 366
  | .vmem => 0
  | .smem => 0
  | _ => 0

abbrev hbmTy0_0 (i : Nat) : BufTy := match i % 128 with
  | 0 => ⟨S16x3x256x256, .f32⟩
  | 1 => ⟨S16x3x256x256, .f32⟩
  | 2 => ⟨S64x3x3x3, .f32⟩
  | 3 => ⟨S64, .f32⟩
  | 4 => ⟨S4x64, .f32⟩
  | 5 => ⟨S64x64x3x3, .f32⟩
  | 6 => ⟨S64, .f32⟩
  | 7 => ⟨S4x64, .f32⟩
  | 8 => ⟨S32x3x3x3, .f32⟩
  | 9 => ⟨S32, .f32⟩
  | 10 => ⟨S4x32, .f32⟩
  | 11 => ⟨S32x32x3x3, .f32⟩
  | 12 => ⟨S32, .f32⟩
  | 13 => ⟨S4x32, .f32⟩
  | 14 => ⟨S_, .i32⟩
  | 15 => ⟨S_, .f32⟩
  | 16 => ⟨S16x3x258x258, .f32⟩
  | 17 => ⟨S64x3x1x1, .f32⟩
  | 18 => ⟨S64x3, .f32⟩
  | 19 => ⟨S16x3x256x256, .f32⟩
  | 20 => ⟨S16x256x256x64, .f32⟩
  | 21 => ⟨S16x64x256x256, .f32⟩
  | 22 => ⟨S64x3x1x1, .f32⟩
  | 23 => ⟨S64x3, .f32⟩
  | 24 => ⟨S16x3x256x256, .f32⟩
  | 25 => ⟨S16x256x256x64, .f32⟩
  | 26 => ⟨S16x64x256x256, .f32⟩
  | 27 => ⟨S64x3x1x1, .f32⟩
  | 28 => ⟨S64x3, .f32⟩
  | 29 => ⟨S16x3x256x256, .f32⟩
  | 30 => ⟨S16x256x256x64, .f32⟩
  | 31 => ⟨S16x64x256x256, .f32⟩
  | 32 => ⟨S64x3x1x1, .f32⟩
  | 33 => ⟨S64x3, .f32⟩
  | 34 => ⟨S16x3x256x256, .f32⟩
  | 35 => ⟨S16x256x256x64, .f32⟩
  | 36 => ⟨S16x64x256x256, .f32⟩
  | 37 => ⟨S64x3x1x1, .f32⟩
  | 38 => ⟨S64x3, .f32⟩
  | 39 => ⟨S16x3x256x256, .f32⟩
  | 40 => ⟨S16x256x256x64, .f32⟩
  | 41 => ⟨S16x64x256x256, .f32⟩
  | 42 => ⟨S64x3x1x1, .f32⟩
  | 43 => ⟨S64x3, .f32⟩
  | 44 => ⟨S16x3x256x256, .f32⟩
  | 45 => ⟨S16x256x256x64, .f32⟩
  | 46 => ⟨S16x64x256x256, .f32⟩
  | 47 => ⟨S64x3x1x1, .f32⟩
  | 48 => ⟨S64x3, .f32⟩
  | 49 => ⟨S16x3x256x256, .f32⟩
  | 50 => ⟨S16x256x256x64, .f32⟩
  | 51 => ⟨S16x64x256x256, .f32⟩
  | 52 => ⟨S64x3x1x1, .f32⟩
  | 53 => ⟨S64x3, .f32⟩
  | 54 => ⟨S16x3x256x256, .f32⟩
  | 55 => ⟨S16x256x256x64, .f32⟩
  | 56 => ⟨S16x64x256x256, .f32⟩
  | 57 => ⟨S64x3x1x1, .f32⟩
  | 58 => ⟨S64x3, .f32⟩
  | 59 => ⟨S16x3x256x256, .f32⟩
  | 60 => ⟨S16x256x256x64, .f32⟩
  | 61 => ⟨S16x64x256x256, .f32⟩
  | 62 => ⟨S16x64x256x256, .f32⟩
  | 63 => ⟨S16x64x256x256, .f32⟩
  | 64 => ⟨S16x64x256x256, .f32⟩
  | 65 => ⟨S16x64x256x256, .f32⟩
  | 66 => ⟨S16x64x256x256, .f32⟩
  | 67 => ⟨S16x64x256x256, .f32⟩
  | 68 => ⟨S16x64x256x256, .f32⟩
  | 69 => ⟨S16x64x256x256, .f32⟩
  | 70 => ⟨S1x64x1x1, .f32⟩
  | 71 => ⟨S16x64x256x256, .f32⟩
  | 72 => ⟨S16x64x256x256, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64x1x1, .f32⟩
  | 82 => ⟨S16x64x256x256, .f32⟩
  | 83 => ⟨S16x64x256x256, .f32⟩
  | 84 => ⟨S1x64x1x1, .f32⟩
  | 85 => ⟨S1x64x1x1, .f32⟩
  | 86 => ⟨S_, .f32⟩
  | 87 => ⟨S1x64x1x1, .f32⟩
  | 88 => ⟨S1x64x1x1, .f32⟩
  | 89 => ⟨S1x64x1x1, .f32⟩
  | 90 => ⟨S1x64x1x1, .f32⟩
  | 91 => ⟨S16x64x256x256, .f32⟩
  | 92 => ⟨S16x64x256x256, .f32⟩
  | 93 => ⟨S1x64x1x1, .f32⟩
  | 94 => ⟨S16x64x256x256, .f32⟩
  | 95 => ⟨S16x64x256x256, .f32⟩
  | 96 => ⟨S_, .f32⟩
  | 97 => ⟨S16x64x256x256, .f32⟩
  | 98 => ⟨S16x64x256x256, .f32⟩
  | 99 => ⟨S_, .i32⟩
  | 100 => ⟨S_, .f32⟩
  | 101 => ⟨S16x64x258x258, .f32⟩
  | 102 => ⟨S64x64x1x1, .f32⟩
  | 103 => ⟨S64x64, .f32⟩
  | 104 => ⟨S16x64x256x256, .f32⟩
  | 105 => ⟨S16x256x256x64, .f32⟩
  | 106 => ⟨S16x64x256x256, .f32⟩
  | 107 => ⟨S64x64x1x1, .f32⟩
  | 108 => ⟨S64x64, .f32⟩
  | 109 => ⟨S16x64x256x256, .f32⟩
  | 110 => ⟨S16x256x256x64, .f32⟩
  | 111 => ⟨S16x64x256x256, .f32⟩
  | 112 => ⟨S64x64x1x1, .f32⟩
  | 113 => ⟨S64x64, .f32⟩
  | 114 => ⟨S16x64x256x256, .f32⟩
  | 115 => ⟨S16x256x256x64, .f32⟩
  | 116 => ⟨S16x64x256x256, .f32⟩
  | 117 => ⟨S64x64x1x1, .f32⟩
  | 118 => ⟨S64x64, .f32⟩
  | 119 => ⟨S16x64x256x256, .f32⟩
  | 120 => ⟨S16x256x256x64, .f32⟩
  | 121 => ⟨S16x64x256x256, .f32⟩
  | 122 => ⟨S64x64x1x1, .f32⟩
  | 123 => ⟨S64x64, .f32⟩
  | 124 => ⟨S16x64x256x256, .f32⟩
  | 125 => ⟨S16x256x256x64, .f32⟩
  | 126 => ⟨S16x64x256x256, .f32⟩
  | 127 => ⟨S64x64x1x1, .f32⟩
  | _ => ⟨S16x3x256x256, .f32⟩

abbrev hbmTy0_1 (i : Nat) : BufTy := match i % 128 with
  | 0 => ⟨S64x64, .f32⟩
  | 1 => ⟨S16x64x256x256, .f32⟩
  | 2 => ⟨S16x256x256x64, .f32⟩
  | 3 => ⟨S16x64x256x256, .f32⟩
  | 4 => ⟨S64x64x1x1, .f32⟩
  | 5 => ⟨S64x64, .f32⟩
  | 6 => ⟨S16x64x256x256, .f32⟩
  | 7 => ⟨S16x256x256x64, .f32⟩
  | 8 => ⟨S16x64x256x256, .f32⟩
  | 9 => ⟨S64x64x1x1, .f32⟩
  | 10 => ⟨S64x64, .f32⟩
  | 11 => ⟨S16x64x256x256, .f32⟩
  | 12 => ⟨S16x256x256x64, .f32⟩
  | 13 => ⟨S16x64x256x256, .f32⟩
  | 14 => ⟨S64x64x1x1, .f32⟩
  | 15 => ⟨S64x64, .f32⟩
  | 16 => ⟨S16x64x256x256, .f32⟩
  | 17 => ⟨S16x256x256x64, .f32⟩
  | 18 => ⟨S16x64x256x256, .f32⟩
  | 19 => ⟨S16x64x256x256, .f32⟩
  | 20 => ⟨S16x64x256x256, .f32⟩
  | 21 => ⟨S16x64x256x256, .f32⟩
  | 22 => ⟨S16x64x256x256, .f32⟩
  | 23 => ⟨S16x64x256x256, .f32⟩
  | 24 => ⟨S16x64x256x256, .f32⟩
  | 25 => ⟨S16x64x256x256, .f32⟩
  | 26 => ⟨S16x64x256x256, .f32⟩
  | 27 => ⟨S1x64x1x1, .f32⟩
  | 28 => ⟨S16x64x256x256, .f32⟩
  | 29 => ⟨S16x64x256x256, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S64, .f32⟩
  | 36 => ⟨S1x64, .f32⟩
  | 37 => ⟨S64, .f32⟩
  | 38 => ⟨S1x64x1x1, .f32⟩
  | 39 => ⟨S16x64x256x256, .f32⟩
  | 40 => ⟨S16x64x256x256, .f32⟩
  | 41 => ⟨S1x64x1x1, .f32⟩
  | 42 => ⟨S1x64x1x1, .f32⟩
  | 43 => ⟨S_, .f32⟩
  | 44 => ⟨S1x64x1x1, .f32⟩
  | 45 => ⟨S1x64x1x1, .f32⟩
  | 46 => ⟨S1x64x1x1, .f32⟩
  | 47 => ⟨S1x64x1x1, .f32⟩
  | 48 => ⟨S16x64x256x256, .f32⟩
  | 49 => ⟨S16x64x256x256, .f32⟩
  | 50 => ⟨S1x64x1x1, .f32⟩
  | 51 => ⟨S16x64x256x256, .f32⟩
  | 52 => ⟨S16x64x256x256, .f32⟩
  | 53 => ⟨S_, .f32⟩
  | 54 => ⟨S16x64x256x256, .f32⟩
  | 55 => ⟨S16x64x256x256, .f32⟩
  | 56 => ⟨S_, .f32⟩
  | 57 => ⟨S16x64, .f32⟩
  | 58 => ⟨S_, .f32⟩
  | 59 => ⟨S16x64, .f32⟩
  | 60 => ⟨S16x64, .f32⟩
  | 61 => ⟨S_, .i32⟩
  | 62 => ⟨S_, .f32⟩
  | 63 => ⟨S16x3x258x258, .f32⟩
  | 64 => ⟨S32x3x1x1, .f32⟩
  | 65 => ⟨S32x3, .f32⟩
  | 66 => ⟨S16x3x256x256, .f32⟩
  | 67 => ⟨S16x256x256x32, .f32⟩
  | 68 => ⟨S16x32x256x256, .f32⟩
  | 69 => ⟨S32x3x1x1, .f32⟩
  | 70 => ⟨S32x3, .f32⟩
  | 71 => ⟨S16x3x256x256, .f32⟩
  | 72 => ⟨S16x256x256x32, .f32⟩
  | 73 => ⟨S16x32x256x256, .f32⟩
  | 74 => ⟨S32x3x1x1, .f32⟩
  | 75 => ⟨S32x3, .f32⟩
  | 76 => ⟨S16x3x256x256, .f32⟩
  | 77 => ⟨S16x256x256x32, .f32⟩
  | 78 => ⟨S16x32x256x256, .f32⟩
  | 79 => ⟨S32x3x1x1, .f32⟩
  | 80 => ⟨S32x3, .f32⟩
  | 81 => ⟨S16x3x256x256, .f32⟩
  | 82 => ⟨S16x256x256x32, .f32⟩
  | 83 => ⟨S16x32x256x256, .f32⟩
  | 84 => ⟨S32x3x1x1, .f32⟩
  | 85 => ⟨S32x3, .f32⟩
  | 86 => ⟨S16x3x256x256, .f32⟩
  | 87 => ⟨S16x256x256x32, .f32⟩
  | 88 => ⟨S16x32x256x256, .f32⟩
  | 89 => ⟨S32x3x1x1, .f32⟩
  | 90 => ⟨S32x3, .f32⟩
  | 91 => ⟨S16x3x256x256, .f32⟩
  | 92 => ⟨S16x256x256x32, .f32⟩
  | 93 => ⟨S16x32x256x256, .f32⟩
  | 94 => ⟨S32x3x1x1, .f32⟩
  | 95 => ⟨S32x3, .f32⟩
  | 96 => ⟨S16x3x256x256, .f32⟩
  | 97 => ⟨S16x256x256x32, .f32⟩
  | 98 => ⟨S16x32x256x256, .f32⟩
  | 99 => ⟨S32x3x1x1, .f32⟩
  | 100 => ⟨S32x3, .f32⟩
  | 101 => ⟨S16x3x256x256, .f32⟩
  | 102 => ⟨S16x256x256x32, .f32⟩
  | 103 => ⟨S16x32x256x256, .f32⟩
  | 104 => ⟨S32x3x1x1, .f32⟩
  | 105 => ⟨S32x3, .f32⟩
  | 106 => ⟨S16x3x256x256, .f32⟩
  | 107 => ⟨S16x256x256x32, .f32⟩
  | 108 => ⟨S16x32x256x256, .f32⟩
  | 109 => ⟨S16x32x256x256, .f32⟩
  | 110 => ⟨S16x32x256x256, .f32⟩
  | 111 => ⟨S16x32x256x256, .f32⟩
  | 112 => ⟨S16x32x256x256, .f32⟩
  | 113 => ⟨S16x32x256x256, .f32⟩
  | 114 => ⟨S16x32x256x256, .f32⟩
  | 115 => ⟨S16x32x256x256, .f32⟩
  | 116 => ⟨S16x32x256x256, .f32⟩
  | 117 => ⟨S1x32x1x1, .f32⟩
  | 118 => ⟨S16x32x256x256, .f32⟩
  | 119 => ⟨S16x32x256x256, .f32⟩
  | 120 => ⟨S1x32, .f32⟩
  | 121 => ⟨S32, .f32⟩
  | 122 => ⟨S1x32, .f32⟩
  | 123 => ⟨S32, .f32⟩
  | 124 => ⟨S1x32, .f32⟩
  | 125 => ⟨S32, .f32⟩
  | 126 => ⟨S1x32, .f32⟩
  | 127 => ⟨S32, .f32⟩
  | _ => ⟨S16x3x256x256, .f32⟩

abbrev hbmTy0_2 (i : Nat) : BufTy := match i % 128 with
  | 0 => ⟨S1x32x1x1, .f32⟩
  | 1 => ⟨S16x32x256x256, .f32⟩
  | 2 => ⟨S16x32x256x256, .f32⟩
  | 3 => ⟨S1x32x1x1, .f32⟩
  | 4 => ⟨S1x32x1x1, .f32⟩
  | 5 => ⟨S_, .f32⟩
  | 6 => ⟨S1x32x1x1, .f32⟩
  | 7 => ⟨S1x32x1x1, .f32⟩
  | 8 => ⟨S1x32x1x1, .f32⟩
  | 9 => ⟨S1x32x1x1, .f32⟩
  | 10 => ⟨S16x32x256x256, .f32⟩
  | 11 => ⟨S16x32x256x256, .f32⟩
  | 12 => ⟨S1x32x1x1, .f32⟩
  | 13 => ⟨S16x32x256x256, .f32⟩
  | 14 => ⟨S16x32x256x256, .f32⟩
  | 15 => ⟨S_, .f32⟩
  | 16 => ⟨S16x32x256x256, .f32⟩
  | 17 => ⟨S16x32x256x256, .f32⟩
  | 18 => ⟨S_, .i32⟩
  | 19 => ⟨S_, .f32⟩
  | 20 => ⟨S16x32x258x258, .f32⟩
  | 21 => ⟨S32x32x1x1, .f32⟩
  | 22 => ⟨S32x32, .f32⟩
  | 23 => ⟨S16x32x256x256, .f32⟩
  | 24 => ⟨S16x256x256x32, .f32⟩
  | 25 => ⟨S16x32x256x256, .f32⟩
  | 26 => ⟨S32x32x1x1, .f32⟩
  | 27 => ⟨S32x32, .f32⟩
  | 28 => ⟨S16x32x256x256, .f32⟩
  | 29 => ⟨S16x256x256x32, .f32⟩
  | 30 => ⟨S16x32x256x256, .f32⟩
  | 31 => ⟨S32x32x1x1, .f32⟩
  | 32 => ⟨S32x32, .f32⟩
  | 33 => ⟨S16x32x256x256, .f32⟩
  | 34 => ⟨S16x256x256x32, .f32⟩
  | 35 => ⟨S16x32x256x256, .f32⟩
  | 36 => ⟨S32x32x1x1, .f32⟩
  | 37 => ⟨S32x32, .f32⟩
  | 38 => ⟨S16x32x256x256, .f32⟩
  | 39 => ⟨S16x256x256x32, .f32⟩
  | 40 => ⟨S16x32x256x256, .f32⟩
  | 41 => ⟨S32x32x1x1, .f32⟩
  | 42 => ⟨S32x32, .f32⟩
  | 43 => ⟨S16x32x256x256, .f32⟩
  | 44 => ⟨S16x256x256x32, .f32⟩
  | 45 => ⟨S16x32x256x256, .f32⟩
  | 46 => ⟨S32x32x1x1, .f32⟩
  | 47 => ⟨S32x32, .f32⟩
  | 48 => ⟨S16x32x256x256, .f32⟩
  | 49 => ⟨S16x256x256x32, .f32⟩
  | 50 => ⟨S16x32x256x256, .f32⟩
  | 51 => ⟨S32x32x1x1, .f32⟩
  | 52 => ⟨S32x32, .f32⟩
  | 53 => ⟨S16x32x256x256, .f32⟩
  | 54 => ⟨S16x256x256x32, .f32⟩
  | 55 => ⟨S16x32x256x256, .f32⟩
  | 56 => ⟨S32x32x1x1, .f32⟩
  | 57 => ⟨S32x32, .f32⟩
  | 58 => ⟨S16x32x256x256, .f32⟩
  | 59 => ⟨S16x256x256x32, .f32⟩
  | 60 => ⟨S16x32x256x256, .f32⟩
  | 61 => ⟨S32x32x1x1, .f32⟩
  | 62 => ⟨S32x32, .f32⟩
  | 63 => ⟨S16x32x256x256, .f32⟩
  | 64 => ⟨S16x256x256x32, .f32⟩
  | 65 => ⟨S16x32x256x256, .f32⟩
  | 66 => ⟨S16x32x256x256, .f32⟩
  | 67 => ⟨S16x32x256x256, .f32⟩
  | 68 => ⟨S16x32x256x256, .f32⟩
  | 69 => ⟨S16x32x256x256, .f32⟩
  | 70 => ⟨S16x32x256x256, .f32⟩
  | 71 => ⟨S16x32x256x256, .f32⟩
  | 72 => ⟨S16x32x256x256, .f32⟩
  | 73 => ⟨S16x32x256x256, .f32⟩
  | 74 => ⟨S1x32x1x1, .f32⟩
  | 75 => ⟨S16x32x256x256, .f32⟩
  | 76 => ⟨S16x32x256x256, .f32⟩
  | 77 => ⟨S1x32, .f32⟩
  | 78 => ⟨S32, .f32⟩
  | 79 => ⟨S1x32, .f32⟩
  | 80 => ⟨S32, .f32⟩
  | 81 => ⟨S1x32, .f32⟩
  | 82 => ⟨S32, .f32⟩
  | 83 => ⟨S1x32, .f32⟩
  | 84 => ⟨S32, .f32⟩
  | 85 => ⟨S1x32x1x1, .f32⟩
  | 86 => ⟨S16x32x256x256, .f32⟩
  | 87 => ⟨S16x32x256x256, .f32⟩
  | 88 => ⟨S1x32x1x1, .f32⟩
  | 89 => ⟨S1x32x1x1, .f32⟩
  | 90 => ⟨S_, .f32⟩
  | 91 => ⟨S1x32x1x1, .f32⟩
  | 92 => ⟨S1x32x1x1, .f32⟩
  | 93 => ⟨S1x32x1x1, .f32⟩
  | 94 => ⟨S1x32x1x1, .f32⟩
  | 95 => ⟨S16x32x256x256, .f32⟩
  | 96 => ⟨S16x32x256x256, .f32⟩
  | 97 => ⟨S1x32x1x1, .f32⟩
  | 98 => ⟨S16x32x256x256, .f32⟩
  | 99 => ⟨S16x32x256x256, .f32⟩
  | 100 => ⟨S_, .f32⟩
  | 101 => ⟨S16x32x256x256, .f32⟩
  | 102 => ⟨S16x32x256x256, .f32⟩
  | 103 => ⟨S_, .f32⟩
  | 104 => ⟨S16x32, .f32⟩
  | 105 => ⟨S_, .f32⟩
  | 106 => ⟨S16x32, .f32⟩
  | 107 => ⟨S16x32, .f32⟩
  | 108 => ⟨S16x96, .f32⟩
  | 109 => ⟨S16x96x1, .f32⟩
  | _ => ⟨S16x3x256x256, .f32⟩

abbrev hbmTy (i : Nat) : BufTy := match i / 128 with
  | 0 => hbmTy0_0 i
  | 1 => hbmTy0_1 i
  | 2 => hbmTy0_2 i
  | _ => ⟨S16x3x256x256, .f32⟩

abbrev bufTy : (tb : Table) → Fin (tcTables nBuf tb) → BufTy
  | .hbm, ⟨i, _⟩ => hbmTy i
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_call1_cst : Ref sig .tc := ⟨.hbm, 96, rfl⟩
abbrev main_call1_v0 : Ref sig .tc := ⟨.hbm, 97, rfl⟩
abbrev main_v79 : Ref sig .tc := ⟨.hbm, 98, rfl⟩
abbrev main_c_0 : Ref sig .tc := ⟨.hbm, 99, rfl⟩
abbrev main_call2_v0 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_1 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_call3_cst : Ref sig .tc := ⟨.hbm, 181, rfl⟩
abbrev main_call3_v0 : Ref sig .tc := ⟨.hbm, 182, rfl⟩
abbrev main_v159 : Ref sig .tc := ⟨.hbm, 183, rfl⟩
abbrev main_cst_2 : Ref sig .tc := ⟨.hbm, 184, rfl⟩
abbrev main_v160 : Ref sig .tc := ⟨.hbm, 185, rfl⟩
abbrev main_cst_3 : Ref sig .tc := ⟨.hbm, 186, rfl⟩
abbrev main_v161 : Ref sig .tc := ⟨.hbm, 187, rfl⟩
abbrev main_v162 : Ref sig .tc := ⟨.hbm, 188, rfl⟩
abbrev main_c_4 : Ref sig .tc := ⟨.hbm, 189, rfl⟩
abbrev main_call4_v0 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_cst_5 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_call5_cst : Ref sig .tc := ⟨.hbm, 271, rfl⟩
abbrev main_call5_v0 : Ref sig .tc := ⟨.hbm, 272, rfl⟩
abbrev main_v242 : Ref sig .tc := ⟨.hbm, 273, rfl⟩
abbrev main_c_6 : Ref sig .tc := ⟨.hbm, 274, rfl⟩
abbrev main_call6_v0 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_cst_7 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_call7_cst : Ref sig .tc := ⟨.hbm, 356, rfl⟩
abbrev main_call7_v0 : Ref sig .tc := ⟨.hbm, 357, rfl⟩
abbrev main_v322 : Ref sig .tc := ⟨.hbm, 358, rfl⟩
abbrev main_cst_8 : Ref sig .tc := ⟨.hbm, 359, rfl⟩
abbrev main_v323 : Ref sig .tc := ⟨.hbm, 360, rfl⟩
abbrev main_cst_9 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩

abbrev nD : Nat := 1
abbrev τ : Topo := Topo.v7x

variable {F : FTy → Type} [FloatOps F]
-- ==== Kernel2.lean ====
abbrev S16x3x256x129 : Shape := ⟨4, ![16, 3, 256, 129]⟩
abbrev S16x96x1 : Shape := ⟨3, ![16, 96, 1]⟩
abbrev S32x3x3 : Shape := ⟨3, ![32, 3, 3]⟩
abbrev S32 : Shape := ⟨1, ![32]⟩
abbrev S4x32 : Shape := ⟨2, ![4, 32]⟩
abbrev S32x32x3 : Shape := ⟨3, ![32, 32, 3]⟩
abbrev S256x176 : Shape := ⟨2, ![256, 176]⟩
abbrev S256 : Shape := ⟨1, ![256]⟩
abbrev S128x256 : Shape := ⟨2, ![128, 256]⟩
abbrev S128 : Shape := ⟨1, ![128]⟩
abbrev S48x48 : Shape := ⟨2, ![48, 48]⟩
abbrev S1024x32 : Shape := ⟨2, ![1024, 32]⟩
abbrev S3x32x32 : Shape := ⟨3, ![3, 32, 32]⟩
abbrev S_ : Shape := ⟨0, ![]⟩
abbrev S129 : Shape := ⟨1, ![129]⟩
abbrev S256x129 : Shape := ⟨2, ![256, 129]⟩
abbrev S33024 : Shape := ⟨1, ![33024]⟩
abbrev S33024x1 : Shape := ⟨2, ![33024, 1]⟩
abbrev S1x32 : Shape := ⟨2, ![1, 32]⟩
abbrev S33024x32 : Shape := ⟨2, ![33024, 32]⟩
abbrev S1x8 : Shape := ⟨2, ![1, 8]⟩
abbrev S33024x8 : Shape := ⟨2, ![33024, 8]⟩
abbrev S33024x40 : Shape := ⟨2, ![33024, 40]⟩
abbrev S8 : Shape := ⟨1, ![8]⟩
abbrev S32x32x32x3 : Shape := ⟨4, ![32, 32, 32, 3]⟩
abbrev S3x32x32x32 : Shape := ⟨4, ![3, 32, 32, 32]⟩
abbrev S96x1024 : Shape := ⟨2, ![96, 1024]⟩
abbrev S32x32x32x32 : Shape := ⟨4, ![32, 32, 32, 32]⟩
abbrev S1024x1024 : Shape := ⟨2, ![1024, 1024]⟩
abbrev S32x32 : Shape := ⟨2, ![32, 32]⟩
abbrev S1024 : Shape := ⟨1, ![1024]⟩
abbrev S1x1024 : Shape := ⟨2, ![1, 1024]⟩
abbrev S3x16x256x129 : Shape := ⟨4, ![3, 16, 256, 129]⟩
abbrev S48x33024 : Shape := ⟨2, ![48, 33024]⟩
abbrev S16x96 : Shape := ⟨2, ![16, 96]⟩
abbrev S176x256 : Shape := ⟨2, ![176, 256]⟩
abbrev S1x256 : Shape := ⟨2, ![1, 256]⟩
abbrev S256x128 : Shape := ⟨2, ![256, 128]⟩
abbrev S1x128 : Shape := ⟨2, ![1, 128]⟩
abbrev S16x128 : Shape := ⟨2, ![16, 128]⟩
abbrev S96x33024 : Shape := ⟨2, ![96, 33024]⟩
abbrev S96x40 : Shape := ⟨2, ![96, 40]⟩
abbrev S48x32 : Shape := ⟨2, ![48, 32]⟩
abbrev S16x32 : Shape := ⟨2, ![16, 32]⟩
abbrev S16x1024 : Shape := ⟨2, ![16, 1024]⟩
abbrev S48x8 : Shape := ⟨2, ![48, 8]⟩
abbrev S16x8 : Shape := ⟨2, ![16, 8]⟩
abbrev S16x48 : Shape := ⟨2, ![16, 48]⟩
abbrev S16x176 : Shape := ⟨2, ![16, 176]⟩
abbrev S16x256 : Shape := ⟨2, ![16, 256]⟩
abbrev S16 : Shape := ⟨1, ![16]⟩
abbrev S16x1 : Shape := ⟨2, ![16, 1]⟩

abbrev nBuf : Space → Nat
  | .hbm => 203
  | .vmem => 22
  | .smem => 0
  | _ => 0

abbrev hbmTy0_0 (i : Nat) : BufTy := match i % 128 with
  | 0 => ⟨S16x3x256x129, .f32⟩
  | 1 => ⟨S16x96x1, .f32⟩
  | 2 => ⟨S32x3x3, .f32⟩
  | 3 => ⟨S32, .f32⟩
  | 4 => ⟨S4x32, .f32⟩
  | 5 => ⟨S32x32x3, .f32⟩
  | 6 => ⟨S32, .f32⟩
  | 7 => ⟨S4x32, .f32⟩
  | 8 => ⟨S256x176, .f32⟩
  | 9 => ⟨S256, .f32⟩
  | 10 => ⟨S256, .f32⟩
  | 11 => ⟨S256, .f32⟩
  | 12 => ⟨S128x256, .f32⟩
  | 13 => ⟨S128, .f32⟩
  | 14 => ⟨S48x48, .f32⟩
  | 15 => ⟨S1024x32, .f32⟩
  | 16 => ⟨S3x32x32, .f32⟩
  | 17 => ⟨S256, .f32⟩
  | 18 => ⟨S_, .f32⟩
  | 19 => ⟨S256, .f32⟩
  | 20 => ⟨S256, .f32⟩
  | 21 => ⟨S_, .i32⟩
  | 22 => ⟨S_, .f32⟩
  | 23 => ⟨S256, .f32⟩
  | 24 => ⟨S256, .f32⟩
  | 25 => ⟨S_, .f32⟩
  | 26 => ⟨S256, .f32⟩
  | 27 => ⟨S256, .i1⟩
  | 28 => ⟨S_, .f32⟩
  | 29 => ⟨S256, .f32⟩
  | 30 => ⟨S256, .i1⟩
  | 31 => ⟨S_, .f32⟩
  | 32 => ⟨S_, .i1⟩
  | 33 => ⟨S256, .i1⟩
  | 34 => ⟨S256, .i1⟩
  | 35 => ⟨S256, .i1⟩
  | 36 => ⟨S256, .f32⟩
  | 37 => ⟨S256, .f32⟩
  | 38 => ⟨S256, .f32⟩
  | 39 => ⟨S_, .f32⟩
  | 40 => ⟨S256, .f32⟩
  | 41 => ⟨S256, .f32⟩
  | 42 => ⟨S_, .f32⟩
  | 43 => ⟨S256, .f32⟩
  | 44 => ⟨S256, .f32⟩
  | 45 => ⟨S129, .f32⟩
  | 46 => ⟨S_, .f32⟩
  | 47 => ⟨S129, .f32⟩
  | 48 => ⟨S129, .f32⟩
  | 49 => ⟨S256x129, .f32⟩
  | 50 => ⟨S256x129, .f32⟩
  | 51 => ⟨S256x129, .f32⟩
  | 52 => ⟨S256x129, .f32⟩
  | 53 => ⟨S256x129, .f32⟩
  | 54 => ⟨S256x129, .f32⟩
  | 55 => ⟨S_, .f32⟩
  | 56 => ⟨S_, .f32⟩
  | 57 => ⟨S_, .f32⟩
  | 58 => ⟨S_, .f32⟩
  | 59 => ⟨S256x129, .f32⟩
  | 60 => ⟨S256x129, .f32⟩
  | 61 => ⟨S_, .f32⟩
  | 62 => ⟨S256x129, .f32⟩
  | 63 => ⟨S256x129, .f32⟩
  | 64 => ⟨S256x129, .i32⟩
  | 65 => ⟨S_, .i32⟩
  | 66 => ⟨S_, .i32⟩
  | 67 => ⟨S_, .i32⟩
  | 68 => ⟨S256x129, .i32⟩
  | 69 => ⟨S256x129, .i32⟩
  | 70 => ⟨S_, .i32⟩
  | 71 => ⟨S256x129, .i32⟩
  | 72 => ⟨S256x129, .i32⟩
  | 73 => ⟨S33024, .i32⟩
  | 74 => ⟨S_, .f32⟩
  | 75 => ⟨S256x129, .f32⟩
  | 76 => ⟨S256x129, .f32⟩
  | 77 => ⟨S256x129, .f32⟩
  | 78 => ⟨S_, .f32⟩
  | 79 => ⟨S256x129, .f32⟩
  | 80 => ⟨S256x129, .f32⟩
  | 81 => ⟨S_, .f32⟩
  | 82 => ⟨S256x129, .f32⟩
  | 83 => ⟨S256x129, .f32⟩
  | 84 => ⟨S_, .f32⟩
  | 85 => ⟨S256x129, .f32⟩
  | 86 => ⟨S256x129, .f32⟩
  | 87 => ⟨S256x129, .i32⟩
  | 88 => ⟨S_, .i32⟩
  | 89 => ⟨S_, .i32⟩
  | 90 => ⟨S_, .i32⟩
  | 91 => ⟨S256x129, .i32⟩
  | 92 => ⟨S256x129, .i32⟩
  | 93 => ⟨S_, .i32⟩
  | 94 => ⟨S256x129, .i32⟩
  | 95 => ⟨S256x129, .i32⟩
  | 96 => ⟨S33024, .i32⟩
  | 97 => ⟨S33024x1, .i32⟩
  | 98 => ⟨S1x32, .i32⟩
  | 99 => ⟨S33024x32, .i32⟩
  | 100 => ⟨S33024x32, .i32⟩
  | 101 => ⟨S33024x32, .i1⟩
  | 102 => ⟨S33024x32, .f32⟩
  | 103 => ⟨S33024x1, .i32⟩
  | 104 => ⟨S1x8, .i32⟩
  | 105 => ⟨S33024x8, .i32⟩
  | 106 => ⟨S33024x8, .i32⟩
  | 107 => ⟨S33024x8, .i1⟩
  | 108 => ⟨S33024x8, .f32⟩
  | 109 => ⟨S33024x40, .f32⟩
  | 110 => ⟨S_, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S1x32, .f32⟩
  | 119 => ⟨S_, .f32⟩
  | 120 => ⟨S8, .f32⟩
  | 121 => ⟨S_, .f32⟩
  | 122 => ⟨S8, .f32⟩
  | 123 => ⟨S8, .i1⟩
  | 124 => ⟨S_, .f32⟩
  | 125 => ⟨S8, .f32⟩
  | 126 => ⟨S8, .f32⟩
  | 127 => ⟨S_, .f32⟩
  | _ => ⟨S16x3x256x129, .f32⟩

abbrev hbmTy0_1 (i : Nat) : BufTy := match i % 128 with
  | 0 => ⟨S_, .f32⟩
  | 1 => ⟨S8, .f32⟩
  | 2 => ⟨S8, .f32⟩
  | 3 => ⟨S1x8, .f32⟩
  | 4 => ⟨S1x8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S1x8, .f32⟩
  | 15 => ⟨S32x32x32x3, .f32⟩
  | 16 => ⟨S3x32x32x32, .f32⟩
  | 17 => ⟨S96x1024, .f32⟩
  | 18 => ⟨S32x32x32x32, .f32⟩
  | 19 => ⟨S32x32x32x32, .f32⟩
  | 20 => ⟨S1024x1024, .f32⟩
  | 21 => ⟨S1x32, .f32⟩
  | 22 => ⟨S32, .f32⟩
  | 23 => ⟨S1x32, .f32⟩
  | 24 => ⟨S32, .f32⟩
  | 25 => ⟨S1x32, .f32⟩
  | 26 => ⟨S32, .f32⟩
  | 27 => ⟨S1x32, .f32⟩
  | 28 => ⟨S32, .f32⟩
  | 29 => ⟨S_, .f32⟩
  | 30 => ⟨S32, .f32⟩
  | 31 => ⟨S32, .f32⟩
  | 32 => ⟨S32, .f32⟩
  | 33 => ⟨S32, .f32⟩
  | 34 => ⟨S32, .f32⟩
  | 35 => ⟨S32, .f32⟩
  | 36 => ⟨S32, .f32⟩
  | 37 => ⟨S1x32, .f32⟩
  | 38 => ⟨S32, .f32⟩
  | 39 => ⟨S1x32, .f32⟩
  | 40 => ⟨S32, .f32⟩
  | 41 => ⟨S1x32, .f32⟩
  | 42 => ⟨S32, .f32⟩
  | 43 => ⟨S1x32, .f32⟩
  | 44 => ⟨S32, .f32⟩
  | 45 => ⟨S_, .f32⟩
  | 46 => ⟨S32, .f32⟩
  | 47 => ⟨S32, .f32⟩
  | 48 => ⟨S32, .f32⟩
  | 49 => ⟨S32, .f32⟩
  | 50 => ⟨S32, .f32⟩
  | 51 => ⟨S32, .f32⟩
  | 52 => ⟨S32, .f32⟩
  | 53 => ⟨S32x32, .f32⟩
  | 54 => ⟨S1024, .f32⟩
  | 55 => ⟨S1x1024, .f32⟩
  | 56 => ⟨S32x32, .f32⟩
  | 57 => ⟨S1024, .f32⟩
  | 58 => ⟨S1x1024, .f32⟩
  | 59 => ⟨S32x32, .f32⟩
  | 60 => ⟨S1024, .f32⟩
  | 61 => ⟨S1x1024, .f32⟩
  | 62 => ⟨S32x32, .f32⟩
  | 63 => ⟨S1024, .f32⟩
  | 64 => ⟨S1x1024, .f32⟩
  | 65 => ⟨S3x16x256x129, .f32⟩
  | 66 => ⟨S48x33024, .f32⟩
  | 67 => ⟨S16x96, .f32⟩
  | 68 => ⟨S176x256, .f32⟩
  | 69 => ⟨S1x256, .f32⟩
  | 70 => ⟨S1x256, .f32⟩
  | 71 => ⟨S1x256, .f32⟩
  | 72 => ⟨S256x128, .f32⟩
  | 73 => ⟨S1x128, .f32⟩
  | 74 => ⟨S16x128, .f32⟩
  | _ => ⟨S16x3x256x129, .f32⟩

abbrev hbmTy (i : Nat) : BufTy := match i / 128 with
  | 0 => hbmTy0_0 i
  | 1 => hbmTy0_1 i
  | _ => ⟨S16x3x256x129, .f32⟩

abbrev bufTy : (tb : Table) → Fin (tcTables nBuf tb) → BufTy
  | .hbm, ⟨i, _⟩ => hbmTy i
  | .local _ .vmem, ⟨0, _⟩ => ⟨S48x33024, .f32⟩
  | .local _ .vmem, ⟨1, _⟩ => ⟨S33024x40, .f32⟩
  | .local _ .vmem, ⟨2, _⟩ => ⟨S16x96, .f32⟩
  | .local _ .vmem, ⟨3, _⟩ => ⟨S96x1024, .f32⟩
  | .local _ .vmem, ⟨4, _⟩ => ⟨S1024x1024, .f32⟩
  | .local _ .vmem, ⟨5, _⟩ => ⟨S1024x32, .f32⟩
  | .local _ .vmem, ⟨6, _⟩ => ⟨S48x48, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x32, .f32⟩
  | .local _ .vmem, ⟨12, _⟩ => ⟨S1x8, .f32⟩
  | .local _ .vmem, ⟨13, _⟩ => ⟨S1x8, .f32⟩
  | .local _ .vmem, ⟨14, _⟩ => ⟨S1x8, .f32⟩
  | .local _ .vmem, ⟨15, _⟩ => ⟨S176x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S16x128, .f32⟩
  | _, _ => ⟨S16x3x256x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_v0 : Ref sig .tc := ⟨.hbm, 17, rfl⟩
abbrev main_cst_2 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_v3 : Ref sig .tc := ⟨.hbm, 38, rfl⟩
abbrev main_cst_3 : Ref sig .tc := ⟨.hbm, 39, rfl⟩
abbrev main_v4 : Ref sig .tc := ⟨.hbm, 40, rfl⟩
abbrev main_v5 : Ref sig .tc := ⟨.hbm, 41, rfl⟩
abbrev main_cst_4 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_5 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_6 : Ref sig .tc := ⟨.hbm, 55, rfl⟩
abbrev main_v17 : Ref sig .tc := ⟨.hbm, 56, rfl⟩
abbrev main_cst_7 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_8 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_c_9 : Ref sig .tc := ⟨.hbm, 65, rfl⟩
abbrev main_c_10 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v24 : Ref sig .tc := ⟨.hbm, 72, rfl⟩
abbrev main_v25 : Ref sig .tc := ⟨.hbm, 73, rfl⟩
abbrev main_cst_11 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_12 : Ref sig .tc := ⟨.hbm, 78, rfl⟩
abbrev main_v29 : Ref sig .tc := ⟨.hbm, 79, rfl⟩
abbrev main_v30 : Ref sig .tc := ⟨.hbm, 80, rfl⟩
abbrev main_cst_13 : Ref sig .tc := ⟨.hbm, 81, rfl⟩
abbrev main_v31 : Ref sig .tc := ⟨.hbm, 82, rfl⟩
abbrev main_v32 : Ref sig .tc := ⟨.hbm, 83, rfl⟩
abbrev main_cst_14 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_c_15 : Ref sig .tc := ⟨.hbm, 88, rfl⟩
abbrev main_c_16 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v36 : Ref sig .tc := ⟨.hbm, 95, rfl⟩
abbrev main_v37 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v38 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v39 : Ref sig .tc := ⟨.hbm, 108, rfl⟩
abbrev main_v40 : Ref sig .tc := ⟨.hbm, 109, rfl⟩
abbrev main_cst_17 : Ref sig .tc := ⟨.hbm, 110, rfl⟩
abbrev main_v41 : Ref sig .tc := ⟨.hbm, 111, rfl⟩
abbrev main_cst_18 : Ref sig .tc := ⟨.hbm, 112, rfl⟩
abbrev main_v42 : Ref sig .tc := ⟨.hbm, 113, rfl⟩
abbrev main_v43 : Ref sig .tc := ⟨.hbm, 114, rfl⟩
abbrev main_cst_19 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_20 : Ref sig .tc := ⟨.hbm, 119, rfl⟩
abbrev main_v47 : Ref sig .tc := ⟨.hbm, 120, rfl⟩
abbrev main_cst_21 : Ref sig .tc := ⟨.hbm, 121, rfl⟩
abbrev main_v48 : Ref sig .tc := ⟨.hbm, 122, rfl⟩
abbrev main_v49 : Ref sig .tc := ⟨.hbm, 123, rfl⟩
abbrev main_cst_22 : Ref sig .tc := ⟨.hbm, 124, rfl⟩
abbrev main_v50 : Ref sig .tc := ⟨.hbm, 125, rfl⟩
abbrev main_v51 : Ref sig .tc := ⟨.hbm, 126, rfl⟩
abbrev main_cst_23 : Ref sig .tc := ⟨.hbm, 127, rfl⟩
abbrev main_call5_v0 : Ref sig .tc := ⟨.hbm, 128, rfl⟩
abbrev main_call5_v1 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_cst_24 : Ref sig .tc := ⟨.hbm, 133, rfl⟩
abbrev main_v55 : Ref sig .tc := ⟨.hbm, 134, rfl⟩
abbrev main_v56 : Ref sig .tc := ⟨.hbm, 135, rfl⟩
abbrev main_cst_25 : Ref sig .tc := ⟨.hbm, 136, rfl⟩
abbrev main_v57 : Ref sig .tc := ⟨.hbm, 137, rfl⟩
abbrev main_v58 : Ref sig .tc := ⟨.hbm, 138, rfl⟩
abbrev main_cst_26 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_cst_27 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_28 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S48x33024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33024x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S176x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference2Ideal.lean ====
abbrev S16x3x256x129 : Shape := ⟨4, ![16, 3, 256, 129]⟩
abbrev S16x96x1 : Shape := ⟨3, ![16, 96, 1]⟩
abbrev S32x3x3 : Shape := ⟨3, ![32, 3, 3]⟩
abbrev S32 : Shape := ⟨1, ![32]⟩
abbrev S4x32 : Shape := ⟨2, ![4, 32]⟩
abbrev S32x32x3 : Shape := ⟨3, ![32, 32, 3]⟩
abbrev S256x176 : Shape := ⟨2, ![256, 176]⟩
abbrev S256 : Shape := ⟨1, ![256]⟩
abbrev S128x256 : Shape := ⟨2, ![128, 256]⟩
abbrev S128 : Shape := ⟨1, ![128]⟩
abbrev S_ : Shape := ⟨0, ![]⟩
abbrev S129 : Shape := ⟨1, ![129]⟩
abbrev S256x129 : Shape := ⟨2, ![256, 129]⟩
abbrev S33024 : Shape := ⟨1, ![33024]⟩
abbrev S16x3x33024 : Shape := ⟨3, ![16, 3, 33024]⟩
abbrev S33024x1 : Shape := ⟨2, ![33024, 1]⟩
abbrev S1x32 : Shape := ⟨2, ![1, 32]⟩
abbrev S33024x32 : Shape := ⟨2, ![33024, 32]⟩
abbrev S16x3x32 : Shape := ⟨3, ![16, 3, 32]⟩
abbrev S1x1x32 : Shape := ⟨3, ![1, 1, 32]⟩
abbrev S1x8 : Shape := ⟨2, ![1, 8]⟩
abbrev S33024x8 : Shape := ⟨2, ![33024, 8]⟩
abbrev S8 : Shape := ⟨1, ![8]⟩
abbrev S16x3x8 : Shape := ⟨3, ![16, 3, 8]⟩
abbrev S1x1x8 : Shape := ⟨3, ![1, 1, 8]⟩
abbrev S16x8x3 : Shape := ⟨3, ![16, 8, 3]⟩
abbrev S16x8x1x3 : Shape := ⟨4, ![16, 8, 1, 3]⟩
abbrev S16x8x2x3 : Shape := ⟨4, ![16, 8, 2, 3]⟩
abbrev S16x48 : Shape := ⟨2, ![16, 48]⟩
abbrev S16x3x34 : Shape := ⟨3, ![16, 3, 34]⟩
abbrev S32x3x1 : Shape := ⟨3, ![32, 3, 1]⟩
abbrev S32x3 : Shape := ⟨2, ![32, 3]⟩
abbrev S16x32x32 : Shape := ⟨3, ![16, 32, 32]⟩
abbrev S1x32x1 : Shape := ⟨3, ![1, 32, 1]⟩
abbrev S16x32x34 : Shape := ⟨3, ![16, 32, 34]⟩
abbrev S32x32x1 : Shape := ⟨3, ![32, 32, 1]⟩
abbrev S32x32 : Shape := ⟨2, ![32, 32]⟩
abbrev S16x32 : Shape := ⟨2, ![16, 32]⟩
abbrev S16x96 : Shape := ⟨2, ![16, 96]⟩
abbrev S16x176 : Shape := ⟨2, ![16, 176]⟩
abbrev S176x256 : Shape := ⟨2, ![176, 256]⟩
abbrev S16x256 : Shape := ⟨2, ![16, 256]⟩
abbrev S1x256 : Shape := ⟨2, ![1, 256]⟩
abbrev S16 : Shape := ⟨1, ![16]⟩
abbrev S16x1 : Shape := ⟨2, ![16, 1]⟩
abbrev S256x128 : Shape := ⟨2, ![256, 128]⟩
abbrev S16x128 : Shape := ⟨2, ![16, 128]⟩
abbrev S1x128 : Shape := ⟨2, ![1, 128]⟩

abbrev nBuf : Space → Nat
  | .hbm => 319
  | .vmem => 0
  | .smem => 0
  | _ => 0

abbrev hbmTy0_0 (i : Nat) : BufTy := match i % 128 with
  | 0 => ⟨S16x3x256x129, .f32⟩
  | 1 => ⟨S16x96x1, .f32⟩
  | 2 => ⟨S32x3x3, .f32⟩
  | 3 => ⟨S32, .f32⟩
  | 4 => ⟨S4x32, .f32⟩
  | 5 => ⟨S32x32x3, .f32⟩
  | 6 => ⟨S32, .f32⟩
  | 7 => ⟨S4x32, .f32⟩
  | 8 => ⟨S256x176, .f32⟩
  | 9 => ⟨S256, .f32⟩
  | 10 => ⟨S256, .f32⟩
  | 11 => ⟨S256, .f32⟩
  | 12 => ⟨S128x256, .f32⟩
  | 13 => ⟨S128, .f32⟩
  | 14 => ⟨S256, .f32⟩
  | 15 => ⟨S_, .f32⟩
  | 16 => ⟨S256, .f32⟩
  | 17 => ⟨S256, .f32⟩
  | 18 => ⟨S_, .i32⟩
  | 19 => ⟨S_, .f32⟩
  | 20 => ⟨S256, .f32⟩
  | 21 => ⟨S256, .f32⟩
  | 22 => ⟨S_, .f32⟩
  | 23 => ⟨S256, .f32⟩
  | 24 => ⟨S256, .i1⟩
  | 25 => ⟨S_, .f32⟩
  | 26 => ⟨S256, .f32⟩
  | 27 => ⟨S256, .i1⟩
  | 28 => ⟨S_, .f32⟩
  | 29 => ⟨S_, .i1⟩
  | 30 => ⟨S256, .i1⟩
  | 31 => ⟨S256, .i1⟩
  | 32 => ⟨S256, .i1⟩
  | 33 => ⟨S256, .f32⟩
  | 34 => ⟨S256, .f32⟩
  | 35 => ⟨S256, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S129, .f32⟩
  | 43 => ⟨S_, .f32⟩
  | 44 => ⟨S129, .f32⟩
  | 45 => ⟨S129, .f32⟩
  | 46 => ⟨S256x129, .f32⟩
  | 47 => ⟨S256x129, .f32⟩
  | 48 => ⟨S256x129, .f32⟩
  | 49 => ⟨S256x129, .f32⟩
  | 50 => ⟨S256x129, .f32⟩
  | 51 => ⟨S256x129, .f32⟩
  | 52 => ⟨S_, .f32⟩
  | 53 => ⟨S_, .f32⟩
  | 54 => ⟨S_, .f32⟩
  | 55 => ⟨S_, .f32⟩
  | 56 => ⟨S256x129, .f32⟩
  | 57 => ⟨S256x129, .f32⟩
  | 58 => ⟨S_, .f32⟩
  | 59 => ⟨S256x129, .f32⟩
  | 60 => ⟨S256x129, .f32⟩
  | 61 => ⟨S256x129, .i32⟩
  | 62 => ⟨S_, .i32⟩
  | 63 => ⟨S_, .i32⟩
  | 64 => ⟨S_, .i32⟩
  | 65 => ⟨S256x129, .i32⟩
  | 66 => ⟨S256x129, .i32⟩
  | 67 => ⟨S_, .i32⟩
  | 68 => ⟨S256x129, .i32⟩
  | 69 => ⟨S256x129, .i32⟩
  | 70 => ⟨S33024, .i32⟩
  | 71 => ⟨S_, .f32⟩
  | 72 => ⟨S256x129, .f32⟩
  | 73 => ⟨S256x129, .f32⟩
  | 74 => ⟨S256x129, .f32⟩
  | 75 => ⟨S_, .f32⟩
  | 76 => ⟨S256x129, .f32⟩
  | 77 => ⟨S256x129, .f32⟩
  | 78 => ⟨S_, .f32⟩
  | 79 => ⟨S256x129, .f32⟩
  | 80 => ⟨S256x129, .f32⟩
  | 81 => ⟨S_, .f32⟩
  | 82 => ⟨S256x129, .f32⟩
  | 83 => ⟨S256x129, .f32⟩
  | 84 => ⟨S256x129, .i32⟩
  | 85 => ⟨S_, .i32⟩
  | 86 => ⟨S_, .i32⟩
  | 87 => ⟨S_, .i32⟩
  | 88 => ⟨S256x129, .i32⟩
  | 89 => ⟨S256x129, .i32⟩
  | 90 => ⟨S_, .i32⟩
  | 91 => ⟨S256x129, .i32⟩
  | 92 => ⟨S256x129, .i32⟩
  | 93 => ⟨S33024, .i32⟩
  | 94 => ⟨S16x3x33024, .f32⟩
  | 95 => ⟨S33024x1, .i32⟩
  | 96 => ⟨S1x32, .i32⟩
  | 97 => ⟨S33024x32, .i32⟩
  | 98 => ⟨S33024x32, .i32⟩
  | 99 => ⟨S33024x32, .i1⟩
  | 100 => ⟨S33024x32, .f32⟩
  | 101 => ⟨S_, .f32⟩
  | 102 => ⟨S32, .f32⟩
  | 103 => ⟨S_, .f32⟩
  | 104 => ⟨S32, .f32⟩
  | 105 => ⟨S32, .f32⟩
  | 106 => ⟨S16x3x32, .f32⟩
  | 107 => ⟨S1x1x32, .f32⟩
  | 108 => ⟨S16x3x32, .f32⟩
  | 109 => ⟨S16x3x32, .f32⟩
  | 110 => ⟨S_, .f32⟩
  | 111 => ⟨S_, .f32⟩
  | 112 => ⟨S_, .f32⟩
  | 113 => ⟨S16x3x32, .f32⟩
  | 114 => ⟨S16x3x32, .f32⟩
  | 115 => ⟨S_, .f32⟩
  | 116 => ⟨S16x3x32, .f32⟩
  | 117 => ⟨S16x3x32, .f32⟩
  | 118 => ⟨S33024x1, .i32⟩
  | 119 => ⟨S1x8, .i32⟩
  | 120 => ⟨S33024x8, .i32⟩
  | 121 => ⟨S33024x8, .i32⟩
  | 122 => ⟨S33024x8, .i1⟩
  | 123 => ⟨S33024x8, .f32⟩
  | 124 => ⟨S_, .f32⟩
  | 125 => ⟨S8, .f32⟩
  | 126 => ⟨S16x3x8, .f32⟩
  | 127 => ⟨S16x3x33024, .f32⟩
  | _ => ⟨S16x3x256x129, .f32⟩

abbrev hbmTy0_1 (i : Nat) : BufTy := match i % 128 with
  | 0 => ⟨S16x3x8, .f32⟩
  | 1 => ⟨S_, .f32⟩
  | 2 => ⟨S8, .f32⟩
  | 3 => ⟨S8, .i1⟩
  | 4 => ⟨S1x1x8, .f32⟩
  | 5 => ⟨S16x3x8, .f32⟩
  | 6 => ⟨S16x3x8, .f32⟩
  | 7 => ⟨S_, .f32⟩
  | 8 => ⟨S_, .f32⟩
  | 9 => ⟨S16x3x8, .i1⟩
  | 10 => ⟨S16x3x8, .f32⟩
  | 11 => ⟨S16x3x8, .f32⟩
  | 12 => ⟨S16x3x8, .f32⟩
  | 13 => ⟨S1x1x8, .f32⟩
  | 14 => ⟨S16x3x8, .f32⟩
  | 15 => ⟨S16x3x8, .f32⟩
  | 16 => ⟨S16x3x8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S1x1x8, .f32⟩
  | 24 => ⟨S16x3x8, .f32⟩
  | 25 => ⟨S16x3x8, .f32⟩
  | 26 => ⟨S_, .f32⟩
  | 27 => ⟨S16x3x8, .f32⟩
  | 28 => ⟨S16x3x8, .f32⟩
  | 29 => ⟨S16x3x8, .f32⟩
  | 30 => ⟨S16x8x3, .f32⟩
  | 31 => ⟨S16x8x3, .f32⟩
  | 32 => ⟨S16x8x1x3, .f32⟩
  | 33 => ⟨S16x8x1x3, .f32⟩
  | 34 => ⟨S16x8x2x3, .f32⟩
  | 35 => ⟨S16x48, .f32⟩
  | 36 => ⟨S_, .i32⟩
  | 37 => ⟨S_, .f32⟩
  | 38 => ⟨S16x3x34, .f32⟩
  | 39 => ⟨S32x3x1, .f32⟩
  | 40 => ⟨S32x3, .f32⟩
  | 41 => ⟨S16x3x32, .f32⟩
  | 42 => ⟨S16x32x32, .f32⟩
  | 43 => ⟨S16x32x32, .f32⟩
  | 44 => ⟨S32x3x1, .f32⟩
  | 45 => ⟨S32x3, .f32⟩
  | 46 => ⟨S16x3x32, .f32⟩
  | 47 => ⟨S16x32x32, .f32⟩
  | 48 => ⟨S16x32x32, .f32⟩
  | 49 => ⟨S32x3x1, .f32⟩
  | 50 => ⟨S32x3, .f32⟩
  | 51 => ⟨S16x3x32, .f32⟩
  | 52 => ⟨S16x32x32, .f32⟩
  | 53 => ⟨S16x32x32, .f32⟩
  | 54 => ⟨S16x32x32, .f32⟩
  | 55 => ⟨S16x32x32, .f32⟩
  | 56 => ⟨S1x32x1, .f32⟩
  | 57 => ⟨S16x32x32, .f32⟩
  | 58 => ⟨S16x32x32, .f32⟩
  | 59 => ⟨S1x32, .f32⟩
  | 60 => ⟨S32, .f32⟩
  | 61 => ⟨S1x32, .f32⟩
  | 62 => ⟨S32, .f32⟩
  | 63 => ⟨S1x32, .f32⟩
  | 64 => ⟨S32, .f32⟩
  | 65 => ⟨S1x32, .f32⟩
  | 66 => ⟨S32, .f32⟩
  | 67 => ⟨S1x32x1, .f32⟩
  | 68 => ⟨S16x32x32, .f32⟩
  | 69 => ⟨S16x32x32, .f32⟩
  | 70 => ⟨S1x32x1, .f32⟩
  | 71 => ⟨S1x32x1, .f32⟩
  | 72 => ⟨S_, .f32⟩
  | 73 => ⟨S1x32x1, .f32⟩
  | 74 => ⟨S1x32x1, .f32⟩
  | 75 => ⟨S1x32x1, .f32⟩
  | 76 => ⟨S1x32x1, .f32⟩
  | 77 => ⟨S16x32x32, .f32⟩
  | 78 => ⟨S16x32x32, .f32⟩
  | 79 => ⟨S1x32x1, .f32⟩
  | 80 => ⟨S16x32x32, .f32⟩
  | 81 => ⟨S16x32x32, .f32⟩
  | 82 => ⟨S_, .f32⟩
  | 83 => ⟨S16x32x32, .f32⟩
  | 84 => ⟨S16x32x32, .f32⟩
  | 85 => ⟨S_, .i32⟩
  | 86 => ⟨S_, .f32⟩
  | 87 => ⟨S16x32x34, .f32⟩
  | 88 => ⟨S32x32x1, .f32⟩
  | 89 => ⟨S32x32, .f32⟩
  | 90 => ⟨S16x32x32, .f32⟩
  | 91 => ⟨S16x32x32, .f32⟩
  | 92 => ⟨S16x32x32, .f32⟩
  | 93 => ⟨S32x32x1, .f32⟩
  | 94 => ⟨S32x32, .f32⟩
  | 95 => ⟨S16x32x32, .f32⟩
  | 96 => ⟨S16x32x32, .f32⟩
  | 97 => ⟨S16x32x32, .f32⟩
  | 98 => ⟨S32x32x1, .f32⟩
  | 99 => ⟨S32x32, .f32⟩
  | 100 => ⟨S16x32x32, .f32⟩
  | 101 => ⟨S16x32x32, .f32⟩
  | 102 => ⟨S16x32x32, .f32⟩
  | 103 => ⟨S16x32x32, .f32⟩
  | 104 => ⟨S16x32x32, .f32⟩
  | 105 => ⟨S1x32x1, .f32⟩
  | 106 => ⟨S16x32x32, .f32⟩
  | 107 => ⟨S16x32x32, .f32⟩
  | 108 => ⟨S1x32, .f32⟩
  | 109 => ⟨S32, .f32⟩
  | 110 => ⟨S1x32, .f32⟩
  | 111 => ⟨S32, .f32⟩
  | 112 => ⟨S1x32, .f32⟩
  | 113 => ⟨S32, .f32⟩
  | 114 => ⟨S1x32, .f32⟩
  | 115 => ⟨S32, .f32⟩
  | 116 => ⟨S1x32x1, .f32⟩
  | 117 => ⟨S16x32x32, .f32⟩
  | 118 => ⟨S16x32x32, .f32⟩
  | 119 => ⟨S1x32x1, .f32⟩
  | 120 => ⟨S1x32x1, .f32⟩
  | 121 => ⟨S_, .f32⟩
  | 122 => ⟨S1x32x1, .f32⟩
  | 123 => ⟨S1x32x1, .f32⟩
  | 124 => ⟨S1x32x1, .f32⟩
  | 125 => ⟨S1x32x1, .f32⟩
  | 126 => ⟨S16x32x32, .f32⟩
  | 127 => ⟨S16x32x32, .f32⟩
  | _ => ⟨S16x3x256x129, .f32⟩

abbrev hbmTy0_2 (i : Nat) : BufTy := match i % 128 with
  | 0 => ⟨S1x32x1, .f32⟩
  | 1 => ⟨S16x32x32, .f32⟩
  | 2 => ⟨S16x32x32, .f32⟩
  | 3 => ⟨S_, .f32⟩
  | 4 => ⟨S16x32x32, .f32⟩
  | 5 => ⟨S16x32x32, .f32⟩
  | 6 => ⟨S_, .f32⟩
  | 7 => ⟨S16x32, .f32⟩
  | 8 => ⟨S_, .f32⟩
  | 9 => ⟨S16x32, .f32⟩
  | 10 => ⟨S16x32, .f32⟩
  | 11 => ⟨S16x96, .f32⟩
  | 12 => ⟨S16x176, .f32⟩
  | 13 => ⟨S176x256, .f32⟩
  | 14 => ⟨S16x256, .f32⟩
  | 15 => ⟨S1x256, .f32⟩
  | 16 => ⟨S16x256, .f32⟩
  | 17 => ⟨S16x256, .f32⟩
  | 18 => ⟨S_, .f32⟩
  | 19 => ⟨S16, .f32⟩
  | 20 => ⟨S16x1, .f32⟩
  | 21 => ⟨S_, .f32⟩
  | 22 => ⟨S16x1, .f32⟩
  | 23 => ⟨S16x1, .f32⟩
  | 24 => ⟨S16x256, .f32⟩
  | 25 => ⟨S16x256, .f32⟩
  | 26 => ⟨S16x256, .f32⟩
  | 27 => ⟨S_, .f32⟩
  | 28 => ⟨S16, .f32⟩
  | 29 => ⟨S16x1, .f32⟩
  | 30 => ⟨S_, .f32⟩
  | 31 => ⟨S16x1, .f32⟩
  | 32 => ⟨S16x1, .f32⟩
  | 33 => ⟨S16x256, .f32⟩
  | 34 => ⟨S16x256, .f32⟩
  | 35 => ⟨S_, .f32⟩
  | 36 => ⟨S16x1, .f32⟩
  | 37 => ⟨S16x1, .f32⟩
  | 38 => ⟨S16x1, .f32⟩
  | 39 => ⟨S16x256, .f32⟩
  | 40 => ⟨S16x256, .f32⟩
  | 41 => ⟨S1x256, .f32⟩
  | 42 => ⟨S16x256, .f32⟩
  | 43 => ⟨S16x256, .f32⟩
  | 44 => ⟨S1x256, .f32⟩
  | 45 => ⟨S16x256, .f32⟩
  | 46 => ⟨S16x256, .f32⟩
  | 47 => ⟨S_, .f32⟩
  | 48 => ⟨S16x256, .f32⟩
  | 49 => ⟨S16x256, .f32⟩
  | 50 => ⟨S256x128, .f32⟩
  | 51 => ⟨S16x128, .f32⟩
  | 52 => ⟨S1x128, .f32⟩
  | 53 => ⟨S16x128, .f32⟩
  | 54 => ⟨S16x128, .f32⟩
  | 55 => ⟨S_, .f32⟩
  | 56 => ⟨S_, .f32⟩
  | 57 => ⟨S_, .f32⟩
  | 58 => ⟨S16x128, .f32⟩
  | 59 => ⟨S16x128, .f32⟩
  | 60 => ⟨S_, .f32⟩
  | 61 => ⟨S16x128, .f32⟩
  | 62 => ⟨S16x128, .f32⟩
  | _ => ⟨S16x3x256x129, .f32⟩

abbrev hbmTy (i : Nat) : BufTy := match i / 128 with
  | 0 => hbmTy0_0 i
  | 1 => hbmTy0_1 i
  | 2 => hbmTy0_2 i
  | _ => ⟨S16x3x256x129, .f32⟩

abbrev bufTy : (tb : Table) → Fin (tcTables nBuf tb) → BufTy
  | .hbm, ⟨i, _⟩ => hbmTy i
  | _, _ => ⟨S16x3x256x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_cst_1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_2 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_3 : Ref sig .tc := ⟨.hbm, 52, rfl⟩
abbrev main_v17 : Ref sig .tc := ⟨.hbm, 53, rfl⟩
abbrev main_cst_4 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_5 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_c_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v24 : Ref sig .tc := ⟨.hbm, 69, rfl⟩
abbrev main_v25 : Ref sig .tc := ⟨.hbm, 70, rfl⟩
abbrev main_cst_8 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_9 : Ref sig .tc := ⟨.hbm, 75, rfl⟩
abbrev main_v29 : Ref sig .tc := ⟨.hbm, 76, rfl⟩
abbrev main_v30 : Ref sig .tc := ⟨.hbm, 77, rfl⟩
abbrev main_cst_10 : Ref sig .tc := ⟨.hbm, 78, rfl⟩
abbrev main_v31 : Ref sig .tc := ⟨.hbm, 79, rfl⟩
abbrev main_v32 : Ref sig .tc := ⟨.hbm, 80, rfl⟩
abbrev main_cst_11 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_12 : Ref sig .tc := ⟨.hbm, 85, rfl⟩
abbrev main_c_13 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v39 : Ref sig .tc := ⟨.hbm, 100, rfl⟩
abbrev main_cst_14 : Ref sig .tc := ⟨.hbm, 101, rfl⟩
abbrev main_v40 : Ref sig .tc := ⟨.hbm, 102, rfl⟩
abbrev main_cst_15 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_16 : Ref sig .tc := ⟨.hbm, 110, rfl⟩
abbrev main_cst_17 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_v47 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v48 : Ref sig .tc := ⟨.hbm, 123, rfl⟩
abbrev main_cst_18 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_20 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_cst_21 : Ref sig .tc := ⟨.hbm, 145, rfl⟩
abbrev main_v64 : Ref sig .tc := ⟨.hbm, 146, rfl⟩
abbrev main_v65 : Ref sig .tc := ⟨.hbm, 147, rfl⟩
abbrev main_cst_22 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_cst_23 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_c_24 : Ref sig .tc := ⟨.hbm, 164, rfl⟩
abbrev main_call7_v0 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_cst_25 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_call8_cst : Ref sig .tc := ⟨.hbm, 210, rfl⟩
abbrev main_call8_v0 : Ref sig .tc := ⟨.hbm, 211, rfl⟩
abbrev main_v123 : Ref sig .tc := ⟨.hbm, 212, rfl⟩
abbrev main_c_26 : Ref sig .tc := ⟨.hbm, 213, rfl⟩
abbrev main_call9_v0 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_cst_27 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_call10_cst : Ref sig .tc := ⟨.hbm, 259, rfl⟩
abbrev main_call10_v0 : Ref sig .tc := ⟨.hbm, 260, rfl⟩
abbrev main_v167 : Ref sig .tc := ⟨.hbm, 261, rfl⟩
abbrev main_cst_28 : Ref sig .tc := ⟨.hbm, 262, rfl⟩
abbrev main_v168 : Ref sig .tc := ⟨.hbm, 263, rfl⟩
abbrev main_cst_29 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_cst_30 : Ref sig .tc := ⟨.hbm, 274, rfl⟩
abbrev main_v178 : Ref sig .tc := ⟨.hbm, 275, rfl⟩
abbrev main_v179 : Ref sig .tc := ⟨.hbm, 276, rfl⟩
abbrev main_cst_31 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_cst_32 : Ref sig .tc := ⟨.hbm, 283, rfl⟩
abbrev main_v185 : Ref sig .tc := ⟨.hbm, 284, rfl⟩
abbrev main_v186 : Ref sig .tc := ⟨.hbm, 285, rfl⟩
abbrev main_cst_33 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_cst_34 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_call11_cst : Ref sig .tc := ⟨.hbm, 303, rfl⟩
abbrev main_call11_v0 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_cst_35 : Ref sig .tc := ⟨.hbm, 311, rfl⟩
abbrev main_cst_36 : Ref sig .tc := ⟨.hbm, 312, rfl⟩
abbrev main_call12_v0 : Ref sig .tc := ⟨.hbm, 313, rfl⟩
abbrev main_call12_v1 : Ref sig .tc := ⟨.hbm, 314, rfl⟩
abbrev main_call12_v2 : Ref sig .tc := ⟨.hbm, 315, rfl⟩
abbrev main_call12_v3 : Ref sig .tc := ⟨.hbm, 316, rfl⟩
abbrev main_call12_v4 : Ref sig .tc := ⟨.hbm, 317, rfl⟩
abbrev main_v208 : Ref sig .tc := ⟨.hbm, 318, rfl⟩

abbrev nD : Nat := 1
abbrev τ : Topo := Topo.v7x

variable {F : FTy → Type} [FloatOps F]
-- ==== Kernel3.lean ====
abbrev S16x3x256x256 : Shape := ⟨4, ![16, 3, 256, 256]⟩
abbrev S256x129 : Shape := ⟨2, ![256, 129]⟩
abbrev S256x256 : Shape := ⟨2, ![256, 256]⟩
abbrev S256x512 : Shape := ⟨2, ![256, 512]⟩
abbrev S_ : Shape := ⟨0, ![]⟩
abbrev S256 : Shape := ⟨1, ![256]⟩
abbrev S1x256 : Shape := ⟨2, ![1, 256]⟩
abbrev S129 : Shape := ⟨1, ![129]⟩
abbrev S129x1 : Shape := ⟨2, ![129, 1]⟩
abbrev S129x256 : Shape := ⟨2, ![129, 256]⟩
abbrev S16x3x256x129 : Shape := ⟨4, ![16, 3, 256, 129]⟩
abbrev S1x3x256x256 : Shape := ⟨4, ![1, 3, 256, 256]⟩
abbrev S1x3x256x129 : Shape := ⟨4, ![1, 3, 256, 129]⟩
abbrev S1x1x256x256 : Shape := ⟨4, ![1, 1, 256, 256]⟩
abbrev S512x129 : Shape := ⟨2, ![512, 129]⟩
abbrev S1x1x256x129 : Shape := ⟨4, ![1, 1, 256, 129]⟩

abbrev nBuf : Space → Nat
  | .hbm => 88
  | .vmem => 14
  | .smem => 0
  | _ => 0

abbrev bufTy : (tb : Table) → Fin (tcTables nBuf tb) → BufTy
  | .hbm, ⟨0, _⟩ => ⟨S16x3x256x256, .f32⟩
  | .hbm, ⟨1, _⟩ => ⟨S256x129, .f32⟩
  | .hbm, ⟨2, _⟩ => ⟨S256x129, .f32⟩
  | .hbm, ⟨3, _⟩ => ⟨S256x256, .f32⟩
  | .hbm, ⟨4, _⟩ => ⟨S256x256, .f32⟩
  | .hbm, ⟨5, _⟩ => ⟨S256x129, .f32⟩
  | .hbm, ⟨6, _⟩ => ⟨S256x129, .f32⟩
  | .hbm, ⟨7, _⟩ => ⟨S256x512, .f32⟩
  | .hbm, ⟨8, _⟩ => ⟨S256x256, .f32⟩
  | .hbm, ⟨9, _⟩ => ⟨S256x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S1x256, .f32⟩
  | .hbm, ⟨27, _⟩ => ⟨S129, .f32⟩
  | .hbm, ⟨28, _⟩ => ⟨S129x1, .f32⟩
  | .hbm, ⟨29, _⟩ => ⟨S129x256, .f32⟩
  | .hbm, ⟨30, _⟩ => ⟨S129x256, .f32⟩
  | .hbm, ⟨31, _⟩ => ⟨S129x256, .f32⟩
  | .hbm, ⟨32, _⟩ => ⟨S129x256, .f32⟩
  | .hbm, ⟨33, _⟩ => ⟨S_, .f32⟩
  | .hbm, ⟨34, _⟩ => ⟨S129x256, .f32⟩
  | .hbm, ⟨35, _⟩ => ⟨S129x256, .f32⟩
  | .hbm, ⟨36, _⟩ => ⟨S129x256, .f32⟩
  | .hbm, ⟨37, _⟩ => ⟨S_, .f32⟩
  | .hbm, ⟨38, _⟩ => ⟨S129x256, .f32⟩
  | .hbm, ⟨39, _⟩ => ⟨S129x256, .f32⟩
  | .hbm, ⟨40, _⟩ => ⟨S_, .f32⟩
  | .hbm, ⟨41, _⟩ => ⟨S129x256, .f32⟩
  | .hbm, ⟨42, _⟩ => ⟨S129x256, .f32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .i1⟩
  | .hbm, ⟨50, _⟩ => ⟨S_, .f32⟩
  | .hbm, ⟨51, _⟩ => ⟨S1x256, .f32⟩
  | .hbm, ⟨52, _⟩ => ⟨S1x256, .i1⟩
  | .hbm, ⟨53, _⟩ => ⟨S_, .i32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S129x256, .f32⟩
  | .hbm, ⟨58, _⟩ => ⟨S129x256, .f32⟩
  | .hbm, ⟨59, _⟩ => ⟨S_, .i32⟩
  | .hbm, ⟨60, _⟩ => ⟨S_, .f32⟩
  | .hbm, ⟨61, _⟩ => ⟨S129x256, .i1⟩
  | .hbm, ⟨62, _⟩ => ⟨S129x256, .f32⟩
  | .hbm, ⟨63, _⟩ => ⟨S129x256, .f32⟩
  | .hbm, ⟨64, _⟩ => ⟨S_, .f32⟩
  | .hbm, ⟨65, _⟩ => ⟨S256, .f32⟩
  | .hbm, ⟨66, _⟩ => ⟨S256, .i1⟩
  | .hbm, ⟨67, _⟩ => ⟨S_, .f32⟩
  | .hbm, ⟨68, _⟩ => ⟨S256, .f32⟩
  | .hbm, ⟨69, _⟩ => ⟨S256, .i1⟩
  | .hbm, ⟨70, _⟩ => ⟨S256, .i1⟩
  | .hbm, ⟨71, _⟩ => ⟨S1x256, .i1⟩
  | .hbm, ⟨72, _⟩ => ⟨S_, .i32⟩
  | .hbm, ⟨73, _⟩ => ⟨S_, .f32⟩
  | .hbm, ⟨74, _⟩ => ⟨S129x256, .i1⟩
  | .hbm, ⟨75, _⟩ => ⟨S129x256, .f32⟩
  | .hbm, ⟨76, _⟩ => ⟨S129x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16x3x256x256, .f32⟩
  | .hbm, ⟨81, _⟩ => ⟨S16x3x256x256, .f32⟩
  | .hbm, ⟨82, _⟩ => ⟨S_, .f32⟩
  | .hbm, ⟨83, _⟩ => ⟨S16x3x256x256, .f32⟩
  | .hbm, ⟨84, _⟩ => ⟨S16x3x256x256, .f32⟩
  | .hbm, ⟨85, _⟩ => ⟨S16x3x256x129, .f32⟩
  | .hbm, ⟨86, _⟩ => ⟨S16x3x256x256, .f32⟩
  | .hbm, ⟨87, _⟩ => ⟨S16x3x256x256, .f32⟩
  | .local _ .vmem, ⟨0, _⟩ => ⟨S1x3x256x256, .f32⟩
  | .local _ .vmem, ⟨1, _⟩ => ⟨S1x3x256x256, .f32⟩
  | .local _ .vmem, ⟨2, _⟩ => ⟨S256x129, .f32⟩
  | .local _ .vmem, ⟨3, _⟩ => ⟨S256x129, .f32⟩
  | .local _ .vmem, ⟨4, _⟩ => ⟨S256x512, .f32⟩
  | .local _ .vmem, ⟨5, _⟩ => ⟨S256x512, .f32⟩
  | .local _ .vmem, ⟨6, _⟩ => ⟨S129x256, .f32⟩
  | .local _ .vmem, ⟨7, _⟩ => ⟨S256x129, .f32⟩
  | .local _ .vmem, ⟨8, _⟩ => ⟨S1x3x256x129, .f32⟩
  | .local _ .vmem, ⟨9, _⟩ => ⟨S1x3x256x129, .f32⟩
  | .local _ .vmem, ⟨10, _⟩ => ⟨S1x3x256x256, .f32⟩
  | .local _ .vmem, ⟨11, _⟩ => ⟨S1x3x256x256, .f32⟩
  | .local _ .vmem, ⟨12, _⟩ => ⟨S1x3x256x256, .f32⟩
  | .local _ .vmem, ⟨13, _⟩ => ⟨S1x3x256x256, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_14 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v46 : Ref sig .tc := ⟨.hbm, 76, rfl⟩
abbrev main_cst_15 : Ref sig .tc := ⟨.hbm, 77, rfl⟩
abbrev main_cst_16 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v47 : Ref sig .tc := ⟨.hbm, 84, rfl⟩
abbrev main_v48_0 : Ref sig .tc := ⟨.hbm, 85, rfl⟩
abbrev main_v48_1 : Ref sig .tc := ⟨.hbm, 86, rfl⟩
abbrev main_v48_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x129 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S129x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x129 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x3x256x129 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "inv_pi" => some ((4194304 / 13176795 : ℝ) : EReal)
  | _ => none
-- ==== Reference3Ideal.lean ====
abbrev S16x3x256x256 : Shape := ⟨4, ![16, 3, 256, 256]⟩
abbrev S256x129 : Shape := ⟨2, ![256, 129]⟩
abbrev S256x256 : Shape := ⟨2, ![256, 256]⟩
abbrev S_ : Shape := ⟨0, ![]⟩
abbrev S16x3x256x129 : Shape := ⟨4, ![16, 3, 256, 129]⟩
abbrev S16x3x129x256 : Shape := ⟨4, ![16, 3, 129, 256]⟩
abbrev S256 : Shape := ⟨1, ![256]⟩
abbrev S256x1 : Shape := ⟨2, ![256, 1]⟩
abbrev S129 : Shape := ⟨1, ![129]⟩
abbrev S1x129 : Shape := ⟨2, ![1, 129]⟩
abbrev S1x256 : Shape := ⟨2, ![1, 256]⟩
abbrev S129x1 : Shape := ⟨2, ![129, 1]⟩
abbrev S129x256 : Shape := ⟨2, ![129, 256]⟩

abbrev nBuf : Space → Nat
  | .hbm => 220
  | .vmem => 0
  | .smem => 0
  | _ => 0

abbrev hbmTy0_0 (i : Nat) : BufTy := match i % 128 with
  | 0 => ⟨S16x3x256x256, .f32⟩
  | 1 => ⟨S256x129, .f32⟩
  | 2 => ⟨S256x129, .f32⟩
  | 3 => ⟨S256x256, .f32⟩
  | 4 => ⟨S256x256, .f32⟩
  | 5 => ⟨S_, .f32⟩
  | 6 => ⟨S_, .f32⟩
  | 7 => ⟨S_, .f32⟩
  | 8 => ⟨S16x3x256x256, .f32⟩
  | 9 => ⟨S16x3x256x256, .f32⟩
  | 10 => ⟨S_, .f32⟩
  | 11 => ⟨S16x3x256x256, .f32⟩
  | 12 => ⟨S16x3x256x256, .f32⟩
  | 13 => ⟨S16x3x256x129, .f32⟩
  | 14 => ⟨S256x129, .f32⟩
  | 15 => ⟨S16x3x256x129, .f32⟩
  | 16 => ⟨S16x3x129x256, .f32⟩
  | 17 => ⟨S16x3x129x256, .f32⟩
  | 18 => ⟨S16x3x129x256, .f32⟩
  | 19 => ⟨S16x3x129x256, .f32⟩
  | 20 => ⟨S256x256, .f32⟩
  | 21 => ⟨S16x3x129x256, .f32⟩
  | 22 => ⟨S16x3x129x256, .f32⟩
  | 23 => ⟨S16x3x256x129, .f32⟩
  | 24 => ⟨S16x3x256x129, .f32⟩
  | 25 => ⟨S256, .i32⟩
  | 26 => ⟨S256x1, .i32⟩
  | 27 => ⟨S129, .i32⟩
  | 28 => ⟨S1x129, .i32⟩
  | 29 => ⟨S_, .i32⟩
  | 30 => ⟨S256x1, .i32⟩
  | 31 => ⟨S256x1, .i1⟩
  | 32 => ⟨S_, .i32⟩
  | 33 => ⟨S256x1, .i32⟩
  | 34 => ⟨S256x1, .i1⟩
  | 35 => ⟨S256x1, .i1⟩
  | 36 => ⟨S_, .i32⟩
  | 37 => ⟨S1x129, .i32⟩
  | 38 => ⟨S1x129, .i1⟩
  | 39 => ⟨S_, .i32⟩
  | 40 => ⟨S1x129, .i32⟩
  | 41 => ⟨S1x129, .i1⟩
  | 42 => ⟨S1x129, .i1⟩
  | 43 => ⟨S256x129, .i1⟩
  | 44 => ⟨S256x129, .i1⟩
  | 45 => ⟨S256x129, .i1⟩
  | 46 => ⟨S_, .f32⟩
  | 47 => ⟨S_, .f32⟩
  | 48 => ⟨S16x3x256x129, .i1⟩
  | 49 => ⟨S16x3x256x129, .f32⟩
  | 50 => ⟨S16x3x256x129, .f32⟩
  | 51 => ⟨S16x3x256x129, .f32⟩
  | 52 => ⟨S16x3x256x129, .f32⟩
  | 53 => ⟨S16x3x256x129, .f32⟩
  | 54 => ⟨S16x3x256x129, .f32⟩
  | 55 => ⟨S_, .f32⟩
  | 56 => ⟨S_, .f32⟩
  | 57 => ⟨S_, .f32⟩
  | 58 => ⟨S16x3x256x129, .f32⟩
  | 59 => ⟨S16x3x256x129, .f32⟩
  | 60 => ⟨S_, .f32⟩
  | 61 => ⟨S16x3x256x129, .f32⟩
  | 62 => ⟨S16x3x256x129, .f32⟩
  | 63 => ⟨S16x3x256x129, .f32⟩
  | 64 => ⟨S_, .f32⟩
  | 65 => ⟨S_, .f32⟩
  | 66 => ⟨S_, .f32⟩
  | 67 => ⟨S16x3x256x129, .f32⟩
  | 68 => ⟨S16x3x256x129, .f32⟩
  | 69 => ⟨S_, .f32⟩
  | 70 => ⟨S16x3x256x129, .f32⟩
  | 71 => ⟨S16x3x256x129, .f32⟩
  | 72 => ⟨S16x3x256x129, .f32⟩
  | 73 => ⟨S_, .f32⟩
  | 74 => ⟨S16x3x256x129, .f32⟩
  | 75 => ⟨S16x3x256x129, .f32⟩
  | 76 => ⟨S_, .f32⟩
  | 77 => ⟨S_, .f32⟩
  | 78 => ⟨S_, .f32⟩
  | 79 => ⟨S16x3x256x129, .f32⟩
  | 80 => ⟨S16x3x256x129, .f32⟩
  | 81 => ⟨S_, .f32⟩
  | 82 => ⟨S16x3x256x129, .f32⟩
  | 83 => ⟨S16x3x256x129, .f32⟩
  | 84 => ⟨S_, .f32⟩
  | 85 => ⟨S_, .f32⟩
  | 86 => ⟨S_, .f32⟩
  | 87 => ⟨S256, .f32⟩
  | 88 => ⟨S_, .f32⟩
  | 89 => ⟨S256, .f32⟩
  | 90 => ⟨S256, .f32⟩
  | 91 => ⟨S_, .f32⟩
  | 92 => ⟨S256, .f32⟩
  | 93 => ⟨S256, .f32⟩
  | 94 => ⟨S_, .f32⟩
  | 95 => ⟨S256, .f32⟩
  | 96 => ⟨S256, .f32⟩
  | 97 => ⟨S_, .f32⟩
  | 98 => ⟨S256, .f32⟩
  | 99 => ⟨S256, .f32⟩
  | 100 => ⟨S129, .f32⟩
  | 101 => ⟨S1x256, .f32⟩
  | 102 => ⟨S129x1, .f32⟩
  | 103 => ⟨S129x256, .f32⟩
  | 104 => ⟨S129x256, .f32⟩
  | 105 => ⟨S129x256, .f32⟩
  | 106 => ⟨S129x256, .f32⟩
  | 107 => ⟨S_, .f32⟩
  | 108 => ⟨S129x256, .f32⟩
  | 109 => ⟨S129x256, .f32⟩
  | 110 => ⟨S129x256, .f32⟩
  | 111 => ⟨S_, .f32⟩
  | 112 => ⟨S129x256, .f32⟩
  | 113 => ⟨S129x256, .f32⟩
  | 114 => ⟨S_, .f32⟩
  | 115 => ⟨S129x256, .f32⟩
  | 116 => ⟨S129x256, .f32⟩
  | 117 => ⟨S_, .f32⟩
  | 118 => ⟨S256, .f32⟩
  | 119 => ⟨S1x256, .f32⟩
  | 120 => ⟨S1x256, .f32⟩
  | 121 => ⟨S_, .f32⟩
  | 122 => ⟨S1x256, .f32⟩
  | 123 => ⟨S1x256, .i1⟩
  | 124 => ⟨S_, .f32⟩
  | 125 => ⟨S1x256, .f32⟩
  | 126 => ⟨S1x256, .i1⟩
  | 127 => ⟨S_, .i32⟩
  | _ => ⟨S16x3x256x256, .f32⟩

abbrev hbmTy0_1 (i : Nat) : BufTy := match i % 128 with
  | 0 => ⟨S_, .f32⟩
  | 1 => ⟨S1x256, .f32⟩
  | 2 => ⟨S1x256, .f32⟩
  | 3 => ⟨S129x256, .f32⟩
  | 4 => ⟨S129x256, .f32⟩
  | 5 => ⟨S_, .i32⟩
  | 6 => ⟨S_, .f32⟩
  | 7 => ⟨S129x256, .i1⟩
  | 8 => ⟨S129x256, .f32⟩
  | 9 => ⟨S129x256, .f32⟩
  | 10 => ⟨S_, .f32⟩
  | 11 => ⟨S256, .f32⟩
  | 12 => ⟨S256, .i1⟩
  | 13 => ⟨S_, .f32⟩
  | 14 => ⟨S256, .f32⟩
  | 15 => ⟨S256, .i1⟩
  | 16 => ⟨S256, .i1⟩
  | 17 => ⟨S1x256, .i1⟩
  | 18 => ⟨S_, .i32⟩
  | 19 => ⟨S_, .f32⟩
  | 20 => ⟨S129x256, .i1⟩
  | 21 => ⟨S129x256, .f32⟩
  | 22 => ⟨S129x256, .f32⟩
  | 23 => ⟨S16x3x256x256, .f32⟩
  | 24 => ⟨S_, .f32⟩
  | 25 => ⟨S_, .f32⟩
  | 26 => ⟨S_, .f32⟩
  | 27 => ⟨S256, .f32⟩
  | 28 => ⟨S_, .f32⟩
  | 29 => ⟨S256, .f32⟩
  | 30 => ⟨S256, .f32⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S_, .f32⟩
  | 38 => ⟨S256, .f32⟩
  | 39 => ⟨S256, .f32⟩
  | 40 => ⟨S129, .f32⟩
  | 41 => ⟨S1x256, .f32⟩
  | 42 => ⟨S129x1, .f32⟩
  | 43 => ⟨S129x256, .f32⟩
  | 44 => ⟨S129x256, .f32⟩
  | 45 => ⟨S129x256, .f32⟩
  | 46 => ⟨S129x256, .f32⟩
  | 47 => ⟨S_, .f32⟩
  | 48 => ⟨S129x256, .f32⟩
  | 49 => ⟨S129x256, .f32⟩
  | 50 => ⟨S129x256, .f32⟩
  | 51 => ⟨S_, .f32⟩
  | 52 => ⟨S129x256, .f32⟩
  | 53 => ⟨S129x256, .f32⟩
  | 54 => ⟨S_, .f32⟩
  | 55 => ⟨S129x256, .f32⟩
  | 56 => ⟨S129x256, .f32⟩
  | 57 => ⟨S_, .f32⟩
  | 58 => ⟨S256, .f32⟩
  | 59 => ⟨S1x256, .f32⟩
  | 60 => ⟨S1x256, .f32⟩
  | 61 => ⟨S_, .f32⟩
  | 62 => ⟨S1x256, .f32⟩
  | 63 => ⟨S1x256, .i1⟩
  | 64 => ⟨S_, .f32⟩
  | 65 => ⟨S1x256, .f32⟩
  | 66 => ⟨S1x256, .i1⟩
  | 67 => ⟨S_, .i32⟩
  | 68 => ⟨S_, .f32⟩
  | 69 => ⟨S1x256, .f32⟩
  | 70 => ⟨S1x256, .f32⟩
  | 71 => ⟨S129x256, .f32⟩
  | 72 => ⟨S129x256, .f32⟩
  | 73 => ⟨S_, .i32⟩
  | 74 => ⟨S_, .f32⟩
  | 75 => ⟨S129x256, .i1⟩
  | 76 => ⟨S129x256, .f32⟩
  | 77 => ⟨S129x256, .f32⟩
  | 78 => ⟨S_, .f32⟩
  | 79 => ⟨S256, .f32⟩
  | 80 => ⟨S256, .i1⟩
  | 81 => ⟨S_, .f32⟩
  | 82 => ⟨S256, .f32⟩
  | 83 => ⟨S256, .i1⟩
  | 84 => ⟨S256, .i1⟩
  | 85 => ⟨S1x256, .i1⟩
  | 86 => ⟨S_, .i32⟩
  | 87 => ⟨S_, .f32⟩
  | 88 => ⟨S129x256, .i1⟩
  | 89 => ⟨S129x256, .f32⟩
  | 90 => ⟨S129x256, .f32⟩
  | 91 => ⟨S16x3x256x256, .f32⟩
  | _ => ⟨S16x3x256x256, .f32⟩

abbrev hbmTy (i : Nat) : BufTy := match i / 128 with
  | 0 => hbmTy0_0 i
  | 1 => hbmTy0_1 i
  | _ => ⟨S16x3x256x256, .f32⟩

abbrev bufTy : (tb : Table) → Fin (tcTables nBuf tb) → BufTy
  | .hbm, ⟨i, _⟩ => hbmTy i
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_cst_8 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v37 : Ref sig .tc := ⟨.hbm, 71, rfl⟩
abbrev main_v38 : Ref sig .tc := ⟨.hbm, 72, rfl⟩
abbrev main_cst_9 : Ref sig .tc := ⟨.hbm, 73, rfl⟩
abbrev main_v39 : Ref sig .tc := ⟨.hbm, 74, rfl⟩
abbrev main_v40 : Ref sig .tc := ⟨.hbm, 75, rfl⟩
abbrev main_cst_10 : Ref sig .tc := ⟨.hbm, 76, rfl⟩
abbrev main_cst_11 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_v41 : Ref sig .tc := ⟨.hbm, 83, rfl⟩
abbrev main_call5_cst : Ref sig .tc := ⟨.hbm, 84, rfl⟩
abbrev main_call5_cst_0 : Ref sig .tc := ⟨.hbm, 85, rfl⟩
abbrev main_call5_v0 : Ref sig .tc := ⟨.hbm, 86, rfl⟩
abbrev main_call5_v1 : Ref sig .tc := ⟨.hbm, 87, rfl⟩
abbrev main_call5_cst_1 : Ref sig .tc := ⟨.hbm, 88, rfl⟩
abbrev main_call5_v2 : Ref sig .tc := ⟨.hbm, 89, rfl⟩
abbrev main_call5_v3 : Ref sig .tc := ⟨.hbm, 90, rfl⟩
abbrev main_call5_cst_2 : Ref sig .tc := ⟨.hbm, 91, rfl⟩
abbrev main_call5_v4 : Ref sig .tc := ⟨.hbm, 92, rfl⟩
abbrev main_call5_v5 : Ref sig .tc := ⟨.hbm, 93, rfl⟩
abbrev main_call5_cst_3 : Ref sig .tc := ⟨.hbm, 94, rfl⟩
abbrev main_call5_v6 : Ref sig .tc := ⟨.hbm, 95, rfl⟩
abbrev main_call5_v7 : Ref sig .tc := ⟨.hbm, 96, rfl⟩
abbrev main_call5_cst_4 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_v12 : Ref sig .tc := ⟨.hbm, 102, rfl⟩
abbrev main_call5_v13 : Ref sig .tc := ⟨.hbm, 103, rfl⟩
abbrev main_call5_v14 : Ref sig .tc := ⟨.hbm, 104, rfl⟩
abbrev main_call5_v15 : Ref sig .tc := ⟨.hbm, 105, rfl⟩
abbrev main_call5_v16 : Ref sig .tc := ⟨.hbm, 106, rfl⟩
abbrev main_call5_v17 : Ref sig .tc := ⟨.hbm, 107, rfl⟩
abbrev main_call5_v18 : Ref sig .tc := ⟨.hbm, 108, rfl⟩
abbrev main_call5_v19 : Ref sig .tc := ⟨.hbm, 109, rfl⟩
abbrev main_call5_v20 : Ref sig .tc := ⟨.hbm, 110, rfl⟩
abbrev main_call5_cst_5 : Ref sig .tc := ⟨.hbm, 111, rfl⟩
abbrev main_call5_v21 : Ref sig .tc := ⟨.hbm, 112, rfl⟩
abbrev main_call5_v22 : Ref sig .tc := ⟨.hbm, 113, rfl⟩
abbrev main_call5_cst_6 : Ref sig .tc := ⟨.hbm, 114, rfl⟩
abbrev main_call5_v23 : Ref sig .tc := ⟨.hbm, 115, rfl⟩
abbrev main_call5_v24 : Ref sig .tc := ⟨.hbm, 116, rfl⟩
abbrev main_call5_cst_7 : Ref sig .tc := ⟨.hbm, 117, rfl⟩
abbrev main_call5_v25 : Ref sig .tc := ⟨.hbm, 118, rfl⟩
abbrev main_call5_v26 : Ref sig .tc := ⟨.hbm, 119, rfl⟩
abbrev main_call5_v27 : Ref sig .tc := ⟨.hbm, 120, rfl⟩
abbrev main_call5_cst_8 : Ref sig .tc := ⟨.hbm, 121, rfl⟩
abbrev main_call5_v28 : Ref sig .tc := ⟨.hbm, 122, rfl⟩
abbrev main_call5_v29 : Ref sig .tc := ⟨.hbm, 123, rfl⟩
abbrev main_call5_cst_9 : Ref sig .tc := ⟨.hbm, 124, rfl⟩
abbrev main_call5_v30 : Ref sig .tc := ⟨.hbm, 125, rfl⟩
abbrev main_call5_v31 : Ref sig .tc := ⟨.hbm, 126, rfl⟩
abbrev main_call5_c : Ref sig .tc := ⟨.hbm, 127, rfl⟩
abbrev main_call5_call0_v0 : Ref sig .tc := ⟨.hbm, 128, rfl⟩
abbrev main_call5_call0_v1 : Ref sig .tc := ⟨.hbm, 129, rfl⟩
abbrev main_call5_v32 : Ref sig .tc := ⟨.hbm, 130, rfl⟩
abbrev main_call5_v33 : Ref sig .tc := ⟨.hbm, 131, rfl⟩
abbrev main_call5_v34 : Ref sig .tc := ⟨.hbm, 132, rfl⟩
abbrev main_call5_c_10 : Ref sig .tc := ⟨.hbm, 133, rfl⟩
abbrev main_call5_call1_v0 : Ref sig .tc := ⟨.hbm, 134, rfl⟩
abbrev main_call5_call1_v1 : Ref sig .tc := ⟨.hbm, 135, rfl⟩
abbrev main_call5_call1_v2 : Ref sig .tc := ⟨.hbm, 136, rfl⟩
abbrev main_call5_v35 : Ref sig .tc := ⟨.hbm, 137, rfl⟩
abbrev main_call5_cst_11 : Ref sig .tc := ⟨.hbm, 138, rfl⟩
abbrev main_call5_v36 : Ref sig .tc := ⟨.hbm, 139, rfl⟩
abbrev main_call5_v37 : Ref sig .tc := ⟨.hbm, 140, rfl⟩
abbrev main_call5_cst_12 : Ref sig .tc := ⟨.hbm, 141, rfl⟩
abbrev main_call5_v38 : Ref sig .tc := ⟨.hbm, 142, rfl⟩
abbrev main_call5_v39 : Ref sig .tc := ⟨.hbm, 143, rfl⟩
abbrev main_call5_v40 : Ref sig .tc := ⟨.hbm, 144, rfl⟩
abbrev main_call5_v41 : Ref sig .tc := ⟨.hbm, 145, rfl⟩
abbrev main_call5_c_13 : Ref sig .tc := ⟨.hbm, 146, rfl⟩
abbrev main_call5_call2_v0 : Ref sig .tc := ⟨.hbm, 147, rfl⟩
abbrev main_call5_call2_v1 : Ref sig .tc := ⟨.hbm, 148, rfl⟩
abbrev main_call5_call2_v2 : Ref sig .tc := ⟨.hbm, 149, rfl⟩
abbrev main_call5_v42 : Ref sig .tc := ⟨.hbm, 150, rfl⟩
abbrev main_v42 : Ref sig .tc := ⟨.hbm, 151, rfl⟩
abbrev main_call6_cst : Ref sig .tc := ⟨.hbm, 152, rfl⟩
abbrev main_call6_cst_0 : Ref sig .tc := ⟨.hbm, 153, rfl⟩
abbrev main_call6_v0 : Ref sig .tc := ⟨.hbm, 154, rfl⟩
abbrev main_call6_v1 : Ref sig .tc := ⟨.hbm, 155, rfl⟩
abbrev main_call6_cst_1 : Ref sig .tc := ⟨.hbm, 156, rfl⟩
abbrev main_call6_v2 : Ref sig .tc := ⟨.hbm, 157, rfl⟩
abbrev main_call6_v3 : Ref sig .tc := ⟨.hbm, 158, rfl⟩
abbrev main_call6_cst_2 : Ref sig .tc := ⟨.hbm, 159, rfl⟩
abbrev main_call6_v4 : Ref sig .tc := ⟨.hbm, 160, rfl⟩
abbrev main_call6_v5 : Ref sig .tc := ⟨.hbm, 161, rfl⟩
abbrev main_call6_cst_3 : Ref sig .tc := ⟨.hbm, 162, rfl⟩
abbrev main_call6_v6 : Ref sig .tc := ⟨.hbm, 163, rfl⟩
abbrev main_call6_v7 : Ref sig .tc := ⟨.hbm, 164, rfl⟩
abbrev main_call6_cst_4 : Ref sig .tc := ⟨.hbm, 165, rfl⟩
abbrev main_call6_v8 : Ref sig .tc := ⟨.hbm, 166, rfl⟩
abbrev main_call6_v9 : Ref sig .tc := ⟨.hbm, 167, rfl⟩
abbrev main_call6_v10 : Ref sig .tc := ⟨.hbm, 168, rfl⟩
abbrev main_call6_v11 : Ref sig .tc := ⟨.hbm, 169, rfl⟩
abbrev main_call6_v12 : Ref sig .tc := ⟨.hbm, 170, rfl⟩
abbrev main_call6_v13 : Ref sig .tc := ⟨.hbm, 171, rfl⟩
abbrev main_call6_v14 : Ref sig .tc := ⟨.hbm, 172, rfl⟩
abbrev main_call6_v15 : Ref sig .tc := ⟨.hbm, 173, rfl⟩
abbrev main_call6_v16 : Ref sig .tc := ⟨.hbm, 174, rfl⟩
abbrev main_call6_v17 : Ref sig .tc := ⟨.hbm, 175, rfl⟩
abbrev main_call6_v18 : Ref sig .tc := ⟨.hbm, 176, rfl⟩
abbrev main_call6_v19 : Ref sig .tc := ⟨.hbm, 177, rfl⟩
abbrev main_call6_v20 : Ref sig .tc := ⟨.hbm, 178, rfl⟩
abbrev main_call6_cst_5 : Ref sig .tc := ⟨.hbm, 179, rfl⟩
abbrev main_call6_v21 : Ref sig .tc := ⟨.hbm, 180, rfl⟩
abbrev main_call6_v22 : Ref sig .tc := ⟨.hbm, 181, rfl⟩
abbrev main_call6_cst_6 : Ref sig .tc := ⟨.hbm, 182, rfl⟩
abbrev main_call6_v23 : Ref sig .tc := ⟨.hbm, 183, rfl⟩
abbrev main_call6_v24 : Ref sig .tc := ⟨.hbm, 184, rfl⟩
abbrev main_call6_cst_7 : Ref sig .tc := ⟨.hbm, 185, rfl⟩
abbrev main_call6_v25 : Ref sig .tc := ⟨.hbm, 186, rfl⟩
abbrev main_call6_v26 : Ref sig .tc := ⟨.hbm, 187, rfl⟩
abbrev main_call6_v27 : Ref sig .tc := ⟨.hbm, 188, rfl⟩
abbrev main_call6_cst_8 : Ref sig .tc := ⟨.hbm, 189, rfl⟩
abbrev main_call6_v28 : Ref sig .tc := ⟨.hbm, 190, rfl⟩
abbrev main_call6_v29 : Ref sig .tc := ⟨.hbm, 191, rfl⟩
abbrev main_call6_cst_9 : Ref sig .tc := ⟨.hbm, 192, rfl⟩
abbrev main_call6_v30 : Ref sig .tc := ⟨.hbm, 193, rfl⟩
abbrev main_call6_v31 : Ref sig .tc := ⟨.hbm, 194, rfl⟩
abbrev main_call6_c : Ref sig .tc := ⟨.hbm, 195, rfl⟩
abbrev main_call6_call0_v0 : Ref sig .tc := ⟨.hbm, 196, rfl⟩
abbrev main_call6_call0_v1 : Ref sig .tc := ⟨.hbm, 197, rfl⟩
abbrev main_call6_v32 : Ref sig .tc := ⟨.hbm, 198, rfl⟩
abbrev main_call6_v33 : Ref sig .tc := ⟨.hbm, 199, rfl⟩
abbrev main_call6_v34 : Ref sig .tc := ⟨.hbm, 200, rfl⟩
abbrev main_call6_c_10 : Ref sig .tc := ⟨.hbm, 201, rfl⟩
abbrev main_call6_call1_v0 : Ref sig .tc := ⟨.hbm, 202, rfl⟩
abbrev main_call6_call1_v1 : Ref sig .tc := ⟨.hbm, 203, rfl⟩
abbrev main_call6_call1_v2 : Ref sig .tc := ⟨.hbm, 204, rfl⟩
abbrev main_call6_v35 : Ref sig .tc := ⟨.hbm, 205, rfl⟩
abbrev main_call6_cst_11 : Ref sig .tc := ⟨.hbm, 206, rfl⟩
abbrev main_call6_v36 : Ref sig .tc := ⟨.hbm, 207, rfl⟩
abbrev main_call6_v37 : Ref sig .tc := ⟨.hbm, 208, rfl⟩
abbrev main_call6_cst_12 : Ref sig .tc := ⟨.hbm, 209, rfl⟩
abbrev main_call6_v38 : Ref sig .tc := ⟨.hbm, 210, rfl⟩
abbrev main_call6_v39 : Ref sig .tc := ⟨.hbm, 211, rfl⟩
abbrev main_call6_v40 : Ref sig .tc := ⟨.hbm, 212, rfl⟩
abbrev main_call6_v41 : Ref sig .tc := ⟨.hbm, 213, rfl⟩
abbrev main_call6_c_13 : Ref sig .tc := ⟨.hbm, 214, rfl⟩
abbrev main_call6_call2_v0 : Ref sig .tc := ⟨.hbm, 215, rfl⟩
abbrev main_call6_call2_v1 : Ref sig .tc := ⟨.hbm, 216, rfl⟩
abbrev main_call6_call2_v2 : Ref sig .tc := ⟨.hbm, 217, rfl⟩
abbrev main_call6_v42 : Ref sig .tc := ⟨.hbm, 218, rfl⟩
abbrev main_v43 : Ref sig .tc := ⟨.hbm, 219, rfl⟩

abbrev nD : Nat := 1
abbrev τ : Topo := Topo.v7x

variable {F : FTy → Type} [FloatOps F]
-- ==== Proof.Spec.lean ====
/-
  The mathematics both programs compute, over the extended reals and without tiles: a 3 by 3 convolution of a zero
  bordered image, a batch normalisation with stored statistics, the positive part; two such layers; the mean over the
  image.
-/
module

public import Idealize.ShloMosaic.PureOps.Ideal
public import Idealize.ShloMosaic.Lib.Pointwise.Index

@[expose] public section

noncomputable section

namespace Cert.Conv

open Idealize.ShloMosaic

/-- A 256 by 256 image inside a border of zeros, one wide: row `R`, column `C` of the 258 by 258 array, and zero
    further out. -/
def border (x : Fin 256 → Fin 256 → EReal) (R C : ℕ) : EReal :=
  if h : (1 ≤ R ∧ R ≤ 256) ∧ (1 ≤ C ∧ C ≤ 256) then x ⟨R - 1, by omega⟩ ⟨C - 1, by omega⟩ else 0

/-- Channel `i` of example `b` of an array of images. -/
def image {B n : ℕ} (x : (⟨4, ![B, n, 256, 256]⟩ : Shape).Idx → EReal) (b : Fin B) (i : Fin n) (r c : Fin 256) : EReal :=
  x (ix4 b i r c)

/-- The 3 by 3 convolution of `n` images at row `r`, column `c` (of the image; `x` is read with its border). -/
def conv {n : ℕ} (w : Fin n → Fin 3 → Fin 3 → EReal) (x : Fin n → ℕ → ℕ → EReal) (r c : ℕ) : EReal :=
  ∑ dy : Fin 3, ∑ dx : Fin 3, ∑ i : Fin n, x i (r + dy) (c + dx) * w i dy dx

/-- The number the statistics' variance is moved away from zero by. -/
def eps : EReal := Ideal.ofBits .f32 0x3727C5AC#32

/-- One layer's parameters: the weights `w`, the bias `b`, and the normalisation's scale `g`, offset `be`, mean `mu`
    and variance `va`, for `k` channels computed from `n`. -/
structure Layer (n k : ℕ) where
  w : Fin k → Fin n → Fin 3 → Fin 3 → EReal
  b : Fin k → EReal
  g : Fin k → EReal
  be : Fin k → EReal
  mu : Fin k → EReal
  va : Fin k → EReal

/-- The layer whose weights, bias and statistics are the given arrays. -/
def Layer.of {n k : ℕ} (w : (⟨4, ![k, n, 3, 3]⟩ : Shape).Idx → EReal) (b : (⟨1, ![k]⟩ : Shape).Idx → EReal)
    (p : (⟨2, ![4, k]⟩ : Shape).Idx → EReal) : Layer n k where
  w o i dy dx := w (ix4 o i dy dx)
  b o := b (ix1 o)
  g o := p (ix2 0 o)
  be o := p (ix2 1 o)
  mu o := p (ix2 2 o)
  va o := p (ix2 3 o)

/-- The layer's normalisation of channel `o` at the value `a`. -/
def Layer.norm {n k : ℕ} (L : Layer n k) (o : Fin k) (a : EReal) : EReal :=
  (a - L.mu o) * Ideal.div (L.g o) (Ideal.sqrt (L.va o + eps)) + L.be o

/-- The layer's channel `o` at row `r`, column `c`. -/
def Layer.at {n k : ℕ} (L : Layer n k) (x : Fin n → ℕ → ℕ → EReal) (o : Fin k) (r c : ℕ) : EReal :=
  max (L.norm o (conv (L.w o) x r c + L.b o)) 0

/-- Two layers of one branch, channel `o`, at row `r`, column `c`. -/
def two {n k : ℕ} (L1 : Layer n k) (L2 : Layer k k) (x : Fin n → Fin 256 → Fin 256 → EReal) (o : Fin k)
    (r c : ℕ) : EReal :=
  L2.at (fun i => border fun r c => L1.at (fun j => border (x j)) i r c) o r c

/-- The branch's mean over the image, channel `o`. -/
def pooled {n k : ℕ} (L1 : Layer n k) (L2 : Layer k k) (x : Fin n → Fin 256 → Fin 256 → EReal) (o : Fin k) : EReal :=
  Ideal.div (∑ r : Fin 256, ∑ c : Fin 256, two L1 L2 x o r c) (Ideal.ofBits .f32 0x47800000#32)

/-- The convolution as the sum of its nine taps, row by row. -/
theorem conv_nine {n : ℕ} (w : Fin n → Fin 3 → Fin 3 → EReal) (x : Fin n → ℕ → ℕ → EReal) (r c : ℕ) :
    conv w x r c
      = (∑ i, x i r c * w i 0 0) + (∑ i, x i r (1 + c) * w i 0 1) + (∑ i, x i r (2 + c) * w i 0 2)
        + (∑ i, x i (1 + r) c * w i 1 0) + (∑ i, x i (1 + r) (1 + c) * w i 1 1)
        + (∑ i, x i (1 + r) (2 + c) * w i 1 2)
        + (∑ i, x i (2 + r) c * w i 2 0) + (∑ i, x i (2 + r) (1 + c) * w i 2 1)
        + (∑ i, x i (2 + r) (2 + c) * w i 2 2) := by
  rw [add_comm 1 c, add_comm 2 c, add_comm 1 r, add_comm 2 r]
  simp only [conv, Fin.sum_univ_three, Fin.val_zero, Fin.val_one, Fin.val_two, add_zero, add_assoc]

end Cert.Conv

end
-- ==== Proof.Scatter.lean ====
/-
  Writing a block into an array at one place: the scatter whose updates are one block, read element by element.
-/
module

public import Idealize.ShloMosaic.Lib.Routing.OpsPair
public import Idealize.ShloMosaic.Lib.Routing.OpsSet
public import Idealize.ShloMosaic.Lib.Pointwise.Index

@[expose] public section

namespace Cert.Conv

open Idealize.ShloMosaic Idealize.ShloMosaic.Routing

variable {α : Type} {A B C b c : ℕ}

/-- Where update `(t, o, i)` of the block lands: `(t, p + o, q + i)` for a block written at `(p, q)`. -/
theorem lands (d : ScatterDims ⟨3, ![A, B, C]⟩ ⟨1, ![2]⟩ ⟨3, ![A, b, c]⟩) (hu : d.updateWindowDims = [0, 1, 2])
    (hi : d.insertedWindowDims = []) (hs : d.scatterDimsToOperandDims = [1, 2]) (hv : d.indexVectorDim = 0)
    (idx : IVec ⟨1, ![2]⟩ 32) (p q : ℕ) (hp : (idx (ix1 0)).toInt = p) (hq : (idx (ix1 1)).toInt = q)
    (k : (⟨3, ![A, b, c]⟩ : Shape).Idx) (j : (⟨3, ![A, B, C]⟩ : Shape).Idx) :
    d.resultIdx? k idx = some j
      ↔ (k 0).val = (j 0).val ∧ p + (k 1).val = (j 1).val ∧ q + (k 2).val = (j 2).val := by
  rw [resultIdx?_eq_some]
  obtain ⟨uwd, iwd, sdto, ivd, wf⟩ := d
  dsimp only at hu hi hs hv
  subst hu hi hs hv
  have s0 : ScatterDims.start ⟨[0, 1, 2], [], [1, 2], 0, wf⟩ k idx (0 : Fin 3) = 0 := rfl
  have s1 : ScatterDims.start ⟨[0, 1, 2], [], [1, 2], 0, wf⟩ k idx (1 : Fin 3) = p := by
    rw [← hp]
    refine congrArg (fun x => (idx x).toInt) (funext fun b' => ?_)
    have : b' = (0 : Fin 1) := Subsingleton.elim (α := Fin 1) _ _
    subst this; rfl
  have s2 : ScatterDims.start ⟨[0, 1, 2], [], [1, 2], 0, wf⟩ k idx (2 : Fin 3) = q := by
    rw [← hq]
    refine congrArg (fun x => (idx x).toInt) (funext fun b' => ?_)
    have : b' = (0 : Fin 1) := Subsingleton.elim (α := Fin 1) _ _
    subst this; rfl
  have w0 : ScatterDims.window ⟨[0, 1, 2], [], [1, 2], 0, wf⟩ k (0 : Fin 3) = (k 0).val := rfl
  have w1 : ScatterDims.window ⟨[0, 1, 2], [], [1, 2], 0, wf⟩ k (1 : Fin 3) = (k 1).val := rfl
  have w2 : ScatterDims.window ⟨[0, 1, 2], [], [1, 2], 0, wf⟩ k (2 : Fin 3) = (k 2).val := rfl
  constructor
  · intro h
    have h0 := h (0 : Fin 3)
    have h1 := h (1 : Fin 3)
    have h2 := h (2 : Fin 3)
    rw [s0, w0] at h0
    rw [s1, w1] at h1
    rw [s2, w2] at h2
    omega
  · rintro ⟨h0, h1, h2⟩ a
    match a with
    | 0 => rw [s0, w0]; omega
    | 1 => rw [s1, w1]; omega
    | 2 => rw [s2, w2]; omega

/-- The array after the block is written: the block's element inside it, the array's outside. -/
theorem scatter_block (d : ScatterDims ⟨3, ![A, B, C]⟩ ⟨1, ![2]⟩ ⟨3, ![A, b, c]⟩) (hu : d.updateWindowDims = [0, 1, 2])
    (hi : d.insertedWindowDims = []) (hs : d.scatterDimsToOperandDims = [1, 2]) (hv : d.indexVectorDim = 0)
    (idx : IVec ⟨1, ![2]⟩ 32) (p q : ℕ) (hp : (idx (ix1 0)).toInt = p) (hq : (idx (ix1 1)).toInt = q)
    (x0 : (⟨3, ![A, B, C]⟩ : Shape).Idx → α) (upd : (⟨3, ![A, b, c]⟩ : Shape).Idx → α) (t : Fin A) (o : Fin B) (i : Fin C) :
    Host.scatter d (fun _ b => b) x0 idx upd (ix3 t o i)
      = if h : (p ≤ o.val ∧ o.val - p < b) ∧ (q ≤ i.val ∧ i.val - q < c) then
          upd (ix3 t ⟨o.val - p, h.1.2⟩ ⟨i.val - q, h.2.2⟩)
        else x0 (ix3 t o i) := by
  split_ifs with h
  · refine scatter_set_hit d x0 idx upd _ _ (fun k hk => ?_) (ix3 t ⟨o.val - p, h.1.2⟩ ⟨i.val - q, h.2.2⟩) ?_
    · rw [lands d hu hi hs hv idx p q hp hq] at hk
      refine congrArg upd ?_
      rw [eq_ix3 k]
      have h0 : (k 0).val = t.val := hk.1
      have h1 : p + (k 1).val = o.val := hk.2.1
      have h2 : q + (k 2).val = i.val := hk.2.2
      congr 1
      · exact Fin.ext h0
      · exact Fin.ext (show (k 1).val = o.val - p by omega)
      · exact Fin.ext (show (k 2).val = i.val - q by omega)
    · rw [lands d hu hi hs hv idx p q hp hq]
      refine ⟨rfl, ?_, ?_⟩
      · show p + (o.val - p) = o.val
        omega
      · show q + (i.val - q) = i.val
        omega
  · refine scatter_set_miss d x0 idx upd _ (fun k hk => h ?_)
    rw [lands d hu hi hs hv idx p q hp hq] at hk
    have h1 : p + (k 1).val = o.val := hk.2.1
    have h2 : q + (k 2).val = i.val := hk.2.2
    have k1 : (k 1).val < b := (k 1).isLt
    have k2 : (k 2).val < c := (k 2).isLt
    omega

end Cert.Conv
-- ==== Proof.MaskDef.lean ====
/-
  The kernel's mask is a table of 67072 numbers, one per column of the flattened window of 260 rows of 258 columns.
  This module says what the table should hold, and how a table is tested entry by entry; the modules that import it
  evaluate the test.
-/
module

public import proofs.«01_k».proof.KernelIdeal

@[expose] public section

noncomputable section

namespace Cert.KernelIdeal.Own

/-- Whether column `i` of the flattened window lies on the 256 by 256 image inside the border. -/
def onImage (i : Nat) : Bool :=
  decide (258 ≤ i) && decide (i < 66306) && decide (1 ≤ i % 258) && decide (i % 258 ≤ 256)

/-- The table's entry at `i` is one on the image and zero off it. -/
def entryOk (i : Nat) : Bool :=
  lit0t i == (bif onImage i then 0x3F800000#32 else 0#32)

/-- `p n`, with `n` taken apart first. -/
def atNat (p : Nat → Bool) (n : Nat) : Bool := match n with
  | 0 => p 0
  | k + 1 => p (k + 1)

theorem atNat_eq (p : Nat → Bool) (n : Nat) : atNat p n = p n := by
  cases n <;> rfl

/-- The test that `p` holds of the `2 ^ d` numbers from `s` on. -/
def allFrom (p : Nat → Bool) : Nat → Nat → Bool
  | 0, s => atNat p s
  | d + 1, s => allFrom p d s && allFrom p d (s + 2 ^ d)

/-- The test says what it says. -/
theorem of_allFrom (p : Nat → Bool) (d s : Nat) (h : allFrom p d s = true) (i : Nat) (h1 : s ≤ i)
    (h2 : i < s + 2 ^ d) : p i = true := by
  induction d generalizing s with
  | zero =>
    have : i = s := by simp at h2; omega
    subst this
    simpa [allFrom, atNat_eq] using h
  | succ d ih =>
    rw [allFrom, Bool.and_eq_true] at h
    rw [pow_succ] at h2
    by_cases hi : i < s + 2 ^ d
    · exact ih s h.1 h1 hi
    · exact ih (s + 2 ^ d) h.2 (by omega) (by omega)

end Cert.KernelIdeal.Own

end
-- ==== Proof.Mask1.lean ====
/-
  The mask's table tested on its entries from 0 on: part 1 of 4.
-/
module

public import proofs.«01_k».proof.Proof.MaskDef

@[expose] public section

noncomputable section

namespace Cert.KernelIdeal.Own

theorem entries_0 : allFrom entryOk 12 0 = true := by decide +kernel

theorem entries_4096 : allFrom entryOk 12 4096 = true := by decide +kernel

theorem entries_8192 : allFrom entryOk 12 8192 = true := by decide +kernel

theorem entries_12288 : allFrom entryOk 12 12288 = true := by decide +kernel

end Cert.KernelIdeal.Own

end
-- ==== Proof.Mask2.lean ====
/-
  The mask's table tested on its entries from 16384 on: part 2 of 4.
-/
module

public import proofs.«01_k».proof.Proof.MaskDef

@[expose] public section

noncomputable section

namespace Cert.KernelIdeal.Own

theorem entries_16384 : allFrom entryOk 12 16384 = true := by decide +kernel

theorem entries_20480 : allFrom entryOk 12 20480 = true := by decide +kernel

theorem entries_24576 : allFrom entryOk 12 24576 = true := by decide +kernel

theorem entries_28672 : allFrom entryOk 12 28672 = true := by decide +kernel

end Cert.KernelIdeal.Own

end
-- ==== Proof.Mask3.lean ====
/-
  The mask's table tested on its entries from 32768 on: part 3 of 4.
-/
module

public import proofs.«01_k».proof.Proof.MaskDef

@[expose] public section

noncomputable section

namespace Cert.KernelIdeal.Own

theorem entries_32768 : allFrom entryOk 12 32768 = true := by decide +kernel

theorem entries_36864 : allFrom entryOk 12 36864 = true := by decide +kernel

theorem entries_40960 : allFrom entryOk 12 40960 = true := by decide +kernel

theorem entries_45056 : allFrom entryOk 12 45056 = true := by decide +kernel

end Cert.KernelIdeal.Own

end
-- ==== Proof.Mask4.lean ====
/-
  The mask's table tested on its entries from 49152 on: part 4 of 4.
-/
module

public import proofs.«01_k».proof.Proof.MaskDef

@[expose] public section

noncomputable section

namespace Cert.KernelIdeal.Own

theorem entries_49152 : allFrom entryOk 12 49152 = true := by decide +kernel

theorem entries_53248 : allFrom entryOk 12 53248 = true := by decide +kernel

theorem entries_57344 : allFrom entryOk 12 57344 = true := by decide +kernel

theorem entries_61440 : allFrom entryOk 12 61440 = true := by decide +kernel

theorem entries_65536 : allFrom entryOk 10 65536 = true := by decide +kernel

theorem entries_66560 : allFrom entryOk 9 66560 = true := by decide +kernel

end Cert.KernelIdeal.Own

end
-- ==== Proof.Mask.lean ====
/-
  The kernel's mask: one on the image, zero on the border and past the end.
-/
module

public import proofs.«01_k».proof.Proof.Mask1
public import proofs.«01_k».proof.Proof.Mask2
public import proofs.«01_k».proof.Proof.Mask3
public import proofs.«01_k».proof.Proof.Mask4

@[expose] public section

noncomputable section

namespace Cert.KernelIdeal.Own

/-- Every entry of the table is as `onImage` says. -/
theorem lit0t_eq (i : Nat) (h : i < 67072) : lit0t i = bif onImage i then 0x3F800000#32 else 0#32 := by
  have key : entryOk i = true := by
    by_cases h0 : i < 4096
    · exact of_allFrom _ _ _ entries_0 i (by omega) (by omega)
    by_cases h4096 : i < 8192
    · exact of_allFrom _ _ _ entries_4096 i (by omega) (by omega)
    by_cases h8192 : i < 12288
    · exact of_allFrom _ _ _ entries_8192 i (by omega) (by omega)
    by_cases h12288 : i < 16384
    · exact of_allFrom _ _ _ entries_12288 i (by omega) (by omega)
    by_cases h16384 : i < 20480
    · exact of_allFrom _ _ _ entries_16384 i (by omega) (by omega)
    by_cases h20480 : i < 24576
    · exact of_allFrom _ _ _ entries_20480 i (by omega) (by omega)
    by_cases h24576 : i < 28672
    · exact of_allFrom _ _ _ entries_24576 i (by omega) (by omega)
    by_cases h28672 : i < 32768
    · exact of_allFrom _ _ _ entries_28672 i (by omega) (by omega)
    by_cases h32768 : i < 36864
    · exact of_allFrom _ _ _ entries_32768 i (by omega) (by omega)
    by_cases h36864 : i < 40960
    · exact of_allFrom _ _ _ entries_36864 i (by omega) (by omega)
    by_cases h40960 : i < 45056
    · exact of_allFrom _ _ _ entries_40960 i (by omega) (by omega)
    by_cases h45056 : i < 49152
    · exact of_allFrom _ _ _ entries_45056 i (by omega) (by omega)
    by_cases h49152 : i < 53248
    · exact of_allFrom _ _ _ entries_49152 i (by omega) (by omega)
    by_cases h53248 : i < 57344
    · exact of_allFrom _ _ _ entries_53248 i (by omega) (by omega)
    by_cases h57344 : i < 61440
    · exact of_allFrom _ _ _ entries_57344 i (by omega) (by omega)
    by_cases h61440 : i < 65536
    · exact of_allFrom _ _ _ entries_61440 i (by omega) (by omega)
    by_cases h65536 : i < 66560
    · exact of_allFrom _ _ _ entries_65536 i (by omega) (by omega)
    exact of_allFrom _ _ _ entries_66560 i (by omega) (by omega)
  exact eq_of_beq key

end Cert.KernelIdeal.Own

end
-- ==== Proof.HostIn.lean ====
/-
  The arrays the kernel's region finds, as functions of the kernel's arguments, element by element: the weights of both
  branches side by side (zero between branches), the folded scale and offset of each channel, the six padded images,
  the mask.
-/
module

public import proofs.«01_k».proof.Proof.Gen.KernelIdeal.Frame.Runs
public import proofs.«01_k».proof.Proof.Spec
public import proofs.«01_k».proof.Proof.Scatter
public import proofs.«01_k».proof.Proof.Mask
public import Idealize.ShloMosaic.Lib.IdealHost
public import Idealize.ShloMosaic.Lib.Claim
public import Idealize.ShloMosaic.Lib.Pointwise

@[expose] public section

set_option maxRecDepth 16384

noncomputable section

namespace Cert.KernelIdeal.Own

open Cert.KernelIdeal Cert.KernelIdeal.Gen Cert.Conv
open Idealize.ShloMosaic Idealize.ShloMosaic.TcCoe Idealize.ShloMosaic.Tactic

variable (m : (ℓ : Loc nD τ sig) → Buf (Elt Ideal) ℓ) (c : Dev nD)

/-- Argument 0 on device `c`: the magnitude images. -/
abbrev a0 : S16x3x256x256.Idx → EReal := m ((c : Thread nD τ).loc main_arg0)
/-- Argument 1 on device `c`: the phase images. -/
abbrev a1 : S16x3x256x256.Idx → EReal := m ((c : Thread nD τ).loc main_arg1)
/-- Argument 2 on device `c`: the magnitude branch's first weights. -/
abbrev a2 : S64x3x3x3.Idx → EReal := m ((c : Thread nD τ).loc main_arg2)
/-- Argument 3 on device `c`: their biases. -/
abbrev a3 : S64.Idx → EReal := m ((c : Thread nD τ).loc main_arg3)
/-- Argument 4 on device `c`: their normalisation rows. -/
abbrev a4 : S4x64.Idx → EReal := m ((c : Thread nD τ).loc main_arg4)
/-- Argument 5 on device `c`: the magnitude branch's second weights. -/
abbrev a5 : S64x64x3x3.Idx → EReal := m ((c : Thread nD τ).loc main_arg5)
/-- Argument 6 on device `c`: their biases. -/
abbrev a6 : S64.Idx → EReal := m ((c : Thread nD τ).loc main_arg6)
/-- Argument 7 on device `c`: their normalisation rows. -/
abbrev a7 : S4x64.Idx → EReal := m ((c : Thread nD τ).loc main_arg7)
/-- Argument 8 on device `c`: the phase branch's first weights. -/
abbrev a8 : S32x3x3x3.Idx → EReal := m ((c : Thread nD τ).loc main_arg8)
/-- Argument 9 on device `c`: their biases. -/
abbrev a9 : S32.Idx → EReal := m ((c : Thread nD τ).loc main_arg9)
/-- Argument 10 on device `c`: their normalisation rows. -/
abbrev a10 : S4x32.Idx → EReal := m ((c : Thread nD τ).loc main_arg10)
/-- Argument 11 on device `c`: the phase branch's second weights. -/
abbrev a11 : S32x32x3x3.Idx → EReal := m ((c : Thread nD τ).loc main_arg11)
/-- Argument 12 on device `c`: their biases. -/
abbrev a12 : S32.Idx → EReal := m ((c : Thread nD τ).loc main_arg12)
/-- Argument 13 on device `c`: their normalisation rows. -/
abbrev a13 : S4x32.Idx → EReal := m ((c : Thread nD τ).loc main_arg13)
/-- What the region finds on device `c`: the first weights. -/
abbrev wIn : S96x54.Idx → EReal := V m c main_v15
/-- What the region finds on device `c`: the second weights. -/
abbrev wMid : S96x864.Idx → EReal := V m c main_v30
/-- What the region finds on device `c`: the first scales. -/
abbrev sIn : S96x1.Idx → EReal := V m c main_v62
/-- What the region finds on device `c`: the first offsets. -/
abbrev tIn : S96x1.Idx → EReal := V m c main_v64
/-- What the region finds on device `c`: the second scales. -/
abbrev sMid : S96x1.Idx → EReal := V m c main_v96
/-- What the region finds on device `c`: the second offsets. -/
abbrev tMid : S96x1.Idx → EReal := V m c main_v98
/-- What the region finds on device `c`: the padded images. -/
abbrev xIn : S16x6x67968.Idx → EReal := V m c main_v102
/-- What the region finds on device `c`: the mask. -/
abbrev mIn : S1x67072.Idx → EReal := V m c main_v0
/-- Two index words side by side. -/
theorem pair_word (a b : BitVec 32) (i : Fin 2) :
    (concatenate S2 0 [⟨S1, broadcastInDim S1 (![] : Fin 0 → Fin 1) bcast_S_S1 (constantI S_ 32 a)⟩,
      ⟨S1, broadcastInDim S1 (![] : Fin 0 → Fin 1) bcast_S_S1 (constantI S_ 32 b)⟩] concatenates_S1_S1_S2_d0 : IVec S2 32) (ix1 i)
      = if i.val = 0 then a else b := by
  pointwise
  by_cases h : i.val = 0
  · rw [dif_pos (by omega), if_pos h]
  · rw [dif_neg (by omega), if_neg h]

/-- The first layer's weights, tap by tap: the two branches' blocks set one after the other into zeros. -/
theorem wIn_blocks (z : S9x96x6.Idx → EReal) (hz : ∀ j, z j = 0) (x1 : S9x64x3.Idx → EReal) (x2 : S9x32x3.Idx → EReal)
    (k1 k2 : IVec S2 32) (h10 : (k1 (ix1 0)).toInt = (0 : ℕ)) (h11 : (k1 (ix1 1)).toInt = (0 : ℕ))
    (h20 : (k2 (ix1 0)).toInt = (64 : ℕ)) (h21 : (k2 (ix1 1)).toInt = (3 : ℕ)) (t : Fin 9) (o : Fin 96) (i : Fin 6) :
    Host.scatter scatter_S9x96x6_S2_S9x32x3_012_n_12_0 (fun _ b => b)
      (Host.scatter scatter_S9x96x6_S2_S9x64x3_012_n_12_0 (fun _ b => b) z k1 x1) k2 x2 (ix3 t o i)
      = if h : o.val < 64 ∧ i.val < 3 then x1 (ix3 t ⟨o.val, h.1⟩ ⟨i.val, h.2⟩)
        else if h : 64 ≤ o.val ∧ 3 ≤ i.val then x2 (ix3 t ⟨o.val - 64, by omega⟩ ⟨i.val - 3, by omega⟩)
        else 0 := by
  refine (scatter_block scatter_S9x96x6_S2_S9x32x3_012_n_12_0 rfl rfl rfl rfl _ 64 3
    h20 h21 _ _ _ _ _).trans ?_
  by_cases h : (64 ≤ o.val ∧ o.val - 64 < 32) ∧ (3 ≤ i.val ∧ i.val - 3 < 3)
  · rw [dif_pos h, dif_neg (by omega), dif_pos (by omega)]
  rw [dif_neg h]
  refine (scatter_block scatter_S9x96x6_S2_S9x64x3_012_n_12_0 rfl rfl rfl rfl _ 0 0
    h10 h11 _ _ _ _ _).trans ?_
  by_cases h' : (0 ≤ o.val ∧ o.val - 0 < 64) ∧ (0 ≤ i.val ∧ i.val - 0 < 3)
  · rw [dif_pos h', dif_pos (by omega)]
    rfl
  rw [dif_neg h', dif_neg (by omega), dif_neg (by omega)]
  exact hz _

/-- The first layer's weights as the region finds them: row `o`, tap `(dy, dx)`, input channel `i`. -/
theorem wIn_apply (o : Fin 96) (dy dx : Fin 3) (i : Fin 6) :
    wIn m c (ix2 o ⟨(dy.val * 3 + dx.val) * 6 + i.val, by omega⟩)
      = if h : o.val < 64 ∧ i.val < 3 then a2 m c (ix4 ⟨o.val, h.1⟩ ⟨i.val, h.2⟩ dy dx)
        else if h : 64 ≤ o.val ∧ 3 ≤ i.val then
          a8 m c (ix4 ⟨o.val - 64, by omega⟩ ⟨i.val - 3, by omega⟩ dy dx)
        else 0 := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  refine (wIn_blocks _ (fun _ => Ideal.ofBits_zero_f32) _ _ _ _
    (by rw [pair_word]; decide) (by rw [pair_word]; decide) (by rw [pair_word]; decide) (by rw [pair_word]; decide) _ _ _).trans ?_
  have e : ((dy.val * 3 + dx.val) * 6 + i.val) / 6 = dy.val * 3 + dx.val := by omega
  have hd : (dy.val * 3 + dx.val) / 3 = dy.val := by omega
  have hm : (dy.val * 3 + dx.val) % 3 = dx.val := by omega
  simp only [ix3_0, ix3_1, ix3_2, e, hd, hm]

/-- The second layer's weights, tap by tap: the two branches' blocks set one after the other into zeros. -/
theorem wMid_blocks (z : S9x96x96.Idx → EReal) (hz : ∀ j, z j = 0) (x1 : S9x64x64.Idx → EReal) (x2 : S9x32x32.Idx → EReal)
    (k1 k2 : IVec S2 32) (h10 : (k1 (ix1 0)).toInt = (0 : ℕ)) (h11 : (k1 (ix1 1)).toInt = (0 : ℕ))
    (h20 : (k2 (ix1 0)).toInt = (64 : ℕ)) (h21 : (k2 (ix1 1)).toInt = (64 : ℕ)) (t : Fin 9) (o : Fin 96) (i : Fin 96) :
    Host.scatter scatter_S9x96x96_S2_S9x32x32_012_n_12_0 (fun _ b => b)
      (Host.scatter scatter_S9x96x96_S2_S9x64x64_012_n_12_0 (fun _ b => b) z k1 x1) k2 x2 (ix3 t o i)
      = if h : o.val < 64 ∧ i.val < 64 then x1 (ix3 t ⟨o.val, h.1⟩ ⟨i.val, h.2⟩)
        else if h : 64 ≤ o.val ∧ 64 ≤ i.val then x2 (ix3 t ⟨o.val - 64, by omega⟩ ⟨i.val - 64, by omega⟩)
        else 0 := by
  refine (scatter_block scatter_S9x96x96_S2_S9x32x32_012_n_12_0 rfl rfl rfl rfl _ 64 64
    h20 h21 _ _ _ _ _).trans ?_
  by_cases h : (64 ≤ o.val ∧ o.val - 64 < 32) ∧ (64 ≤ i.val ∧ i.val - 64 < 32)
  · rw [dif_pos h, dif_neg (by omega), dif_pos (by omega)]
  rw [dif_neg h]
  refine (scatter_block scatter_S9x96x96_S2_S9x64x64_012_n_12_0 rfl rfl rfl rfl _ 0 0
    h10 h11 _ _ _ _ _).trans ?_
  by_cases h' : (0 ≤ o.val ∧ o.val - 0 < 64) ∧ (0 ≤ i.val ∧ i.val - 0 < 64)
  · rw [dif_pos h', dif_pos (by omega)]
    rfl
  rw [dif_neg h', dif_neg (by omega), dif_neg (by omega)]
  exact hz _

/-- The second layer's weights as the region finds them: row `o`, tap `(dy, dx)`, input channel `i`. -/
theorem wMid_apply (o : Fin 96) (dy dx : Fin 3) (i : Fin 96) :
    wMid m c (ix2 o ⟨(dy.val * 3 + dx.val) * 96 + i.val, by omega⟩)
      = if h : o.val < 64 ∧ i.val < 64 then a5 m c (ix4 ⟨o.val, h.1⟩ ⟨i.val, h.2⟩ dy dx)
        else if h : 64 ≤ o.val ∧ 64 ≤ i.val then
          a11 m c (ix4 ⟨o.val - 64, by omega⟩ ⟨i.val - 64, by omega⟩ dy dx)
        else 0 := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  refine (wMid_blocks _ (fun _ => Ideal.ofBits_zero_f32) _ _ _ _
    (by rw [pair_word]; decide) (by rw [pair_word]; decide) (by rw [pair_word]; decide) (by rw [pair_word]; decide) _ _ _).trans ?_
  have e : ((dy.val * 3 + dx.val) * 96 + i.val) / 96 = dy.val * 3 + dx.val := by omega
  have hd : (dy.val * 3 + dx.val) / 3 = dy.val := by omega
  have hm : (dy.val * 3 + dx.val) % 3 = dx.val := by omega
  simp only [ix3_0, ix3_1, ix3_2, e, hd, hm]

/-- The first layer's folded scale of channel `o`. -/
theorem sIn_apply (o : Fin 96) :
    sIn m c (ix2 o 0)
      = if h : o.val < 64 then
          a4 m c (ix2 0 ⟨o.val, h⟩)
            * Ideal.rsqrt (a4 m c (ix2 3 ⟨o.val, h⟩) + eps)
        else a10 m c (ix2 0 ⟨o.val - 64, by omega⟩)
            * Ideal.rsqrt (a10 m c (ix2 3 ⟨o.val - 64, by omega⟩) + eps) := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  rfl

/-- The second layer's folded scale of channel `o`. -/
theorem sMid_apply (o : Fin 96) :
    sMid m c (ix2 o 0)
      = if h : o.val < 64 then
          a7 m c (ix2 0 ⟨o.val, h⟩)
            * Ideal.rsqrt (a7 m c (ix2 3 ⟨o.val, h⟩) + eps)
        else a13 m c (ix2 0 ⟨o.val - 64, by omega⟩)
            * Ideal.rsqrt (a13 m c (ix2 3 ⟨o.val - 64, by omega⟩) + eps) := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  rfl

/-- The first layer's folded offset of channel `o`. -/
theorem tIn_apply (o : Fin 96) :
    tIn m c (ix2 o 0)
      = if h : o.val < 64 then
          (a3 m c (ix1 ⟨o.val, h⟩) - a4 m c (ix2 2 ⟨o.val, h⟩))
            * (a4 m c (ix2 0 ⟨o.val, h⟩)
              * Ideal.rsqrt (a4 m c (ix2 3 ⟨o.val, h⟩) + eps))
            + a4 m c (ix2 1 ⟨o.val, h⟩)
        else (a9 m c (ix1 ⟨o.val - 64, by omega⟩) - a10 m c (ix2 2 ⟨o.val - 64, by omega⟩))
            * (a10 m c (ix2 0 ⟨o.val - 64, by omega⟩)
              * Ideal.rsqrt (a10 m c (ix2 3 ⟨o.val - 64, by omega⟩) + eps))
            + a10 m c (ix2 1 ⟨o.val - 64, by omega⟩) := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  rfl

/-- The second layer's folded offset of channel `o`. -/
theorem tMid_apply (o : Fin 96) :
    tMid m c (ix2 o 0)
      = if h : o.val < 64 then
          (a6 m c (ix1 ⟨o.val, h⟩) - a7 m c (ix2 2 ⟨o.val, h⟩))
            * (a7 m c (ix2 0 ⟨o.val, h⟩)
              * Ideal.rsqrt (a7 m c (ix2 3 ⟨o.val, h⟩) + eps))
            + a7 m c (ix2 1 ⟨o.val, h⟩)
        else (a12 m c (ix1 ⟨o.val - 64, by omega⟩) - a13 m c (ix2 2 ⟨o.val - 64, by omega⟩))
            * (a13 m c (ix2 0 ⟨o.val - 64, by omega⟩)
              * Ideal.rsqrt (a13 m c (ix2 3 ⟨o.val - 64, by omega⟩) + eps))
            + a13 m c (ix2 1 ⟨o.val - 64, by omega⟩) := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  rfl

/-- The six padded and flattened images of example `b`: 258 rows of 258 columns from column 512 on. -/
theorem xIn_apply (b : Fin 16) (i : Fin 6) (R C : Fin 258) :
    xIn m c (ix3 b i ⟨512 + R.val * 258 + C.val, by omega⟩)
      = if h : i.val < 3 then border (image (a0 m c) b ⟨i.val, h⟩) R C
        else border (image (a1 m c) b ⟨i.val - 3, by omega⟩) R C := by
  simp only [wIn, wMid, sIn, tIn, sMid, tMid, xIn, mIn, V, hostOps0, hostOps0_1, hostOps0_2, hostOps0_3, List.flatten_cons, List.flatten_nil, List.append_nil,
    List.cons_append, List.nil_append]
  entry_read
  simp only [StableHlo.TRef.toBuf, StableHlo.TRef.ofBuf, cast_eq]
  pointwise
  have h0 : (FloatOps.sitofp (F := Ideal) FTy.f32 0#32) = (0 : EReal) := by
    show (((0#32 : BitVec 32).toInt : ℝ) : EReal) = 0
    simp
  have e : 512 + R.val * 258 + C.val - 512 = R.val * 258 + C.val := by omega
  have hd : (R.val * 258 + C.val) / 258 = R.val := by omega
  have hm : (R.val * 258 + C.val) % 258 = C.val := by omega
  rw [dif_pos (by omega)]
  simp only [e, hd, hm, h0, border, image]
  by_cases hi : i.val < 3 <;> simp only [hi, dif_pos, dif_neg, not_false_eq_true]
  · exact dite_congr (propext ⟨fun h => by omega, fun h => by omega⟩) (fun _ => rfl) (fun _ => rfl)
  · exact dite_congr (propext ⟨fun h => by omega, fun h => by omega⟩) (fun _ => rfl) (fun _ => rfl)

/-- The mask: one on the image, zero off it. -/
theorem mIn_apply (p : Fin 67072) :
    mIn m c (ix2 0 p) = if onImage p.val = true then 1 else 0 := by
  simp only [wIn, wMid, sIn, tIn, sMid, tMid, xIn, mIn, V, hostOps0, hostOps0_1, hostOps0_2, hostOps0_3, List.flatten_cons, List.flatten_nil, List.append_nil,
    List.cons_append, List.nil_append]
  entry_read
  pointwise
  have e : (S67072.rowMajor (ix1 p)).val = p.val := Shape.rowMajor_val_one _
  show Ideal.ofBits .f32 (lit0t (S67072.rowMajor (ix1 p)).val) = _
  rw [e, lit0t_eq _ p.isLt]
  cases onImage p.val
  · exact Ideal.ofBits_zero_f32
  · exact Idealize.ShloMosaic.Ideal.ofBits_one_f32

end Cert.KernelIdeal.Own

end
-- ==== Proof.BodyIdeal.lean ====
/-
  What one grid point of the kernel computes, as a function of its input blocks, and the triple that says so.

  The body zeroes the two margins of its scratch array, fills the rest strip by strip with the first layer
  (131 strips of 512 columns), sums the second layer over the strips lane by lane, and leaves the sum over the
  lanes, scaled, in its output block.  `mid` is the scratch after the first loop, `acc k` the lane sums after
  `k` strips of the second, `out` the block the body leaves.
-/
module

public import proofs.«01_k».proof.Proof.Gen.KernelIdeal.Frame.Runs
public import Idealize.ShloMosaic.Lib.Pointwise.Index
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem trips1 : k0_t1_loop.trips = 131 := by decide +kernel
theorem trips2 : k0_t2_loop.trips = 131 := by decide +kernel

/-- The first layer on strip `k`: 512 columns of the scratch. -/
def strip1 (w : Vec F S96x54 .f32) (s t : Vec F S96x1 .f32) (x : Vec F S1x6x67968 .f32) (mk : Vec F S1x67072 .f32)
    (k : Fin k0_t1_loop.trips) : Vec F S96x512 .f32 :=
  k0_pay4 w s t (View.ld x (Rect.unit (s := S1x6x67968) (k0_off1 k) S1x6x1280.size (k0_off1_inb k)))
    (View.ld mk (Rect.unit (s := S1x67072) (k0_off2 k) S1x512.size (k0_off2_inb k)))

/-- The scratch after the first loop: zero margins around the strips. -/
def mid (w : Vec F S96x54 .f32) (s t : Vec F S96x1 .f32) (x : Vec F S1x6x67968 .f32) (mk : Vec F S1x67072 .f32) :
    Vec F S96x67968 .f32 := fun y =>
  if h : 512 ≤ (y 1 : ℕ) ∧ (y 1 : ℕ) < 67584 then
    strip1 w s t x mk ⟨((y 1 : ℕ) - 512) / 512, by rw [trips1]; omega⟩
      (ix2 (y 0) ⟨((y 1 : ℕ) - 512) % 512, Nat.mod_lt _ (by decide)⟩)
  else Scalar.ofBits .f32 0x00000000#32

/-- The lane sums of the second layer after `k` strips. -/
def acc (w2 : Vec F S96x864 .f32) (s2 t2 : Vec F S96x1 .f32) (x1 : Vec F S96x67968 .f32) (mk : Vec F S1x67072 .f32) :
    ℕ → Vec F S96x512 .f32
  | 0 => k0_pay5
  | k + 1 => if h : k < k0_t2_loop.trips then
      k0_pay6 w2 s2 t2 (acc w2 s2 t2 x1 mk k)
        (View.ld x1 (Rect.unit (s := S96x67968) (k0_off4 ⟨k, h⟩) S96x1280.size (k0_off4_inb ⟨k, h⟩)))
        (View.ld mk (Rect.unit (s := S1x67072) (k0_off5 ⟨k, h⟩) S1x512.size (k0_off5_inb ⟨k, h⟩)))
      else acc w2 s2 t2 x1 mk k

theorem acc_succ (w2 : Vec F S96x864 .f32) (s2 t2 : Vec F S96x1 .f32) (x1 : Vec F S96x67968 .f32) (mk : Vec F S1x67072 .f32)
    (k : Fin k0_t2_loop.trips) : acc w2 s2 t2 x1 mk (k.val + 1) = k0_pay6 w2 s2 t2 (acc w2 s2 t2 x1 mk k.val)
        (View.ld x1 (Rect.unit (s := S96x67968) (k0_off4 k) S96x1280.size (k0_off4_inb k)))
        (View.ld mk (Rect.unit (s := S1x67072) (k0_off5 k) S1x512.size (k0_off5_inb k))) := by
  rw [acc, dif_pos k.isLt]

/-- The block one grid point leaves: the sum over the lanes, scaled. -/
def out (x0 : Vec F S1x6x67968 .f32) (w1 : Vec F S96x54 .f32) (w2 : Vec F S96x864 .f32) (s1 t1 s2 t2 : Vec F S96x1 .f32)
    (mk : Vec F S1x67072 .f32) : Vec F S1x96x1 .f32 :=
  k0_pay1 (k0_pay7 (acc w2 s2 t2 (mid w1 s1 t1 x0 mk) mk 131)) (Scalar.ofBits .f32 0x37800000#32)

/-- `g` is the scratch as far as the first `k` strips go. -/
def Upto (w : Vec F S96x54 .f32) (s t : Vec F S96x1 .f32) (x : Vec F S1x6x67968 .f32) (mk : Vec F S1x67072 .f32)
    (k : ℕ) (g : Vec F S96x67968 .f32) : Prop :=
  ∀ y, ((y 1 : ℕ) < 512 * k + 512 ∨ 67584 ≤ (y 1 : ℕ)) → g y = mid w s t x mk y

section
variable (c : Dev nD) (i : grid0.Coords) (arg2 : Memref sig .tc .vmem S1x6x67968 .f32) (harg2 : arg2.IsWhole) (arg3 : Memref sig .tc .vmem S96x54 .f32) (harg3 : arg3.IsWhole) (arg4 : Memref sig .tc .vmem S96x864 .f32) (harg4 : arg4.IsWhole) (arg5 : Memref sig .tc .vmem S96x1 .f32) (harg5 : arg5.IsWhole) (arg6 : Memref sig .tc .vmem S96x1 .f32) (harg6 : arg6.IsWhole) (arg7 : Memref sig .tc .vmem S96x1 .f32) (harg7 : arg7.IsWhole) (arg8 : Memref sig .tc .vmem S96x1 .f32) (harg8 : arg8.IsWhole) (arg9 : Memref sig .tc .vmem S1x67072 .f32) (harg9 : arg9.IsWhole) (arg10 : Memref sig .tc .vmem S1x96x1 .f32) (harg10 : arg10.IsWhole) (arg11 : Memref sig .tc .vmem S96x67968 .f32) (harg11 : arg11.IsWhole)

/-- Before strip `k` of the first loop: the inputs as they were, the scratch filled so far. -/
abbrev Inv1 (X2 : BufTy.Contents (Elt F) arg2.view.ty) (X9 : BufTy.Contents (Elt F) arg9.view.ty)
    (w : Vec F S96x54 .f32) (s t : Vec F S96x1 .f32) (k : ℕ) : sProp 𝕄 :=
  iprop((arg2.view.loc (c : Thread nD τ) ↦[arg2.view.set]{fullShare} X2)
    ∗ (arg9.view.loc (c : Thread nD τ) ↦[arg9.view.set]{fullShare} X9)
    ∗ ∃ f, ⌜Upto w s t (arg2.view.read (Elt F) X2) (arg9.view.read (Elt F) X9) k (arg11.view.read (Elt F) f)⌝
        ∗ (arg11.view.loc (c : Thread nD τ) ↦[arg11.view.set]{fullShare} f))

/-- Before strip `k` of the second loop: the mask and the scratch as they were, the lane sums of the strips before. -/
abbrev Inv2 (X9 : BufTy.Contents (Elt F) arg9.view.ty) (X11 : BufTy.Contents (Elt F) arg11.view.ty)
    (w2 : Vec F S96x864 .f32) (s2 t2 : Vec F S96x1 .f32) (k : ℕ) (a : FVec F S96x512 .f32) : sProp 𝕄 :=
  iprop((arg9.view.loc (c : Thread nD τ) ↦[arg9.view.set]{fullShare} X9)
    ∗ (arg11.view.loc (c : Thread nD τ) ↦[arg11.view.set]{fullShare} X11)
    ∗ ⌜a = acc w2 s2 t2 (arg11.view.read (Elt F) X11) (arg9.view.read (Elt F) X9) k⌝)

/-- One strip written: the scratch is filled one strip further. -/
theorem upto_succ (w : Vec F S96x54 .f32) (s t : Vec F S96x1 .f32) (x : Vec F S1x6x67968 .f32) (mk : Vec F S1x67072 .f32)
    (k : Fin k0_t1_loop.trips) (f : BufTy.Contents (Elt F) arg11.view.ty) (hf : Upto w s t x mk k.val (arg11.view.read (Elt F) f)) :
    Upto w s t x mk (k.val + 1) (arg11.view.read (Elt F) (arg11.view.writes (Elt F) f
      [⟨Rect.unit (s := S96x67968) (k0_off3 k) S96x512.size (k0_off3_inb k), strip1 w s t x mk k⟩])) := by
  have hk : k.val < 131 := Nat.lt_of_lt_of_le k.isLt k0_t1_abs.2.1
  have ho : k0_off3 k = ![0, 512 * k.val + 512] := k0_off3_eq k
  intro y hy
  by_cases hc : 512 * k.val + 512 ≤ (y 1 : ℕ) ∧ (y 1 : ℕ) < 512 * k.val + 512 + 512
  · rw [View.read_writes_cons_hit_of_coords _ _ _ _ _
      (ix2 (y 0) ⟨(y 1 : ℕ) - (512 * k.val + 512), by show _ < 512; omega⟩ : S96x512.Idx) y]
    · unfold mid
      rw [dif_pos ⟨by omega, by omega⟩]
      have e : ((y 1 : ℕ) - 512) / 512 = k.val := by omega
      have e' : ((y 1 : ℕ) - 512) % 512 = (y 1 : ℕ) - (512 * k.val + 512) := by omega
      rw [show (⟨((y 1 : ℕ) - 512) / 512, by rw [trips1]; omega⟩ : Fin k0_t1_loop.trips) = k from Fin.ext e]
      exact congrArg (fun z : Fin 512 => strip1 w s t x mk k (ix2 (y 0) z)) (Fin.ext e'.symm)
    · intro a
      match a with
      | ⟨0, _⟩ => show (y 0 : ℕ) = k0_off3 k 0 + 1 * (y 0 : ℕ); rw [ho]; simp
      | ⟨1, _⟩ =>
        show (y 1 : ℕ) = k0_off3 k 1 + 1 * ((y 1 : ℕ) - (512 * k.val + 512))
        rw [ho]; show (y 1 : ℕ) = (512 * k.val + 512) + 1 * ((y 1 : ℕ) - (512 * k.val + 512)); omega
  · rw [View.read_writes_cons_miss_of_axis _ _ _ _ y 1 (512 * k.val + 512) 512 (by show k0_off3 k 1 = _; rw [ho]; rfl) rfl rfl (by omega)]
    exact hf y (by omega)

/-- The margins zeroed: the scratch as far as no strip goes. -/
theorem upto_zero (w : Vec F S96x54 .f32) (s t : Vec F S96x1 .f32) (x : Vec F S1x6x67968 .f32) (mk : Vec F S1x67072 .f32)
    (f : BufTy.Contents (Elt F) arg11.view.ty) :
    Upto w s t x mk 0 (arg11.view.read (Elt F) (arg11.view.writes (Elt F) f
      [⟨Rect.unit (s := S96x67968) ![0, 67584] S96x384.size inb_S96x67968_S96x384_0_67584, k0_pay3⟩,
       ⟨Rect.unit (s := S96x67968) ![0, 0] S96x512.size inb_S96x67968_S96x512_0_0, k0_pay2⟩])) := by
  intro y hy
  have hy1 : (y 1 : ℕ) < 67968 := (y 1).isLt
  have hm : mid w s t x mk y = Scalar.ofBits .f32 0x00000000#32 := by
    unfold mid; rw [dif_neg (by omega)]
  rw [hm]
  by_cases hc : 67584 ≤ (y 1 : ℕ)
  · rw [View.read_writes_cons_hit_of_coords _ _ _ _ _
      (ix2 (y 0) ⟨(y 1 : ℕ) - 67584, by show _ < 384; omega⟩ : S96x384.Idx) y]
    · rfl
    · intro a
      match a with
      | ⟨0, _⟩ => show (y 0 : ℕ) = 0 + 1 * (y 0 : ℕ); omega
      | ⟨1, _⟩ => show (y 1 : ℕ) = 67584 + 1 * ((y 1 : ℕ) - 67584); omega
  · rw [View.read_writes_cons_miss_of_axis _ _ _ _ y 1 67584 384 rfl rfl rfl (by omega)]
    rw [View.read_writes_cons_hit_of_coords _ _ _ _ _
      (ix2 (y 0) ⟨(y 1 : ℕ), by show _ < 512; omega⟩ : S96x512.Idx) y]
    · rfl
    · intro a
      match a with
      | ⟨0, _⟩ => show (y 0 : ℕ) = 0 + 1 * (y 0 : ℕ); omega
      | ⟨1, _⟩ => show (y 1 : ℕ) = 0 + 1 * (y 1 : ℕ); omega

theorem upto_all (w : Vec F S96x54 .f32) (s t : Vec F S96x1 .f32) (x : Vec F S1x6x67968 .f32) (mk : Vec F S1x67072 .f32)
    (g : Vec F S96x67968 .f32) (h : Upto w s t x mk k0_t1_loop.trips g) : g = mid w s t x mk :=
  funext fun y => h y (by rw [trips1]; omega)

/-- One trip of the first loop. -/
theorem trip1 (E : Set ℕ) (X2 : BufTy.Contents (Elt F) arg2.view.ty) (X9 : BufTy.Contents (Elt F) arg9.view.ty)
    (w : Vec F S96x54 .f32) (s t : Vec F S96x1 .f32) (k : Fin k0_t1_loop.trips) (u : Unit) :
    Inv1 (F := F) c arg2 arg9 arg11 X2 X9 w s t k.val
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 w s t k u)
          (fun _ => Inv1 (F := F) c arg2 arg9 arg11 X2 X9 w s t (k.val + 1)) := by
  have hk : k.val < 131 := Nat.lt_of_lt_of_le k.isLt k0_t1_abs.2.1
  unfold k0_t1_body
  iintro ⟨H2, H9, %f, %hf, H11⟩
  sl_exec
  sl_step
  isplitl [H2]; · iexact H2
  isplitl [H9]; · iexact H9
  iexists _
  isplitr
  swap
  · iexact H11
  ipureintro
  have := upto_succ arg11 w s t (arg2.view.read (Elt F) X2) (arg9.view.read (Elt F) X9) k f hf
  exact this

/-- One trip of the second loop. -/
theorem trip2 (E : Set ℕ) (X9 : BufTy.Contents (Elt F) arg9.view.ty) (X11 : BufTy.Contents (Elt F) arg11.view.ty)
    (w2 : Vec F S96x864 .f32) (s2 t2 : Vec F S96x1 .f32) (k : Fin k0_t2_loop.trips) (a : FVec F S96x512 .f32) :
    Inv2 (F := F) c arg9 arg11 X9 X11 w2 s2 t2 k.val a
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 w2 s2 t2 k a)
          (fun b => Inv2 (F := F) c arg9 arg11 X9 X11 w2 s2 t2 (k.val + 1) b) := by
  have hk : k.val < 131 := Nat.lt_of_lt_of_le k.isLt k0_t2_abs.2.1
  unfold k0_t2_body
  iintro ⟨H9, H11, %ha⟩
  sl_exec
  sl_step
  isplitl [H9]; · iexact H9
  isplitl [H11]; · iexact H11
  ipureintro
  rw [acc_succ, ← ha]
  rfl

/-- What the kernel body does: from its input blocks to the output block `out` of them, the scratch left at something. -/
theorem body (x0 : Vec F S1x6x67968 .f32) (x1 : Vec F S96x54 .f32) (x2 : Vec F S96x864 .f32) (x3 : Vec F S96x1 .f32) (x4 : Vec F S96x1 .f32) (x5 : Vec F S96x1 .f32) (x6 : Vec F S96x1 .f32) (x7 : Vec F S1x67072 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out x0 x1 x2 x3 x4 x5 x6 x7) ∗ (∃ d, owns (c : Thread nD τ) arg11 fullShare d)) -∗ K ⟨⟩))
          ⊢ wp frame (wpE (defs₀ (F := F)) Variants.none c none) E (cc0_conv_branches i arg2 harg2 arg3 harg3 arg4 harg4 arg5 harg5 arg6 harg6 arg7 harg7 arg8 harg8 arg9 harg9 arg10 harg10 arg11 harg11) K := by
  simp only [cc0_conv_branches_eq_skeleton]; unfold cc0_conv_branches_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  set_option sl_exec.maxSteps 11 in sl_exec
  rw [View.readAt_eq_ld, View.readAt_eq_ld, View.readAt_eq_ld, View.readAt_eq_ld, View.readAt_eq_ld, View.readAt_eq_ld, hf1, hf2, hf3, hf4, hf5, hf6,
    View.ld_unit_zero (S := S96x54) hz2, View.ld_unit_zero (S := S96x864) hz2, View.ld_unit_zero (S := S96x1) hz2, View.ld_unit_zero (S := S96x1) hz2,
    View.ld_unit_zero (S := S96x1) hz2, View.ld_unit_zero (S := S96x1) hz2]
  sl_for (fun k (_ : Unit) => Inv1 (F := F) c arg2 arg9 arg11 f0 f7 x1 x3 x4 k) $$ [H0 H7 HS0]
  · intro k u
    exact trip1 (F := F) c i arg2 harg2 arg3 harg3 arg4 harg4 arg5 harg5 arg6 harg6 arg7 harg7 arg8 harg8 arg9 harg9 arg10 harg10 arg11 harg11 E f0 f7 x1 x3 x4 k u
  · isplitl [H0]; · iexact H0
    isplitl [H7]; · iexact H7
    iexists _
    isplitr
    swap
    · iexact HS0
    ipureintro
    exact upto_zero arg11 x1 x3 x4 _ _ fs0
  iintro %u ⟨H0, H7, %f, %hf, HS0⟩
  have hmid : arg11.view.read (Elt F) f = mid x1 x3 x4 x0 x7 := by
    rw [← hf0, ← hf7]; exact upto_all x1 x3 x4 _ _ _ hf
  sl_for (fun k (a : FVec F S96x512 .f32) => Inv2 (F := F) c arg9 arg11 f7 f x2 x5 x6 k a) $$ [H7 HS0]
  · intro k a
    exact trip2 (F := F) c i arg2 harg2 arg3 harg3 arg4 harg4 arg5 harg5 arg6 harg6 arg7 harg7 arg8 harg8 arg9 harg9 arg10 harg10 arg11 harg11 E f7 f x2 x5 x6 k a
  · isplitl [H7]; · iexact H7
    isplitl [HS0]; · iexact HS0
    ipureintro
    rfl
  iintro %a ⟨H7, HS0, %ha⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap
    · iexact H8
    ipureintro
    funext y
    refine (View.read_writes_cons_hit_of_coords _ _ _ _ _ y y fun b => ?_).trans ?_
    · match b with
      | ⟨0, _⟩ => show (y 0 : ℕ) = 0 + 1 * (y 0 : ℕ); omega
      | ⟨1, _⟩ => show (y 1 : ℕ) = 0 + 1 * (y 1 : ℕ); omega
      | ⟨2, _⟩ => show (y 2 : ℕ) = 0 + 1 * (y 2 : ℕ); omega
    have e : a = acc x2 x5 x6 (mid x1 x3 x4 x0 x7) x7 131 := by
      rw [ha, hmid, hf7]; exact congrArg _ trips2
    rw [e]
    rfl
  iexists _, _; isplitr; swap; · iexact HS0
  ipureintro; rfl
end

end Cert.KernelIdeal.Own

end
-- ==== Proof.FrameIdeal.lean ====
/-
  The kernel's run: every weakly fair execution of its main function ends, leaves the arguments as they were, and
  leaves in the result array, block by block, what the body computes from the point's input blocks (`out`).
-/
module

public import proofs.«01_k».proof.Proof.BodyIdeal
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`: the body's block of the point's input blocks. -/
def outsAt0 (c : Dev nD) (t : Fin cfg0.N) : Vec F S1x96x1 .f32 :=
  out (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩) (run_main m ρ)

/-- The frame: every execution ends, with the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Own

end
-- ==== Proof.Region.lean ====
/-
  What each grid point reads and what the result array holds at the end: point `t` is example `t`; it reads example
  `t`'s padded images and the other arrays whole, and writes row `t` of the result.
-/
module

public import proofs.«01_k».proof.Proof.FrameIdeal
public import Idealize.ShloMosaic.Lib.Pipeline.Value
public import Idealize.ShloMosaic.Lib.Pointwise.Index

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Which block of the images point `t` reads: example `t`. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Which block of the result point `t` writes: example `t`. -/
theorem index8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)

theorem points : cfg0.N = 16 := N_0

/-- Point `t` reads example `t` of the padded images. -/
theorem block0 (c : Dev nD) (t : Fin cfg0.N) (i : Fin 6) (q : Fin 67968) :
    (iblk m c 0 t : Vec F S1x6x67968 .f32) (ix3 0 i q)
      = (V m c main_v102 : Vec F S16x6x67968 .f32) (ix3 ⟨t.val, t.isLt.trans_eq points⟩ i q) := by
  have hi := index0 t
  unfold iblk
  rw [View.read_apply]
  show V m c main_v102 _ = V m c main_v102 _
  congr 1
  funext a
  apply Fin.ext
  match a with
  | ⟨0, _⟩ => show win0_0.index t 0 * 1 + 1 * 0 = t.val; rw [hi.1]; omega
  | ⟨1, _⟩ => show win0_0.index t 1 * 6 + 1 * i.val = i.val; rw [hi.2.1]; omega
  | ⟨2, _⟩ => show win0_0.index t 2 * 67968 + 1 * q.val = q.val; rw [hi.2.2]; omega

/-- Every point reads the whole of array 1. -/
theorem block1 (c : Dev nD) (t : Fin cfg0.N) : (iblk m c 1 t : Vec F S96x54 .f32) = V m c main_v15 := by
  have hi : ∀ t : Fin cfg0.N, win0_1.index t 0 = 0 ∧ win0_1.index t 1 = 0 :=
    (by decide +kernel : ∀ t : Fin grid0.N, win0_1.index t 0 = 0 ∧ win0_1.index t 1 = 0)
  funext j
  unfold iblk
  rw [View.read_apply]
  show V m c main_v15 _ = V m c main_v15 _
  congr 1
  funext a
  apply Fin.ext
  match a with
  | ⟨0, _⟩ => show win0_1.index t 0 * 96 + 1 * (j 0).val = (j 0).val; rw [(hi t).1]; omega
  | ⟨1, _⟩ => show win0_1.index t 1 * 54 + 1 * (j 1).val = (j 1).val; rw [(hi t).2]; omega

/-- Every point reads the whole of array 2. -/
theorem block2 (c : Dev nD) (t : Fin cfg0.N) : (iblk m c 2 t : Vec F S96x864 .f32) = V m c main_v30 := by
  have hi : ∀ t : Fin cfg0.N, win0_2.index t 0 = 0 ∧ win0_2.index t 1 = 0 :=
    (by decide +kernel : ∀ t : Fin grid0.N, win0_2.index t 0 = 0 ∧ win0_2.index t 1 = 0)
  funext j
  unfold iblk
  rw [View.read_apply]
  show V m c main_v30 _ = V m c main_v30 _
  congr 1
  funext a
  apply Fin.ext
  match a with
  | ⟨0, _⟩ => show win0_2.index t 0 * 96 + 1 * (j 0).val = (j 0).val; rw [(hi t).1]; omega
  | ⟨1, _⟩ => show win0_2.index t 1 * 864 + 1 * (j 1).val = (j 1).val; rw [(hi t).2]; omega

/-- Every point reads the whole of array 3. -/
theorem block3 (c : Dev nD) (t : Fin cfg0.N) : (iblk m c 3 t : Vec F S96x1 .f32) = V m c main_v62 := by
  have hi : ∀ t : Fin cfg0.N, win0_3.index t 0 = 0 ∧ win0_3.index t 1 = 0 :=
    (by decide +kernel : ∀ t : Fin grid0.N, win0_3.index t 0 = 0 ∧ win0_3.index t 1 = 0)
  funext j
  unfold iblk
  rw [View.read_apply]
  show V m c main_v62 _ = V m c main_v62 _
  congr 1
  funext a
  apply Fin.ext
  match a with
  | ⟨0, _⟩ => show win0_3.index t 0 * 96 + 1 * (j 0).val = (j 0).val; rw [(hi t).1]; omega
  | ⟨1, _⟩ => show win0_3.index t 1 * 1 + 1 * (j 1).val = (j 1).val; rw [(hi t).2]; omega

/-- Every point reads the whole of array 4. -/
theorem block4 (c : Dev nD) (t : Fin cfg0.N) : (iblk m c 4 t : Vec F S96x1 .f32) = V m c main_v64 := by
  have hi : ∀ t : Fin cfg0.N, win0_4.index t 0 = 0 ∧ win0_4.index t 1 = 0 :=
    (by decide +kernel : ∀ t : Fin grid0.N, win0_4.index t 0 = 0 ∧ win0_4.index t 1 = 0)
  funext j
  unfold iblk
  rw [View.read_apply]
  show V m c main_v64 _ = V m c main_v64 _
  congr 1
  funext a
  apply Fin.ext
  match a with
  | ⟨0, _⟩ => show win0_4.index t 0 * 96 + 1 * (j 0).val = (j 0).val; rw [(hi t).1]; omega
  | ⟨1, _⟩ => show win0_4.index t 1 * 1 + 1 * (j 1).val = (j 1).val; rw [(hi t).2]; omega

/-- Every point reads the whole of array 5. -/
theorem block5 (c : Dev nD) (t : Fin cfg0.N) : (iblk m c 5 t : Vec F S96x1 .f32) = V m c main_v96 := by
  have hi : ∀ t : Fin cfg0.N, win0_5.index t 0 = 0 ∧ win0_5.index t 1 = 0 :=
    (by decide +kernel : ∀ t : Fin grid0.N, win0_5.index t 0 = 0 ∧ win0_5.index t 1 = 0)
  funext j
  unfold iblk
  rw [View.read_apply]
  show V m c main_v96 _ = V m c main_v96 _
  congr 1
  funext a
  apply Fin.ext
  match a with
  | ⟨0, _⟩ => show win0_5.index t 0 * 96 + 1 * (j 0).val = (j 0).val; rw [(hi t).1]; omega
  | ⟨1, _⟩ => show win0_5.index t 1 * 1 + 1 * (j 1).val = (j 1).val; rw [(hi t).2]; omega

/-- Every point reads the whole of array 6. -/
theorem block6 (c : Dev nD) (t : Fin cfg0.N) : (iblk m c 6 t : Vec F S96x1 .f32) = V m c main_v98 := by
  have hi : ∀ t : Fin cfg0.N, win0_6.index t 0 = 0 ∧ win0_6.index t 1 = 0 :=
    (by decide +kernel : ∀ t : Fin grid0.N, win0_6.index t 0 = 0 ∧ win0_6.index t 1 = 0)
  funext j
  unfold iblk
  rw [View.read_apply]
  show V m c main_v98 _ = V m c main_v98 _
  congr 1
  funext a
  apply Fin.ext
  match a with
  | ⟨0, _⟩ => show win0_6.index t 0 * 96 + 1 * (j 0).val = (j 0).val; rw [(hi t).1]; omega
  | ⟨1, _⟩ => show win0_6.index t 1 * 1 + 1 * (j 1).val = (j 1).val; rw [(hi t).2]; omega

/-- Every point reads the whole of array 7. -/
theorem block7 (c : Dev nD) (t : Fin cfg0.N) : (iblk m c 7 t : Vec F S1x67072 .f32) = V m c main_v0 := by
  have hi : ∀ t : Fin cfg0.N, win0_7.index t 0 = 0 ∧ win0_7.index t 1 = 0 :=
    (by decide +kernel : ∀ t : Fin grid0.N, win0_7.index t 0 = 0 ∧ win0_7.index t 1 = 0)
  funext j
  unfold iblk
  rw [View.read_apply]
  show V m c main_v0 _ = V m c main_v0 _
  congr 1
  funext a
  apply Fin.ext
  match a with
  | ⟨0, _⟩ => show win0_7.index t 0 * 1 + 1 * (j 0).val = (j 0).val; rw [(hi t).1]; omega
  | ⟨1, _⟩ => show win0_7.index t 1 * 67072 + 1 * (j 1).val = (j 1).val; rw [(hi t).2]; omega

/-- The result array: row `b` is what the body computes at point `b`. -/
def rows (c : Dev nD) : Vec F S16x96x1 .f32 := fun i =>
  outsAt0 m c ⟨(i 0).val, (i 0).isLt.trans_eq points.symm⟩ (ix3 0 (i 1) (i 2))

/-- What point `t` writes back is its row of the result array. -/
theorem flushed (c : Dev nD) (t : Fin cfg0.N) (hf : (cfg0.win 8).flush t = true) :
    (dats m 0 c).flushed 8 t = ((cfg0.win 8).blk t).view.read (Elt F) (rows m c) := by
  have hi := index8 t
  show (cfg0.win 8).cut (grid0.coords t) ((dats m 0 c).after 8 t) = _
  rw [after0_8]
  funext j
  rw [View.read_apply]
  have h0 : (j 0).val < 1 := (j 0).isLt
  have e : (((cfg0.win 8).blk t).view.emb j : S16x96x1.Idx) = ix3 ⟨t.val, t.isLt.trans_eq points⟩ (j 1) (j 2) := by
    funext a
    apply Fin.ext
    match a with
    | ⟨0, _⟩ => show win0_8.index t 0 * 1 + 1 * (j 0).val = t.val; rw [hi.1]; omega
    | ⟨1, _⟩ => show win0_8.index t 1 * 96 + 1 * (j 1).val = (j 1).val; rw [hi.2.1]; omega
    | ⟨2, _⟩ => show win0_8.index t 2 * 1 + 1 * (j 2).val = (j 2).val; rw [hi.2.2]; omega
  show outsAt0 m c t _ = rows m c (((cfg0.win 8).blk t).view.emb j)
  rw [e]
  show outsAt0 m c t _ = outsAt0 m c t _
  congr 1
  funext a
  apply Fin.ext
  match a with
  | ⟨0, _⟩ => show (j 0).val = 0; omega
  | ⟨1, _⟩ => rfl
  | ⟨2, _⟩ => rfl

/-- So the result array ends as `rows`: the sixteen points cover it. -/
theorem final (c : Dev nD) : (dats m 0 c).arrAt 8 cfg0.N = rows m c :=
  (dats m 0 c).arrAt_eq_of_cover 8 (rows m c) (flushed m c) fun i => by
    have h0 : (i 0 : ℕ) < 16 := (i 0).isLt
    have h1 : (i 1 : ℕ) < 96 := (i 1).isLt
    have h2 : (i 2 : ℕ) < 1 := (i 2).isLt
    have key : ∀ t : Fin cfg0.N, t.val = (i 0 : ℕ) → i ∈ ((cfg0.win 8).blk t).view.set := fun t ht => by
      have hi := index8 t
      show i ∈ ((View.whole main_v103).slice (win0_8.rect t)).set
      rw [View.set_slice_whole, Rect.mem_set_unit]
      intro a
      match a with
      | ⟨0, _⟩ =>
        show win0_8.index t 0 * 1 ≤ (i 0 : ℕ) ∧ (i 0 : ℕ) < win0_8.index t 0 * 1 + 1
        rw [hi.1]; omega
      | ⟨1, _⟩ =>
        show win0_8.index t 1 * 96 ≤ (i 1 : ℕ) ∧ (i 1 : ℕ) < win0_8.index t 1 * 96 + 96
        rw [hi.2.1]; omega
      | ⟨2, _⟩ =>
        show win0_8.index t 2 * 1 ≤ (i 2 : ℕ) ∧ (i 2 : ℕ) < win0_8.index t 2 * 1 + 1
        rw [hi.2.2]; omega
    exact ⟨⟨(i 0).val, h0.trans_eq points.symm⟩, flush0_8 _, key _ rfl⟩

/-- The run, read: the result array at `rows`, the arguments unchanged. -/
theorem run_rows : θ_run defs (onTc (τ := τ) (main (F := F))) ⟨m, fun _ => 0, ρ⟩ fun r => ∀ c : Dev nD,
      r.2.mem ((c.tc : Thread nD τ).loc main_v103) = rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.Own

end
-- ==== Proof.Sums.lean ====
/-
  Sums over flattened indices: a run of blocks, the taps of a 3 by 3 window, the pixels of a bordered image.
-/
module

public import Idealize.ShloMosaic.Lib.Pointwise.Index

@[expose] public section

namespace Cert.Conv

variable {M : Type*} [AddCommMonoid M]

/-- A sum over `m` blocks of `n`, block by block. -/
theorem sum_blocks {N : ℕ} (m n : ℕ) (hN : N = m * n) (f : Fin N → M) :
    ∑ k, f k = ∑ a : Fin m, ∑ i : Fin n, f ⟨a.val * n + i.val, by
      have := Nat.mul_le_mul_right n (Nat.succ_le_of_lt a.isLt)
      have := i.isLt
      rw [Nat.succ_mul] at *
      omega⟩ := by
  subst hN
  rw [← finProdFinEquiv.sum_comp, Fintype.sum_prod_type]
  refine Finset.sum_congr rfl fun a _ => Finset.sum_congr rfl fun i _ => congrArg f (Fin.ext ?_)
  show i.val + n * a.val = a.val * n + i.val
  rw [Nat.mul_comm, Nat.add_comm]

/-- A sum over nine taps of `n` channels each. -/
theorem sum_taps {N : ℕ} (n : ℕ) (hN : N = 9 * n) (f : Fin N → M) (g : Fin 3 → Fin 3 → Fin n → M)
    (h : ∀ (dy dx : Fin 3) (i : Fin n) (k : Fin N), k.val = (dy.val * 3 + dx.val) * n + i.val → f k = g dy dx i) :
    ∑ k, f k = ∑ dy, ∑ dx, ∑ i, g dy dx i := by
  rw [sum_blocks 9 n hN, sum_blocks 3 3 rfl]
  exact Finset.sum_congr rfl fun dy _ => Finset.sum_congr rfl fun dx _ => Finset.sum_congr rfl fun i _ => h _ _ _ _ rfl

/-- A sum whose terms vanish from `a` on. -/
theorem sum_low {N : ℕ} (a b : ℕ) (hN : N = a + b) (f : Fin N → M) (h : ∀ i : Fin N, a ≤ i.val → f i = 0) :
    ∑ i, f i = ∑ i : Fin a, f ⟨i.val, by omega⟩ := by
  subst hN
  rw [Fin.sum_univ_add, Finset.sum_eq_zero (f := fun i : Fin b => f (Fin.natAdd a i)) fun i _ => h _ (Nat.le_add_right _ _), add_zero]
  rfl

/-- A sum whose terms vanish below `a`. -/
theorem sum_high {N : ℕ} (a b : ℕ) (hN : N = a + b) (f : Fin N → M) (h : ∀ i : Fin N, i.val < a → f i = 0) :
    ∑ i, f i = ∑ i : Fin b, f ⟨a + i.val, by omega⟩ := by
  subst hN
  rw [Fin.sum_univ_add, Finset.sum_eq_zero (f := fun i : Fin a => f (Fin.castAdd b i)) fun i _ => h _ i.isLt, zero_add]
  rfl

/-- Position `p` of the flattened 258 by 258 array is inside the border. -/
def inside (p : ℕ) : Prop := (258 ≤ p ∧ p < 66306) ∧ 1 ≤ p % 258 ∧ p % 258 ≤ 256

/-- The lanes of all strips together are the image's pixels, when what is off the image vanishes. -/
theorem sum_image (f : Fin 67072 → M) (h : ∀ p, ¬ inside p.val → f p = 0) :
    ∑ l : Fin 512, ∑ k : Fin 131, f ⟨512 * k.val + l.val, by omega⟩
      = ∑ r : Fin 256, ∑ c : Fin 256, f ⟨(r.val + 1) * 258 + (c.val + 1), by omega⟩ := by
  rw [Finset.sum_comm]
  have e := sum_blocks (N := 67072) 131 512 rfl f
  have e' : ∑ k : Fin 131, ∑ l : Fin 512, f ⟨512 * k.val + l.val, by omega⟩ = ∑ p, f p := by
    rw [e]
    exact Finset.sum_congr rfl fun k _ => Finset.sum_congr rfl fun l _ =>
      congrArg f (Fin.ext (congrArg (· + l.val) (Nat.mul_comm 512 k.val)))
  rw [e', ← Fintype.sum_prod_type' (f := fun (r c : Fin 256) => f ⟨(r.val + 1) * 258 + (c.val + 1), by omega⟩)]
  symm
  refine Finset.sum_of_injOn (fun x : Fin 256 × Fin 256 => (⟨(x.1.val + 1) * 258 + (x.2.val + 1), by omega⟩ : Fin 67072)) ?_ ?_ ?_ ?_
  · intro x _ y _ hxy
    have := congrArg Fin.val hxy
    simp only at this
    exact Prod.ext (Fin.ext (by omega)) (Fin.ext (by omega))
  · intro x _
    exact Finset.mem_coe.2 (Finset.mem_univ _)
  · intro p _ hp
    refine h p fun hi => hp ?_
    obtain ⟨h1, h2⟩ := hi
    exact ⟨(⟨p.val / 258 - 1, by omega⟩, ⟨p.val % 258 - 1, by omega⟩), Finset.mem_coe.2 (Finset.mem_univ _),
      Fin.ext (by simp only; omega)⟩
  · intro x _
    rfl

end Cert.Conv

end
-- ==== Proof.Strip.lean ====
/-
  One strip of each layer, element by element: nine shifted slices of a window stacked, multiplied by the weights,
  scaled, offset, clipped at zero and masked.
-/
module

public import proofs.«01_k».proof.Proof.BodyIdeal
public import proofs.«01_k».proof.Proof.Sums
public import Idealize.ShloMosaic.Lib.Pointwise

@[expose] public section

set_option maxRecDepth 16384

noncomputable section

namespace Cert.KernelIdeal.Own

open Cert.KernelIdeal Cert.KernelIdeal.Gen Cert.Conv
open Idealize.ShloMosaic Idealize.ShloMosaic.TcCoe Idealize.ShloMosaic.Tactic

set_option maxHeartbeats 1000000 in
/-- Output channel `o` of the first layer on one strip, lane `l`. -/
theorem pay4_apply (w : S96x54.Idx → EReal) (s t : S96x1.Idx → EReal) (x : S1x6x1280.Idx → EReal) (mk : S1x512.Idx → EReal)
    (o : Fin 96) (l : Fin 512) :
    (k0_pay4 (F := Ideal) w s t x mk : S96x512.Idx → EReal) (ix2 o l)
      = max ((∑ dy : Fin 3, ∑ dx : Fin 3, ∑ i : Fin 6, w (ix2 o ⟨(dy.val * 3 + dx.val) * 6 + i.val, by omega⟩)
            * x (ix3 0 i ⟨125 + 258 * dy.val + dx.val + l.val, by omega⟩)) * s (ix2 o 0) + t (ix2 o 0)) 0 * mk (ix2 0 l) := by
  pointwise [k0_pay4]
  refine congrArg (fun z => max (z * s (ix2 o 0) + t (ix2 o 0)) 0 * mk (ix2 0 l)) (sum_taps 6 rfl _ _ fun dy dx i k hk => ?_)
  refine congrArg₂ (· * ·) (congrArg w (congrArg (ix2 o) (Fin.ext hk))) ?_
  have hi := i.isLt
  obtain ⟨dy, hy⟩ := dy
  obtain ⟨dx, hx⟩ := dx
  simp only at hk
  interval_cases dy <;> interval_cases dx <;> split_ifs <;>
    first
    | omega
    | exact congrArg₂ (fun a b => x (ix3 0 a b)) (Fin.ext (by simp only; omega)) (Fin.ext (by simp only <;> omega))

set_option maxHeartbeats 4000000 in
/-- The lane sums of the second layer, one strip further. -/
theorem pay6_apply (w : S96x864.Idx → EReal) (s t : S96x1.Idx → EReal) (a : S96x512.Idx → EReal) (x : S96x1280.Idx → EReal)
    (mk : S1x512.Idx → EReal) (o : Fin 96) (l : Fin 512) :
    (k0_pay6 (F := Ideal) w s t a x mk : S96x512.Idx → EReal) (ix2 o l)
      = a (ix2 o l) + max ((∑ dy : Fin 3, ∑ dx : Fin 3, ∑ i : Fin 96, w (ix2 o ⟨(dy.val * 3 + dx.val) * 96 + i.val, by omega⟩)
            * x (ix2 i ⟨125 + 258 * dy.val + dx.val + l.val, by omega⟩)) * s (ix2 o 0) + t (ix2 o 0)) 0 * mk (ix2 0 l) := by
  pointwise [k0_pay6]
  refine congrArg (fun z => a (ix2 o l) + max (z * s (ix2 o 0) + t (ix2 o 0)) 0 * mk (ix2 0 l)) (sum_taps 96 rfl _ _ fun dy dx i k hk => ?_)
  refine congrArg₂ (· * ·) (congrArg w (congrArg (ix2 o) (Fin.ext hk))) ?_
  have hi := i.isLt
  obtain ⟨dy, hy⟩ := dy
  obtain ⟨dx, hx⟩ := dx
  simp only at hk
  interval_cases dy <;> interval_cases dx <;> split_ifs <;>
    first
    | omega
    | exact congrArg₂ (fun a b => x (ix2 a b)) (Fin.ext (by simp only; omega)) (Fin.ext (by simp only <;> omega))

/-- The lanes summed and scaled. -/
theorem pay17_apply (a : S96x512.Idx → EReal) (o : Fin 96) :
    (k0_pay1 (F := Ideal) (k0_pay7 a) (Scalar.ofBits .f32 0x37800000#32) : S1x96x1.Idx → EReal) (ix3 0 o 0)
      = (∑ l : Fin 512, a (ix2 o l)) * Ideal.ofBits .f32 0x37800000#32 := by
  pointwise [k0_pay1, k0_pay7]

end Cert.KernelIdeal.Own

end
-- ==== Proof.Fold.lean ====
/-
  The mathematics between the two programs. A layer with its bias and normalisation folded into one scale and one
  offset is the layer; a layer whose weights are zero outside one branch's channels is that branch's; positions of the
  flattened, bordered image are rows and columns.
-/
module

public import proofs.«01_k».proof.Proof.Spec
public import proofs.«01_k».proof.Proof.Sums
public import Idealize.ShloMosaic.Lib.IdealHost

@[expose] public section

noncomputable section

namespace Cert.Conv

open Idealize.ShloMosaic

/-- A layer at flattened position `p`: nine taps, 258 columns to a row, starting at column `p + 253` of `x`; then the
    scale, the offset, the clip and the mask. -/
def flat {n : ℕ} (w : Fin 3 → Fin 3 → Fin n → EReal) (s t : EReal) (x : Fin n → Fin 67968 → EReal) (mk : Fin 67072 → EReal)
    (p : Fin 67072) : EReal :=
  max ((∑ dy : Fin 3, ∑ dx : Fin 3, ∑ i : Fin n, w dy dx i * x i ⟨p.val + 253 + 258 * dy.val + dx.val, by omega⟩) * s + t) 0
    * mk p

/-- A layer at row `r`, column `c` of the image, with scale and offset folded. -/
def step {n : ℕ} (w : Fin 3 → Fin 3 → Fin n → EReal) (s t : EReal) (x : Fin n → ℕ → ℕ → EReal) (r c : ℕ) : EReal :=
  max ((∑ dy : Fin 3, ∑ dx : Fin 3, ∑ i : Fin n, w dy dx i * x i (r + dy.val) (c + dx.val)) * s + t) 0

/-- On the image the flattened layer is the layer at the position's row and column. -/
theorem flat_inside {n : ℕ} (w : Fin 3 → Fin 3 → Fin n → EReal) (s t : EReal) (X : Fin n → Fin 67968 → EReal)
    (x : Fin n → ℕ → ℕ → EReal) (hx : ∀ i (R C : Fin 258), X i ⟨512 + R.val * 258 + C.val, by omega⟩ = x i R C)
    (mk : Fin 67072 → EReal) (hm : ∀ p, inside p.val → mk p = 1) (r c : Fin 256) :
    flat w s t X mk ⟨(r.val + 1) * 258 + (c.val + 1), by omega⟩ = step w s t x r c := by
  have hr := r.isLt
  have hc := c.isLt
  unfold flat step
  rw [hm _ (by unfold inside; simp only; omega), mul_one]
  have e : ∀ (dy dx : Fin 3) (i : Fin n),
      X i ⟨(r.val + 1) * 258 + (c.val + 1) + 253 + 258 * dy.val + dx.val, by omega⟩ = x i (r.val + dy.val) (c.val + dx.val) := by
    intro dy dx i
    rw [← hx i ⟨r.val + dy.val, by omega⟩ ⟨c.val + dx.val, by omega⟩]
    exact congrArg (X i) (Fin.ext (by simp only; omega))
  simp only [e]

/-- Off the image the flattened layer is zero. -/
theorem flat_outside {n : ℕ} (w : Fin 3 → Fin 3 → Fin n → EReal) (s t : EReal) (X : Fin n → Fin 67968 → EReal)
    (mk : Fin 67072 → EReal) (p : Fin 67072) (hm : mk p = 0) : flat w s t X mk p = 0 := by
  unfold flat
  rw [hm, mul_zero]

/-- So the flattened layer is the layer's image inside a border of zeros. -/
theorem flat_border {n : ℕ} (w : Fin 3 → Fin 3 → Fin n → EReal) (s t : EReal) (X : Fin n → Fin 67968 → EReal)
    (x : Fin n → ℕ → ℕ → EReal) (hx : ∀ i (R C : Fin 258), X i ⟨512 + R.val * 258 + C.val, by omega⟩ = x i R C)
    (mk : Fin 67072 → EReal) (hm : ∀ p, inside p.val → mk p = 1) (hz : ∀ p, ¬ inside p.val → mk p = 0) (R C : Fin 258) :
    flat w s t X mk ⟨R.val * 258 + C.val, by omega⟩ = border (fun r c => step w s t x r c) R C := by
  have hR := R.isLt
  have hC := C.isLt
  unfold border
  by_cases h : (1 ≤ R.val ∧ R.val ≤ 256) ∧ (1 ≤ C.val ∧ C.val ≤ 256)
  · rw [dif_pos h]
    refine Eq.trans ?_ (flat_inside w s t X x hx mk hm ⟨R.val - 1, by omega⟩ ⟨C.val - 1, by omega⟩)
    exact congrArg _ (Fin.ext (by simp only; omega))
  · rw [dif_neg h]
    refine flat_outside _ _ _ _ _ _ (hz _ ?_)
    unfold inside
    simp only
    omega

/-- The extended real `x` is a real number. -/
def IsReal (x : EReal) : Prop := ∃ r : ℝ, x = r

/-- A real factor may be taken out of a sum with a real. -/
theorem add_mul_real (a : EReal) (c s : ℝ) : (a + c) * (s : EReal) = a * s + (c : EReal) * s := by
  induction a with
  | coe a => norm_cast; ring
  | bot =>
    rw [EReal.bot_add]
    rcases lt_trichotomy s 0 with h | h | h
    · rw [EReal.bot_mul_coe_of_neg h]; norm_cast
    · subst h; simp
    · rw [EReal.bot_mul_coe_of_pos h, EReal.bot_add]
  | top =>
    rw [EReal.top_add_coe]
    rcases lt_trichotomy s 0 with h | h | h
    · rw [EReal.top_mul_coe_of_neg h, EReal.bot_add]
    · subst h; simp
    · rw [EReal.top_mul_coe_of_pos h]; norm_cast

/-- For a positive `v`, multiplying by the reciprocal root is dividing by the root, and the quotient is real. -/
theorem scale_eq (g : ℝ) (v : EReal) (hv : 0 < v) :
    ∃ s : ℝ, (g : EReal) * Ideal.rsqrt v = s ∧ Ideal.div g (Ideal.sqrt v) = s := by
  induction v with
  | bot => exact absurd hv (by simp)
  | top =>
    refine ⟨0, ?_, ?_⟩
    · have e : Ideal.rsqrt ⊤ = 0 := rfl
      rw [e, mul_zero, EReal.coe_zero]
    · have e : Ideal.sqrt ⊤ = ⊤ := rfl
      rw [e, Ideal.div, if_neg EReal.top_ne_zero, EReal.inv_top, mul_zero, EReal.coe_zero]
  | coe v =>
    have hp : 0 < v := by exact_mod_cast hv
    have hs : 0 < Real.sqrt v := Real.sqrt_pos.mpr hp
    refine ⟨g * (Real.sqrt v)⁻¹, ?_, ?_⟩
    · have e : Ideal.rsqrt (v : EReal) = (((Real.sqrt v)⁻¹ : ℝ) : EReal) := by
        show (if v < 0 then ⊥ else if v = 0 then ⊤ else (((Real.sqrt v)⁻¹ : ℝ) : EReal)) = _
        rw [if_neg hp.not_gt, if_neg hp.ne']
      rw [e, EReal.coe_mul]
    · have e : Ideal.sqrt (v : EReal) = ((Real.sqrt v : ℝ) : EReal) := by
        show (if v < 0 then ⊥ else ((Real.sqrt v : ℝ) : EReal)) = _
        rw [if_neg hp.not_gt]
      rw [e, Ideal.div, if_neg (by exact_mod_cast hs.ne'), ← EReal.coe_inv, EReal.coe_mul]

/-- A channel's parameters are fit to be folded: its bias, scale and mean are real and its variance is above `-eps`. -/
def Layer.Fit {n k : ℕ} (L : Layer n k) (o : Fin k) : Prop :=
  IsReal (L.b o) ∧ IsReal (L.g o) ∧ IsReal (L.mu o) ∧ 0 < L.va o + eps

/-- The folded scale of channel `o`. -/
def Layer.scale {n k : ℕ} (L : Layer n k) (o : Fin k) : EReal := L.g o * Ideal.rsqrt (L.va o + eps)

/-- The folded offset of channel `o`. -/
def Layer.offset {n k : ℕ} (L : Layer n k) (o : Fin k) : EReal := (L.b o - L.mu o) * L.scale o + L.be o

/-- Folding changes nothing. -/
theorem Layer.norm_eq {n k : ℕ} (L : Layer n k) (o : Fin k) (h : L.Fit o) (a : EReal) :
    a * L.scale o + L.offset o = L.norm o (a + L.b o) := by
  obtain ⟨⟨b, hb⟩, ⟨g, hg⟩, ⟨mu, hmu⟩, hv⟩ := h
  obtain ⟨s, h1, h2⟩ := scale_eq g _ hv
  unfold Layer.offset Layer.norm Layer.scale
  rw [hb, hg, hmu, h1, h2, sub_eq_add_neg (a + (b : EReal)), add_assoc a, sub_eq_add_neg (b : EReal)]
  rw [← EReal.coe_neg, ← EReal.coe_add, add_mul_real, add_assoc]

/-- A layer whose weights vanish from channel `a` on is the branch on the first `a` channels. -/
theorem step_low {N a k : ℕ} (b : ℕ) (hN : N = a + b) (L : Layer a k) (o : Fin k) (hL : L.Fit o) (w : Fin 3 → Fin 3 → Fin N → EReal)
    (hw : ∀ dy dx i, w dy dx i = if h : i.val < a then L.w o ⟨i.val, h⟩ dy dx else 0) (x : Fin N → ℕ → ℕ → EReal)
    (y : Fin a → ℕ → ℕ → EReal) (hy : ∀ i : Fin a, x ⟨i.val, by omega⟩ = y i) (r c : ℕ) :
    step w (L.scale o) (L.offset o) x r c = L.at y o r c := by
  unfold step Layer.at
  rw [L.norm_eq o hL]
  refine congrArg (fun z => max (L.norm o (z + L.b o)) 0) ?_
  unfold conv
  refine Finset.sum_congr rfl fun dy _ => Finset.sum_congr rfl fun dx _ => ?_
  rw [sum_low a b hN _ fun i hi => by rw [hw, dif_neg (by omega), zero_mul]]
  refine Finset.sum_congr rfl fun i _ => ?_
  rw [hw, dif_pos i.isLt, hy, mul_comm]

/-- A layer whose weights vanish below channel `a` is the branch on the channels from `a` on. -/
theorem step_high {N b k : ℕ} (a : ℕ) (hN : N = a + b) (L : Layer b k) (o : Fin k) (hL : L.Fit o) (w : Fin 3 → Fin 3 → Fin N → EReal)
    (hw : ∀ dy dx i, w dy dx i = if h : a ≤ i.val then L.w o ⟨i.val - a, by omega⟩ dy dx else 0) (x : Fin N → ℕ → ℕ → EReal)
    (y : Fin b → ℕ → ℕ → EReal) (hy : ∀ i : Fin b, x ⟨a + i.val, by omega⟩ = y i) (r c : ℕ) :
    step w (L.scale o) (L.offset o) x r c = L.at y o r c := by
  unfold step Layer.at
  rw [L.norm_eq o hL]
  refine congrArg (fun z => max (L.norm o (z + L.b o)) 0) ?_
  unfold conv
  refine Finset.sum_congr rfl fun dy _ => Finset.sum_congr rfl fun dx _ => ?_
  rw [sum_high a b hN _ fun i hi => by rw [hw, dif_neg (by omega), zero_mul]]
  refine Finset.sum_congr rfl fun i _ => ?_
  rw [hw, dif_pos (Nat.le_add_right _ _), hy, mul_comm]
  refine congrArg (fun j => y i _ _ * L.w o j dy dx) (Fin.ext ?_)
  simp only
  omega

/-- Multiplying by 2⁻¹⁶ is dividing by 65536. -/
theorem mean_eq (z : EReal) : z * Ideal.ofBits .f32 0x37800000#32 = Ideal.div z (Ideal.ofBits .f32 0x47800000#32) := by
  have h1 : Ideal.ofBits .f32 0x37800000#32 = (((65536 : ℝ)⁻¹ : ℝ) : EReal) := by
    simp [Ideal.ofBits, Ideal.ieee, -EReal.coe_mul]; norm_num
  have h2 : Ideal.ofBits .f32 0x47800000#32 = ((65536 : ℝ) : EReal) := by
    simp [Ideal.ofBits, Ideal.ieee, -EReal.coe_mul]; norm_num
  rw [h1, h2]
  rw [Ideal.div, if_neg (by norm_num), ← EReal.coe_inv]

end Cert.Conv

end
-- ==== Proof.Layers.lean ====
/-
  The kernel's body over the extended reals: the scratch it fills is the first layer at every column, its lane sums are
  the second layer's, and what it leaves is their total, scaled.
-/
module

public import proofs.«01_k».proof.Proof.Strip
public import proofs.«01_k».proof.Proof.Fold
public import Idealize.ShloMosaic.Lib.Pipeline.Value

@[expose] public section

set_option maxRecDepth 16384

noncomputable section

namespace Cert.KernelIdeal.Own

open Cert.KernelIdeal Cert.KernelIdeal.Gen Cert.Conv
open Idealize.ShloMosaic Idealize.ShloMosaic.TcCoe Idealize.ShloMosaic.Tactic

/-- The window of the images strip `k` of the first layer reads. -/
theorem window1 (x : S1x6x67968.Idx → EReal) (k : Fin k0_t1_loop.trips) (i : Fin 6) (j : Fin 1280) (q : Fin 67968)
    (hq : q.val = 512 * k.val + 128 + j.val) :
    (View.ld (Val := Elt Ideal) (e' := .f32) x (Rect.unit (s := S1x6x67968) (k0_off1 k) S1x6x1280.size (k0_off1_inb k)) : S1x6x1280.Idx → EReal) (ix3 0 i j)
      = x (ix3 0 i q) := by
  refine congrArg x (funext fun a => Fin.ext ?_)
  have ho := k0_off1_eq k
  match a with
  | ⟨0, _⟩ => show k0_off1 k 0 + 1 * 0 = 0; rw [ho]; rfl
  | ⟨1, _⟩ => show k0_off1 k 1 + 1 * i.val = i.val; rw [ho]; show 0 + 1 * i.val = i.val; omega
  | ⟨2, _⟩ => show k0_off1 k 2 + 1 * j.val = q.val; rw [ho]; show 512 * k.val + 128 + 1 * j.val = q.val; omega

/-- The window of the scratch strip `k` of the second layer reads. -/
theorem window2 (x : S96x67968.Idx → EReal) (k : Fin k0_t2_loop.trips) (i : Fin 96) (j : Fin 1280) (q : Fin 67968)
    (hq : q.val = 512 * k.val + 128 + j.val) :
    (View.ld (Val := Elt Ideal) (e' := .f32) x (Rect.unit (s := S96x67968) (k0_off4 k) S96x1280.size (k0_off4_inb k)) : S96x1280.Idx → EReal) (ix2 i j)
      = x (ix2 i q) := by
  refine congrArg x (funext fun a => Fin.ext ?_)
  have ho := k0_off4_eq k
  match a with
  | ⟨0, _⟩ => show k0_off4 k 0 + 1 * i.val = i.val; rw [ho]; show 0 + 1 * i.val = i.val; omega
  | ⟨1, _⟩ => show k0_off4 k 1 + 1 * j.val = q.val; rw [ho]; show 512 * k.val + 128 + 1 * j.val = q.val; omega

/-- The window of the mask strip `k` of the first layer reads. -/
theorem maskWindow1 (x : S1x67072.Idx → EReal) (k : Fin k0_t1_loop.trips) (j : Fin 512) (q : Fin 67072)
    (hq : q.val = 512 * k.val + j.val) :
    (View.ld (Val := Elt Ideal) (e' := .f32) x (Rect.unit (s := S1x67072) (k0_off2 k) S1x512.size (k0_off2_inb k)) : S1x512.Idx → EReal) (ix2 0 j)
      = x (ix2 0 q) := by
  refine congrArg x (funext fun a => Fin.ext ?_)
  have ho := k0_off2_eq k
  match a with
  | ⟨0, _⟩ => show k0_off2 k 0 + 1 * 0 = 0; rw [ho]; rfl
  | ⟨1, _⟩ => show k0_off2 k 1 + 1 * j.val = q.val; rw [ho]; show 512 * k.val + 1 * j.val = q.val; omega

/-- The window of the mask strip `k` of the second layer reads. -/
theorem maskWindow2 (x : S1x67072.Idx → EReal) (k : Fin k0_t2_loop.trips) (j : Fin 512) (q : Fin 67072)
    (hq : q.val = 512 * k.val + j.val) :
    (View.ld (Val := Elt Ideal) (e' := .f32) x (Rect.unit (s := S1x67072) (k0_off5 k) S1x512.size (k0_off5_inb k)) : S1x512.Idx → EReal) (ix2 0 j)
      = x (ix2 0 q) := by
  refine congrArg x (funext fun a => Fin.ext ?_)
  have ho := k0_off5_eq k
  match a with
  | ⟨0, _⟩ => show k0_off5 k 0 + 1 * 0 = 0; rw [ho]; rfl
  | ⟨1, _⟩ => show k0_off5 k 1 + 1 * j.val = q.val; rw [ho]; show 512 * k.val + 1 * j.val = q.val; omega

/-- The first layer's weights of channel `o`, tap by tap. -/
abbrev tapsIn (w : S96x54.Idx → EReal) (o : Fin 96) : Fin 3 → Fin 3 → Fin 6 → EReal :=
  fun dy dx i => w (ix2 o ⟨(dy.val * 3 + dx.val) * 6 + i.val, by omega⟩)

/-- The second layer's weights of channel `o`, tap by tap. -/
abbrev tapsMid (w : S96x864.Idx → EReal) (o : Fin 96) : Fin 3 → Fin 3 → Fin 96 → EReal :=
  fun dy dx i => w (ix2 o ⟨(dy.val * 3 + dx.val) * 96 + i.val, by omega⟩)

/-- The first layer on strip `k`, lane `l`, is the layer at position `512 k + l`. -/
theorem strip1_apply (w : S96x54.Idx → EReal) (s t : S96x1.Idx → EReal) (x : S1x6x67968.Idx → EReal) (mk : S1x67072.Idx → EReal)
    (k : Fin k0_t1_loop.trips) (o : Fin 96) (l : Fin 512) (p : Fin 67072) (hp : p.val = 512 * k.val + l.val) :
    (strip1 (F := Ideal) w s t x mk k : S96x512.Idx → EReal) (ix2 o l)
      = flat (tapsIn w o) (s (ix2 o 0)) (t (ix2 o 0)) (fun i q => x (ix3 0 i q)) (fun q => mk (ix2 0 q)) p := by
  refine (pay4_apply w s t _ _ o l).trans ?_
  have e : ∀ (dy dx : Fin 3) (i : Fin 6), (View.ld (Val := Elt Ideal) (e' := .f32) x (Rect.unit (s := S1x6x67968) (k0_off1 k) S1x6x1280.size (k0_off1_inb k)) : S1x6x1280.Idx → EReal)
        (ix3 0 i ⟨125 + 258 * dy.val + dx.val + l.val, by omega⟩) = x (ix3 0 i ⟨p.val + 253 + 258 * dy.val + dx.val, by omega⟩) :=
    fun dy dx i => window1 x k i _ _ (by simp only; omega)
  rw [maskWindow1 mk k l p hp]
  simp only [e]
  rfl

/-- The scratch at column `512 + p` is the first layer at position `p`. -/
theorem mid_apply (w : S96x54.Idx → EReal) (s t : S96x1.Idx → EReal) (x : S1x6x67968.Idx → EReal) (mk : S1x67072.Idx → EReal)
    (o : Fin 96) (p : Fin 67072) :
    (mid (F := Ideal) w s t x mk : S96x67968.Idx → EReal) (ix2 o ⟨512 + p.val, by omega⟩)
      = flat (tapsIn w o) (s (ix2 o 0)) (t (ix2 o 0)) (fun i q => x (ix3 0 i q)) (fun q => mk (ix2 0 q)) p := by
  have hp := p.isLt
  have h : 512 ≤ 512 + p.val ∧ 512 + p.val < 67584 := by omega
  refine (dif_pos h).trans ?_
  exact strip1_apply w s t x mk _ o _ p (by
    show p.val = 512 * ((512 + p.val - 512) / 512) + (512 + p.val - 512) % 512
    omega)

/-- The lane sums after `k` strips. -/
theorem acc_apply (w : S96x864.Idx → EReal) (s t : S96x1.Idx → EReal) (x : S96x67968.Idx → EReal) (mk : S1x67072.Idx → EReal)
    (o : Fin 96) (l : Fin 512) (k : ℕ) (hk : k ≤ 131) :
    (acc (F := Ideal) w s t x mk k : S96x512.Idx → EReal) (ix2 o l)
      = ∑ j : Fin k, flat (tapsMid w o) (s (ix2 o 0)) (t (ix2 o 0)) (fun i q => x (ix2 i q)) (fun q => mk (ix2 0 q))
          ⟨512 * j.val + l.val, by omega⟩ := by
  induction k with
  | zero =>
    rw [Fin.sum_univ_zero]
    exact Ideal.ofBits_zero_f32
  | succ k ih =>
    have hk' : k < k0_t2_loop.trips := by rw [trips2]; omega
    rw [Fin.sum_univ_castSucc]
    refine (congrFun (acc_succ (F := Ideal) w s t x mk ⟨k, hk'⟩) (ix2 o l)).trans ?_
    refine (pay6_apply w s t _ _ _ o l).trans ?_
    refine congrArg₂ (· + ·) (ih (by omega)) ?_
    have e : ∀ (dy dx : Fin 3) (i : Fin 96), (View.ld (Val := Elt Ideal) (e' := .f32) x (Rect.unit (s := S96x67968) (k0_off4 ⟨k, hk'⟩) S96x1280.size (k0_off4_inb ⟨k, hk'⟩)) : S96x1280.Idx → EReal)
          (ix2 i ⟨125 + 258 * dy.val + dx.val + l.val, by omega⟩) = x (ix2 i ⟨512 * k + l.val + 253 + 258 * dy.val + dx.val, by omega⟩) :=
      fun dy dx i => window2 x ⟨k, hk'⟩ i _ _ (by simp only; omega)
    rw [maskWindow2 mk ⟨k, hk'⟩ l ⟨512 * k + l.val, by omega⟩ rfl]
    simp only [e]
    rfl

/-- What the body leaves for channel `o`: the second layer over the scratch, summed over all lanes of all strips. -/
theorem out_apply (x0 : S1x6x67968.Idx → EReal) (w1 : S96x54.Idx → EReal) (w2 : S96x864.Idx → EReal) (s1 t1 s2 t2 : S96x1.Idx → EReal)
    (mk : S1x67072.Idx → EReal) (o : Fin 96) :
    (out (F := Ideal) x0 w1 w2 s1 t1 s2 t2 mk : S1x96x1.Idx → EReal) (ix3 0 o 0)
      = (∑ l : Fin 512, ∑ k : Fin 131, flat (tapsMid w2 o) (s2 (ix2 o 0)) (t2 (ix2 o 0))
          (fun i q => (mid (F := Ideal) w1 s1 t1 x0 mk : S96x67968.Idx → EReal) (ix2 i q)) (fun q => mk (ix2 0 q))
          ⟨512 * k.val + l.val, by omega⟩) * Ideal.ofBits .f32 0x37800000#32 := by
  refine (pay17_apply _ o).trans ?_
  exact congrArg (· * _) (Finset.sum_congr rfl fun l _ => acc_apply w2 s2 t2 _ mk o l 131 le_rfl)

end Cert.KernelIdeal.Own

end
-- ==== Proof.Equation.lean ====
/-
  The kernel's result over the extended reals: each channel of each example is its branch's mean of two layers.
-/
module

public import proofs.«01_k».proof.Proof.HostIn
public import proofs.«01_k».proof.Proof.Region
public import proofs.«01_k».proof.Proof.Layers

@[expose] public section

set_option maxRecDepth 16384

noncomputable section

namespace Cert.KernelIdeal.Own

open Cert.KernelIdeal Cert.KernelIdeal.Gen Cert.Conv
open Idealize.ShloMosaic Idealize.ShloMosaic.TcCoe

variable (m : (ℓ : Loc nD τ sig) → Buf (Elt Ideal) ℓ) (c : Dev nD)

/-- The magnitude branch's first layer, from the kernel's arguments. -/
abbrev KM1 : Layer 3 64 := Layer.of (a2 m c) (a3 m c) (a4 m c)
/-- The magnitude branch's second layer. -/
abbrev KM2 : Layer 64 64 := Layer.of (a5 m c) (a6 m c) (a7 m c)
/-- The phase branch's first layer. -/
abbrev KP1 : Layer 3 32 := Layer.of (a8 m c) (a9 m c) (a10 m c)
/-- The phase branch's second layer. -/
abbrev KP2 : Layer 32 32 := Layer.of (a11 m c) (a12 m c) (a13 m c)

/-- Every channel's parameters are fit to be folded. -/
def Fits : Prop := (∀ o, (KM1 m c).Fit o) ∧ (∀ o, (KM2 m c).Fit o) ∧ (∀ o, (KP1 m c).Fit o) ∧ (∀ o, (KP2 m c).Fit o)

theorem onImage_iff (p : ℕ) : onImage p = true ↔ inside p := by
  unfold onImage inside
  simp only [Bool.and_eq_true, decide_eq_true_eq]
  omega

/-- The mask is one on the image. -/
theorem mask_in (p : Fin 67072) (h : inside p.val) : mIn m c (ix2 0 p) = 1 := by
  rw [mIn_apply, if_pos ((onImage_iff _).mpr h)]

/-- The mask is zero off the image. -/
theorem mask_out (p : Fin 67072) (h : ¬ inside p.val) : mIn m c (ix2 0 p) = 0 := by
  rw [mIn_apply, if_neg (fun k => h ((onImage_iff _).mp k))]

/-- Both branches' bordered images of example `b`, one after the other. -/
def both (b : Fin 16) (i : Fin 6) (R C : ℕ) : EReal :=
  if h : i.val < 3 then border (image (a0 m c) b ⟨i.val, h⟩) R C
  else border (image (a1 m c) b ⟨i.val - 3, by omega⟩) R C

/-- The first layer's channel `o` of example `b`. -/
def first (b : Fin 16) (o : Fin 96) (r c' : ℕ) : EReal :=
  step (tapsIn (wIn m c) o) (sIn m c (ix2 o 0)) (tIn m c (ix2 o 0)) (both m c b) r c'

/-- The second layer's channel `o` of example `b`. -/
def second (b : Fin 16) (o : Fin 96) (r c' : ℕ) : EReal :=
  step (tapsMid (wMid m c) o) (sMid m c (ix2 o 0)) (tMid m c (ix2 o 0)) (fun i => border fun r c' => first m c b i r c') r c'

theorem sIn_low (o : Fin 96) (h : o.val < 64) : sIn m c (ix2 o 0) = (KM1 m c).scale ⟨o.val, h⟩ := by
  rw [sIn_apply, dif_pos h]; rfl
theorem sIn_high (o : Fin 96) (h : ¬ o.val < 64) : sIn m c (ix2 o 0) = (KP1 m c).scale ⟨o.val - 64, by omega⟩ := by
  rw [sIn_apply, dif_neg h]; rfl
theorem tIn_low (o : Fin 96) (h : o.val < 64) : tIn m c (ix2 o 0) = (KM1 m c).offset ⟨o.val, h⟩ := by
  rw [tIn_apply, dif_pos h]; rfl
theorem tIn_high (o : Fin 96) (h : ¬ o.val < 64) : tIn m c (ix2 o 0) = (KP1 m c).offset ⟨o.val - 64, by omega⟩ := by
  rw [tIn_apply, dif_neg h]; rfl
theorem sMid_low (o : Fin 96) (h : o.val < 64) : sMid m c (ix2 o 0) = (KM2 m c).scale ⟨o.val, h⟩ := by
  rw [sMid_apply, dif_pos h]; rfl
theorem sMid_high (o : Fin 96) (h : ¬ o.val < 64) : sMid m c (ix2 o 0) = (KP2 m c).scale ⟨o.val - 64, by omega⟩ := by
  rw [sMid_apply, dif_neg h]; rfl
theorem tMid_low (o : Fin 96) (h : o.val < 64) : tMid m c (ix2 o 0) = (KM2 m c).offset ⟨o.val, h⟩ := by
  rw [tMid_apply, dif_pos h]; rfl
theorem tMid_high (o : Fin 96) (h : ¬ o.val < 64) : tMid m c (ix2 o 0) = (KP2 m c).offset ⟨o.val - 64, by omega⟩ := by
  rw [tMid_apply, dif_neg h]; rfl

/-- The first 64 channels of the first layer are the magnitude branch's. -/
theorem first_low (hF : Fits m c) (b : Fin 16) (o : Fin 96) (h : o.val < 64) (r c' : ℕ) :
    first m c b o r c' = (KM1 m c).at (fun j => border (image (a0 m c) b j)) ⟨o.val, h⟩ r c' := by
  unfold first
  rw [sIn_low m c o h, tIn_low m c o h]
  refine step_low 3 rfl (KM1 m c) ⟨o.val, h⟩ (hF.1 _) _ (fun dy dx i => ?_) _ _ (fun i => ?_) r c'
  · refine (wIn_apply m c o dy dx i).trans ?_
    by_cases hi : i.val < 3
    · rw [dif_pos ⟨h, hi⟩, dif_pos hi]; rfl
    · rw [dif_neg (by omega), dif_neg (by omega), dif_neg hi]
  · funext R C
    exact dif_pos i.isLt

/-- The last 32 channels of the first layer are the phase branch's. -/
theorem first_high (hF : Fits m c) (b : Fin 16) (o : Fin 96) (h : ¬ o.val < 64) (r c' : ℕ) :
    first m c b o r c' = (KP1 m c).at (fun j => border (image (a1 m c) b j)) ⟨o.val - 64, by omega⟩ r c' := by
  unfold first
  rw [sIn_high m c o h, tIn_high m c o h]
  refine step_high 3 rfl (KP1 m c) ⟨o.val - 64, by omega⟩ (hF.2.2.1 _) _ (fun dy dx i => ?_) _ _ (fun i => ?_) r c'
  · refine (wIn_apply m c o dy dx i).trans ?_
    by_cases hi : 3 ≤ i.val
    · rw [dif_neg (by omega), dif_pos (by omega), dif_pos hi]; rfl
    · rw [dif_neg (by omega), dif_neg (by omega), dif_neg hi]
  · funext R C
    refine (dif_neg (by simp only; omega)).trans ?_
    exact congrArg (fun j => border (image (a1 m c) b j) R C) (Fin.ext (by simp only; omega))

/-- The first 64 channels of the second layer are the magnitude branch's two layers. -/
theorem second_low (hF : Fits m c) (b : Fin 16) (o : Fin 96) (h : o.val < 64) (r c' : ℕ) :
    second m c b o r c' = two (KM1 m c) (KM2 m c) (image (a0 m c) b) ⟨o.val, h⟩ r c' := by
  unfold second two
  rw [sMid_low m c o h, tMid_low m c o h]
  refine step_low 32 rfl (KM2 m c) ⟨o.val, h⟩ (hF.2.1 _) _ (fun dy dx i => ?_) _ _ (fun i => ?_) r c'
  · refine (wMid_apply m c o dy dx i).trans ?_
    by_cases hi : i.val < 64
    · rw [dif_pos ⟨h, hi⟩, dif_pos hi]; rfl
    · rw [dif_neg (by omega), dif_neg (by omega), dif_neg hi]
  · refine congrArg border (funext fun r => funext fun c' => ?_)
    exact first_low m c hF b ⟨i.val, by omega⟩ i.isLt r c'

/-- The last 32 channels of the second layer are the phase branch's two layers. -/
theorem second_high (hF : Fits m c) (b : Fin 16) (o : Fin 96) (h : ¬ o.val < 64) (r c' : ℕ) :
    second m c b o r c' = two (KP1 m c) (KP2 m c) (image (a1 m c) b) ⟨o.val - 64, by omega⟩ r c' := by
  unfold second two
  rw [sMid_high m c o h, tMid_high m c o h]
  refine step_high 64 rfl (KP2 m c) ⟨o.val - 64, by omega⟩ (hF.2.2.2 _) _ (fun dy dx i => ?_) _ _ (fun i => ?_) r c'
  · refine (wMid_apply m c o dy dx i).trans ?_
    by_cases hi : 64 ≤ i.val
    · rw [dif_neg (by omega), dif_pos (by omega), dif_pos hi]; rfl
    · rw [dif_neg (by omega), dif_neg (by omega), dif_neg hi]
  · refine congrArg border (funext fun r => funext fun c' => ?_)
    refine (first_high m c hF b ⟨64 + i.val, by omega⟩ (by simp only; omega) r c').trans ?_
    exact congrArg (fun j => (KP1 m c).at (fun j => border (image (a1 m c) b j)) j r c') (Fin.ext (by simp only; omega))

/-- The scratch of point `b` is the first layer inside its border. -/
theorem mid_border (b : Fin 16) (i : Fin 96) (R C : Fin 258) :
    (mid (F := Ideal) (wIn m c) (sIn m c) (tIn m c) (fun y => xIn m c (ix3 b (y 1) (y 2))) (mIn m c) : S96x67968.Idx → EReal)
        (ix2 i ⟨512 + R.val * 258 + C.val, by omega⟩)
      = border (fun r c' => first m c b i r c') R C := by
  have e := mid_apply (wIn m c) (sIn m c) (tIn m c) (fun y => xIn m c (ix3 b (y 1) (y 2))) (mIn m c) i ⟨R.val * 258 + C.val, by omega⟩
  refine Eq.trans (congrArg (fun q => (mid (F := Ideal) (wIn m c) (sIn m c) (tIn m c) (fun y => xIn m c (ix3 b (y 1) (y 2))) (mIn m c) : S96x67968.Idx → EReal)
    (ix2 i q)) (Fin.ext (by simp only; omega))) (e.trans ?_)
  exact flat_border _ _ _ _ (both m c b) (fun i R C => xIn_apply m c b i R C) _ (mask_in m c) (mask_out m c) R C

/-- The result array over the extended reals: the two branches' means. -/
theorem rows_apply (hF : Fits m c) (b : Fin 16) (o : Fin 96) :
    (rows m c : S16x96x1.Idx → EReal) (ix3 b o 0)
      = if h : o.val < 64 then pooled (KM1 m c) (KM2 m c) (image (a0 m c) b) ⟨o.val, h⟩
        else pooled (KP1 m c) (KP2 m c) (image (a1 m c) b) ⟨o.val - 64, by omega⟩ := by
  have ht : b.val < cfg0.N := b.isLt.trans_eq points.symm
  have e0 : (iblk m c 0 ⟨b.val, ht⟩ : S1x6x67968.Idx → EReal) = fun y => xIn m c (ix3 b (y 1) (y 2)) := by
    funext y
    have hy : y = ix3 0 (y 1) (y 2) := by
      rw [eq_ix3 y]
      exact congrArg (fun j => ix3 j (y 1) (y 2)) (Subsingleton.elim (α := Fin 1) _ _)
    rw [hy]
    exact block0 m c ⟨b.val, ht⟩ (y 1) (y 2)
  have e : (rows m c : S16x96x1.Idx → EReal) (ix3 b o 0)
      = (out (F := Ideal) (fun y => xIn m c (ix3 b (y 1) (y 2))) (wIn m c) (wMid m c) (sIn m c) (tIn m c) (sMid m c) (tMid m c) (mIn m c)
          : S1x96x1.Idx → EReal) (ix3 0 o 0) := by
    show (outsAt0 m c ⟨b.val, ht⟩ : S1x96x1.Idx → EReal) (ix3 0 o 0) = _
    unfold outsAt0
    rw [e0, block1, block2, block3, block4, block5, block6, block7]
    rfl
  rw [e, out_apply, sum_image (fun p => flat (tapsMid (wMid m c) o) (sMid m c (ix2 o 0)) (tMid m c (ix2 o 0))
    (fun i q => (mid (F := Ideal) (wIn m c) (sIn m c) (tIn m c) (fun y => xIn m c (ix3 b (y 1) (y 2))) (mIn m c) : S96x67968.Idx → EReal) (ix2 i q))
    (fun q => mIn m c (ix2 0 q)) p) fun p hp => flat_outside _ _ _ _ _ _ (mask_out m c p hp)]
  have key : ∀ r c' : Fin 256, flat (tapsMid (wMid m c) o) (sMid m c (ix2 o 0)) (tMid m c (ix2 o 0))
      (fun i q => (mid (F := Ideal) (wIn m c) (sIn m c) (tIn m c) (fun y => xIn m c (ix3 b (y 1) (y 2))) (mIn m c) : S96x67968.Idx → EReal) (ix2 i q))
      (fun q => mIn m c (ix2 0 q)) ⟨(r.val + 1) * 258 + (c'.val + 1), by omega⟩ = second m c b o r c' := fun r c' =>
    flat_inside _ _ _ _ (fun i => border fun r c' => first m c b i r c') (fun i R C => mid_border m c b i R C) _ (mask_in m c) r c'
  simp only [key]
  rw [mean_eq]
  by_cases h : o.val < 64
  · rw [dif_pos h]
    unfold pooled
    simp only [second_low m c hF b o h]
  · rw [dif_neg h]
    unfold pooled
    simp only [second_high m c hF b o h]

end Cert.KernelIdeal.Own

end
-- ==== Proof.RefValue.lean ====
/-
  What the reference computes: each of its named intermediate arrays, element by element, in the words of Spec.lean.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Own

open Cert.ReferenceIdeal Cert.ReferenceIdeal.Value Cert.ReferenceIdeal.Gen Cert.Conv
open Idealize.ShloMosaic Idealize.ShloMosaic.TcCoe

variable (V0 : Valuation τ sig (Elt Ideal))

/-- The word zero, as a number. -/
theorem zero_word : (FloatOps.sitofp (F := Ideal) FTy.f32 0#32) = (0 : EReal) := by
  show (((0#32).toInt : ℝ) : EReal) = 0
  simp

/-- The magnitude branch's first layer. -/
def M1 : Layer 3 64 :=
  Layer.of (V0 (Proc.devRef .tc main_arg2)) (V0 (Proc.devRef .tc main_arg3)) (V0 (Proc.devRef .tc main_arg4))

/-- The magnitude branch's second layer. -/
def M2 : Layer 64 64 :=
  Layer.of (V0 (Proc.devRef .tc main_arg5)) (V0 (Proc.devRef .tc main_arg6)) (V0 (Proc.devRef .tc main_arg7))

/-- The magnitude branch's input, padded. -/
theorem pad_m (b : Fin 16) (i : Fin 3) (R C : Fin 258) :
    (res_main_v0 V0 : S16x3x258x258.Idx → EReal) (ix4 b i R C) = border (image (V0 (Proc.devRef .tc main_arg0)) b i) R C := by
  pointwise [res_main_v0]
  unfold border image
  refine dite_congr (propext ⟨fun h => ?_, fun h a => ?_⟩) (fun h => rfl) (fun h => zero_word)
  · have h2 : 1 ≤ R.val ∧ (R.val - 1) % 1 = 0 ∧ (R.val - 1) / 1 < 256 := h 2
    have h3 : 1 ≤ C.val ∧ (C.val - 1) % 1 = 0 ∧ (C.val - 1) / 1 < 256 := h 3
    omega
  · match a with
    | 0 => exact ⟨Nat.zero_le _, Nat.mod_one _, (Nat.div_le_self _ _).trans_lt b.isLt⟩
    | 1 => exact ⟨Nat.zero_le _, Nat.mod_one _, (Nat.div_le_self _ _).trans_lt i.isLt⟩
    | 2 => exact (show 1 ≤ R.val ∧ (R.val - 1) % 1 = 0 ∧ (R.val - 1) / 1 < 256 by omega)
    | 3 => exact (show 1 ≤ C.val ∧ (C.val - 1) % 1 = 0 ∧ (C.val - 1) / 1 < 256 by omega)

/-- Its first convolution, with the bias. -/
theorem conv_m1 (b : Fin 16) (o : Fin 64) (r c : Fin 256) :
    (res_main_v56 V0 : S16x64x256x256.Idx → EReal) (ix4 b o r c)
      = conv ((M1 V0).w o) (fun i => border (image (V0 (Proc.devRef .tc main_arg0)) b i)) r c + (M1 V0).b o := by
  pointwise [res_main_v56]
  simp only [pad_m]
  rw [conv_nine]
  rfl

/-- Its first layer, padded. -/
theorem pad_m1 (b : Fin 16) (o : Fin 64) (R C : Fin 258) :
    (res_main_v80 V0 : S16x64x258x258.Idx → EReal) (ix4 b o R C)
      = border (fun r c => (M1 V0).at (fun i => border (image (V0 (Proc.devRef .tc main_arg0)) b i)) o r c) R C := by
  pointwise [res_main_v80]
  rw [border]
  refine dite_congr (propext ⟨fun h => ?_, fun h a => ?_⟩) (fun h => ?_) (fun h => zero_word)
  · have h2 : 1 ≤ R.val ∧ (R.val - 1) % 1 = 0 ∧ (R.val - 1) / 1 < 256 := h 2
    have h3 : 1 ≤ C.val ∧ (C.val - 1) % 1 = 0 ∧ (C.val - 1) / 1 < 256 := h 3
    omega
  · match a with
    | 0 => exact ⟨Nat.zero_le _, Nat.mod_one _, (Nat.div_le_self _ _).trans_lt b.isLt⟩
    | 1 => exact ⟨Nat.zero_le _, Nat.mod_one _, (Nat.div_le_self _ _).trans_lt o.isLt⟩
    | 2 => exact (show 1 ≤ R.val ∧ (R.val - 1) % 1 = 0 ∧ (R.val - 1) / 1 < 256 by omega)
    | 3 => exact (show 1 ≤ C.val ∧ (C.val - 1) % 1 = 0 ∧ (C.val - 1) / 1 < 256 by omega)
  · rw [conv_m1]
    rfl

/-- Its second convolution, without the bias. -/
theorem conv_m2 (b : Fin 16) (o : Fin 64) (r c : Fin 256) :
    (res_main_v133 V0 : S16x64x256x256.Idx → EReal) (ix4 b o r c)
      = conv ((M2 V0).w o) (fun i => border fun r c => (M1 V0).at (fun j => border (image (V0 (Proc.devRef .tc main_arg0)) b j)) i r c)
          r c := by
  pointwise [res_main_v133]
  simp only [pad_m1]
  rw [conv_nine]
  rfl

/-- The phase branch's first layer. -/
def P1 : Layer 3 32 :=
  Layer.of (V0 (Proc.devRef .tc main_arg8)) (V0 (Proc.devRef .tc main_arg9)) (V0 (Proc.devRef .tc main_arg10))

/-- The phase branch's second layer. -/
def P2 : Layer 32 32 :=
  Layer.of (V0 (Proc.devRef .tc main_arg11)) (V0 (Proc.devRef .tc main_arg12)) (V0 (Proc.devRef .tc main_arg13))

/-- The phase branch's input, padded. -/
theorem pad_p (b : Fin 16) (i : Fin 3) (R C : Fin 258) :
    (res_main_v163 V0 : S16x3x258x258.Idx → EReal) (ix4 b i R C) = border (image (V0 (Proc.devRef .tc main_arg1)) b i) R C := by
  pointwise [res_main_v163]
  unfold border image
  refine dite_congr (propext ⟨fun h => ?_, fun h a => ?_⟩) (fun h => rfl) (fun h => zero_word)
  · have h2 : 1 ≤ R.val ∧ (R.val - 1) % 1 = 0 ∧ (R.val - 1) / 1 < 256 := h 2
    have h3 : 1 ≤ C.val ∧ (C.val - 1) % 1 = 0 ∧ (C.val - 1) / 1 < 256 := h 3
    omega
  · match a with
    | 0 => exact ⟨Nat.zero_le _, Nat.mod_one _, (Nat.div_le_self _ _).trans_lt b.isLt⟩
    | 1 => exact ⟨Nat.zero_le _, Nat.mod_one _, (Nat.div_le_self _ _).trans_lt i.isLt⟩
    | 2 => exact (show 1 ≤ R.val ∧ (R.val - 1) % 1 = 0 ∧ (R.val - 1) / 1 < 256 by omega)
    | 3 => exact (show 1 ≤ C.val ∧ (C.val - 1) % 1 = 0 ∧ (C.val - 1) / 1 < 256 by omega)

/-- Its first convolution, with the bias. -/
theorem conv_p1 (b : Fin 16) (o : Fin 32) (r c : Fin 256) :
    (res_main_v219 V0 : S16x32x256x256.Idx → EReal) (ix4 b o r c)
      = conv ((P1 V0).w o) (fun i => border (image (V0 (Proc.devRef .tc main_arg1)) b i)) r c + (P1 V0).b o := by
  pointwise [res_main_v219]
  simp only [pad_p]
  rw [conv_nine]
  rfl

/-- Its first layer, padded. -/
theorem pad_p1 (b : Fin 16) (o : Fin 32) (R C : Fin 258) :
    (res_main_v243 V0 : S16x32x258x258.Idx → EReal) (ix4 b o R C)
      = border (fun r c => (P1 V0).at (fun i => border (image (V0 (Proc.devRef .tc main_arg1)) b i)) o r c) R C := by
  pointwise [res_main_v243]
  rw [border]
  refine dite_congr (propext ⟨fun h => ?_, fun h a => ?_⟩) (fun h => ?_) (fun h => zero_word)
  · have h2 : 1 ≤ R.val ∧ (R.val - 1) % 1 = 0 ∧ (R.val - 1) / 1 < 256 := h 2
    have h3 : 1 ≤ C.val ∧ (C.val - 1) % 1 = 0 ∧ (C.val - 1) / 1 < 256 := h 3
    omega
  · match a with
    | 0 => exact ⟨Nat.zero_le _, Nat.mod_one _, (Nat.div_le_self _ _).trans_lt b.isLt⟩
    | 1 => exact ⟨Nat.zero_le _, Nat.mod_one _, (Nat.div_le_self _ _).trans_lt o.isLt⟩
    | 2 => exact (show 1 ≤ R.val ∧ (R.val - 1) % 1 = 0 ∧ (R.val - 1) / 1 < 256 by omega)
    | 3 => exact (show 1 ≤ C.val ∧ (C.val - 1) % 1 = 0 ∧ (C.val - 1) / 1 < 256 by omega)
  · rw [conv_p1]
    rfl

/-- Its second convolution, without the bias. -/
theorem conv_p2 (b : Fin 16) (o : Fin 32) (r c : Fin 256) :
    (res_main_v296 V0 : S16x32x256x256.Idx → EReal) (ix4 b o r c)
      = conv ((P2 V0).w o) (fun i => border fun r c => (P1 V0).at (fun j => border (image (V0 (Proc.devRef .tc main_arg1)) b j)) i r c)
          r c := by
  pointwise [res_main_v296]
  simp only [pad_p1]
  rw [conv_nine]
  rfl

/-- The reference's result: the mean of each channel of each branch, the magnitude branch's 64 channels first. -/
theorem result (b : Fin 16) (o : Fin 96) :
    (val6 V0 (Proc.devRef .tc main_v327) : S16x96x1.Idx → EReal) (ix3 b o 0)
      = if h : o.val < 64 then pooled (M1 V0) (M2 V0) (image (V0 (Proc.devRef .tc main_arg0)) b) ⟨o.val, h⟩
        else pooled (P1 V0) (P2 V0) (image (V0 (Proc.devRef .tc main_arg1)) b) ⟨o.val - 64, by omega⟩ := by
  rw [val6_main_v327]
  pointwise
  refine dite_congr rfl (fun h => ?_) (fun h => ?_)
  · simp only [conv_m2]
    rfl
  · simp only [conv_p2]
    rfl

end Cert.ReferenceIdeal.Own

end
-- ==== Proof.Pre.lean ====
/-
  The precondition read: every channel's bias, scale and mean are real and its variance is above `-eps`.
-/
module

public import proofs.«01_k».proof.Pre_parameters_ok
public import proofs.«01_k».proof.Proof.Fold
public import Idealize.ShloMosaic.Lib.Pointwise
public import Idealize.ShloMosaic.Lib.StableHlo.Predicate

@[expose] public section

noncomputable section

namespace Cert.Pre_parameters_ok

open Idealize.ShloMosaic Cert.Conv

/-- The side conditions of the precondition's operations. -/
instance facts : Facts where
  slices_S4x64_S1x64_0_0 := by decide
  shapeCasts_S1x64_S64 := by decide
  slices_S4x64_S1x64_1_0 := by decide
  slices_S4x64_S1x64_2_0 := by decide
  slices_S4x64_S1x64_3_0 := by decide
  bcast_S_S64 := by decide
  slices_S4x32_S1x32_0_0 := by decide
  shapeCasts_S1x32_S32 := by decide
  slices_S4x32_S1x32_1_0 := by decide
  slices_S4x32_S1x32_2_0 := by decide
  slices_S4x32_S1x32_3_0 := by decide
  bcast_S_S32 := by decide
  concatenates_S64_S64_S32_S32_S192_d0 := by decide

/-- The test of one channel: bias, scale and mean below the infinite word in size, variance plus eps above zero. -/
def bit (b g mu va : EReal) : BitVec 1 :=
  IntOp.andi
    (IntOp.andi
      (IntOp.andi (BitVec.ofBool (decide (FloatOps.absf (F := Ideal) (φ := .f32) b < Ideal.ofBits FTy.f32 0x7F800000#32)))
        (BitVec.ofBool (decide (FloatOps.absf (F := Ideal) (φ := .f32) g < Ideal.ofBits FTy.f32 0x7F800000#32))))
      (BitVec.ofBool (decide (FloatOps.absf (F := Ideal) (φ := .f32) mu < Ideal.ofBits FTy.f32 0x7F800000#32))))
    (BitVec.ofBool (decide (0 < va + Ideal.ofBits FTy.f32 0x3727C5AC#32)))

/-- A number below the infinite word in size is real. -/
theorem isReal_of_lt (x : EReal) (h : FloatOps.absf (F := Ideal) (φ := .f32) x < Ideal.ofBits FTy.f32 0x7F800000#32) : IsReal x := by
  have hi : Ideal.ofBits FTy.f32 0x7F800000#32 = ⊤ := by simp [Ideal.ofBits, Ideal.ieee]
  rw [hi] at h
  induction x with
  | coe r => exact ⟨r, rfl⟩
  | bot =>
    refine absurd h ?_
    show ¬ ((max ⊥ (-⊥) : EReal) < ⊤)
    simp
  | top =>
    refine absurd h ?_
    show ¬ ((max ⊤ (-⊤) : EReal) < ⊤)
    simp

/-- The bit and-ed of two is set when both are. -/
theorem andi_one (a b : BitVec 1) : IntOp.andi a b = 1#1 ↔ a = 1#1 ∧ b = 1#1 := by
  revert a b
  decide

/-- A channel that passes the test has real bias, scale and mean and a variance above `-eps`. -/
theorem of_bit (b g mu va : EReal) (h : bit b g mu va = 1#1) : IsReal b ∧ IsReal g ∧ IsReal mu ∧ 0 < va + eps := by
  unfold bit at h
  rw [andi_one, andi_one, andi_one] at h
  simp only [StableHlo.Predicate.ofBool_eq_one_iff, decide_eq_true_eq] at h
  exact ⟨isReal_of_lt _ h.1.1.1, isReal_of_lt _ h.1.1.2, isReal_of_lt _ h.1.2, h.2⟩

/-- The precondition's element `k`: the test of one channel of one of the four layers. -/
theorem fn_apply (x0 : S16x3x256x256.Idx → EReal) (x1 : S16x3x256x256.Idx → EReal) (x2 : S64x3x3x3.Idx → EReal) (x3 : S64.Idx → EReal)
    (x4 : S4x64.Idx → EReal) (x5 : S64x64x3x3.Idx → EReal) (x6 : S64.Idx → EReal) (x7 : S4x64.Idx → EReal) (x8 : S32x3x3x3.Idx → EReal)
    (x9 : S32.Idx → EReal) (x10 : S4x32.Idx → EReal) (x11 : S32x32x3x3.Idx → EReal) (x12 : S32.Idx → EReal) (x13 : S4x32.Idx → EReal)
    (k : Fin 192) :
    (fn (F := Ideal) x0 x1 x2 x3 x4 x5 x6 x7 x8 x9 x10 x11 x12 x13 : S192.Idx → BitVec 1) (ix1 k)
      = if h : k.val < 64 then bit (x3 (ix1 ⟨k.val, h⟩)) (x4 (ix2 0 ⟨k.val, h⟩)) (x4 (ix2 2 ⟨k.val, h⟩)) (x4 (ix2 3 ⟨k.val, h⟩))
        else if h' : k.val - 64 < 64 then
          bit (x6 (ix1 ⟨k.val - 64, h'⟩)) (x7 (ix2 0 ⟨k.val - 64, h'⟩)) (x7 (ix2 2 ⟨k.val - 64, h'⟩)) (x7 (ix2 3 ⟨k.val - 64, h'⟩))
        else if h'' : k.val - 64 - 64 < 32 then
          bit (x9 (ix1 ⟨k.val - 64 - 64, h''⟩)) (x10 (ix2 0 ⟨k.val - 64 - 64, h''⟩)) (x10 (ix2 2 ⟨k.val - 64 - 64, h''⟩)) (x10 (ix2 3 ⟨k.val - 64 - 64, h''⟩))
        else bit (x12 (ix1 ⟨k.val - 64 - 64 - 32, by omega⟩)) (x13 (ix2 0 ⟨k.val - 64 - 64 - 32, by omega⟩))
          (x13 (ix2 2 ⟨k.val - 64 - 64 - 32, by omega⟩)) (x13 (ix2 3 ⟨k.val - 64 - 64 - 32, by omega⟩)) := by
  pointwise [fn, fn_part1, fn_part2, fn_part3, fn_part4]
  rfl

/-- Under the precondition every channel of every layer is fit to be folded. -/
theorem fit (x0 : S16x3x256x256.Idx → EReal) (x1 : S16x3x256x256.Idx → EReal) (x2 : S64x3x3x3.Idx → EReal) (x3 : S64.Idx → EReal)
    (x4 : S4x64.Idx → EReal) (x5 : S64x64x3x3.Idx → EReal) (x6 : S64.Idx → EReal) (x7 : S4x64.Idx → EReal) (x8 : S32x3x3x3.Idx → EReal)
    (x9 : S32.Idx → EReal) (x10 : S4x32.Idx → EReal) (x11 : S32x32x3x3.Idx → EReal) (x12 : S32.Idx → EReal) (x13 : S4x32.Idx → EReal)
    (h : fn (F := Ideal) x0 x1 x2 x3 x4 x5 x6 x7 x8 x9 x10 x11 x12 x13 = fun _ => 1#1) :
    (∀ o, (Layer.of x2 x3 x4).Fit o) ∧ (∀ o, (Layer.of x5 x6 x7).Fit o)
      ∧ (∀ o, (Layer.of x8 x9 x10).Fit o) ∧ (∀ o, (Layer.of x11 x12 x13).Fit o) := by
  have key := fun k => (fn_apply x0 x1 x2 x3 x4 x5 x6 x7 x8 x9 x10 x11 x12 x13 k).symm.trans (congrFun h (ix1 k))
  refine ⟨fun o => ?_, fun o => ?_, fun o => ?_, fun o => ?_⟩
  · have k := key ⟨o.val, by omega⟩
    rw [dif_pos o.isLt] at k
    exact of_bit _ _ _ _ k
  · have k := key ⟨64 + o.val, by omega⟩
    rw [dif_neg (by simp only; omega), dif_pos (by simp only; omega)] at k
    have e : 64 + o.val - 64 = o.val := by omega
    simp only [e] at k
    exact of_bit _ _ _ _ k
  · have k := key ⟨128 + o.val, by omega⟩
    rw [dif_neg (by simp only; omega), dif_neg (by simp only; omega), dif_pos (by simp only; omega)] at k
    have e : 128 + o.val - 64 - 64 = o.val := by omega
    simp only [e] at k
    exact of_bit _ _ _ _ k
  · have k := key ⟨160 + o.val, by omega⟩
    rw [dif_neg (by simp only; omega), dif_neg (by simp only; omega), dif_neg (by simp only; omega)] at k
    have e : 160 + o.val - 64 - 64 - 32 = o.val := by omega
    simp only [e] at k
    exact of_bit _ _ _ _ k

end Cert.Pre_parameters_ok

end
-- ==== Proof.HeadSpec.lean ====
/-
  The mathematics of the last call, for one image, over the extended reals: the spectrum's magnitudes averaged over rings
  and over sectors, with the sectors' deviations; two layers of a one-dimensional convolution over the rings and their
  mean; a layer of sums over the pooled features, the rings and the sectors, normalised over its 256 values; a last layer
  of sums, limited to 100 in size.
-/
module

public import proofs.«01_k».proof.Proof.Fold

@[expose] public section

noncomputable section

namespace Cert.Head

open Idealize.ShloMosaic
open Cert.Conv (eps)

/-- The sum of the magnitudes `x` in the bin whose indicator is `r`. -/
def total (x r : Fin 33024 → EReal) : EReal := ∑ k, x k * r k

/-- How many frequencies the bin has. -/
def count (r : Fin 33024 → EReal) : EReal := ∑ k, r k

/-- A ring's mean magnitude, between 0 and a million. -/
def radial (x r : Fin 33024 → EReal) : EReal :=
  min (Ideal.ofBits .f32 0x49742400#32) (max 0 (Ideal.div (total x r) (max (count r) 1)))

/-- A sector's mean magnitude; zero when the sector is empty. -/
def mean (x r : Fin 33024 → EReal) : EReal :=
  if 0 < count r then Ideal.div (total x r) (count r) else 0

/-- A sector's deviation. -/
def spread (x r : Fin 33024 → EReal) : EReal :=
  Ideal.sqrt (max (Ideal.div ((∑ k, x k * x k * r k) - count r * (mean x r * mean x r)) (max (count r - 1) 1)) 0)

/-- One layer's parameters: three taps `w`, the bias `b`, and the normalisation's scale `g`, offset `be`, mean `mu` and
    variance `va`, for 32 channels computed from `n`. -/
structure Layer (n : ℕ) where
  w : Fin 32 → Fin n → Fin 3 → EReal
  b : Fin 32 → EReal
  g : Fin 32 → EReal
  be : Fin 32 → EReal
  mu : Fin 32 → EReal
  va : Fin 32 → EReal

/-- The layer whose weights, bias and statistics are the given arrays. -/
def Layer.of {n : ℕ} (w : (⟨3, ![32, n, 3]⟩ : Shape).Idx → EReal) (b : (⟨1, ![32]⟩ : Shape).Idx → EReal)
    (p : (⟨2, ![4, 32]⟩ : Shape).Idx → EReal) : Layer n where
  w o c d := w (ix3 o c d)
  b o := b (ix1 o)
  g o := p (ix2 0 o)
  be o := p (ix2 1 o)
  mu o := p (ix2 2 o)
  va o := p (ix2 3 o)

/-- A line of 32 values between two zeros, and zero further out. -/
def line (x : Fin 32 → EReal) (T : ℕ) : EReal :=
  if h : 1 ≤ T ∧ T ≤ 32 then x ⟨T - 1, by omega⟩ else 0

/-- The convolution of `n` lines at position `t`. -/
def taps {n : ℕ} (w : Fin n → Fin 3 → EReal) (x : Fin n → Fin 32 → EReal) (t : ℕ) : EReal :=
  (∑ c, line (x c) t * w c 0) + (∑ c, line (x c) (1 + t) * w c 1) + ∑ c, line (x c) (2 + t) * w c 2

/-- The layer's normalisation of channel `o` at the value `a`. -/
def Layer.norm {n : ℕ} (L : Layer n) (o : Fin 32) (a : EReal) : EReal :=
  (a - L.mu o) * Ideal.div (L.g o) (Ideal.sqrt (L.va o + eps)) + L.be o

/-- The layer's channel `o` at position `t`. -/
def Layer.at {n : ℕ} (L : Layer n) (x : Fin n → Fin 32 → EReal) (o : Fin 32) (t : Fin 32) : EReal :=
  max (L.norm o (taps (L.w o) x t + L.b o)) 0

/-- Two layers and the mean over the line. -/
def lineMean (L1 : Layer 3) (L2 : Layer 32) (x : Fin 3 → Fin 32 → EReal) (o : Fin 32) : EReal :=
  Ideal.div (∑ t, L2.at (L1.at x) o t) (Ideal.ofBits .f32 0x42000000#32)

/-- The sectors' 48 values: sector by sector, the three channels' means, then their deviations. -/
def sectors (x : Fin 3 → Fin 33024 → EReal) (A : Fin 8 → Fin 33024 → EReal) (z : Fin 48) : EReal :=
  if z.val % 6 < 3 then mean (x ⟨z.val % 3, by omega⟩) (A ⟨z.val / 6, by omega⟩)
  else spread (x ⟨z.val % 3, by omega⟩) (A ⟨z.val / 6, by omega⟩)

/-- All 176 features: the pooled ones, the rings' 32, the sectors' 48. -/
def features (pool : Fin 96 → EReal) (rings : Fin 32 → EReal) (sec : Fin 48 → EReal) (q : Fin 176) : EReal :=
  if h : q.val < 96 then pool ⟨q.val, h⟩
  else if h' : q.val - 96 < 32 then rings ⟨q.val - 96, h'⟩
  else sec ⟨q.val - 96 - 32, by omega⟩

/-- A layer of sums: `n` values, weights row by row, and a bias. -/
def dense {n k : ℕ} (w : Fin k → Fin n → EReal) (b : Fin k → EReal) (y : Fin n → EReal) (o : Fin k) : EReal :=
  (∑ i, y i * w o i) + b o

/-- The mean of 256 values. -/
def avg (h : Fin 256 → EReal) : EReal := Ideal.div (∑ i, h i) (Ideal.ofBits .f32 0x43800000#32)

/-- The values, normalised by their own mean and variance; the positive part. -/
def normed (g be h : Fin 256 → EReal) (i : Fin 256) : EReal :=
  max (Ideal.div (h i - avg h) (Ideal.sqrt (avg (fun j => (h j - avg h) * (h j - avg h)) + eps)) * g i + be i) 0

/-- A value limited to 100 in size. -/
def limit (a : EReal) : EReal := min (Ideal.ofBits .f32 0x42C80000#32) (max (Ideal.ofBits .f32 0xC2C80000#32) a)

/-- The last layers, from the 176 features on. -/
def head (w1 : Fin 256 → Fin 176 → EReal) (b1 g be : Fin 256 → EReal) (w2 : Fin 128 → Fin 256 → EReal) (b2 : Fin 128 → EReal)
    (y : Fin 176 → EReal) (j : Fin 128) : EReal :=
  limit (dense w2 b2 (normed g be (dense w1 b1 y)) j)

end Cert.Head

end
-- ==== Proof.TableDef.lean ====
/-
  The last call's three tables of numbers: the averaging of 32 positions, the rearrangement of the sector features, the
  shifts of the three taps. This module says what the tables should hold; the modules that import it evaluate the test.
-/
module

public import proofs.«01_k».proof.Kernel2Ideal
public import proofs.«01_k».proof.Proof.MaskDef

@[expose] public section

noncomputable section

namespace Cert.Kernel2Ideal.Own

/-- Entry `i` of the averaging table, row `i / 32`, column `i % 32`: 1/32 where the row's block is the column. -/
def averageOk (i : Nat) : Bool :=
  lit1t i == (bif i / 1024 == i % 32 then 0x3D000000#32 else 0#32)

/-- Entry `i` of the rearrangement, row `i / 48`, column `i % 48`: one where the row `8 a + k` meets the column `6 k + a`. -/
def rearrangeOk (i : Nat) : Bool :=
  lit0t i == (bif i % 48 == 6 * (i / 48 % 8) + i / 384 then 0x3F800000#32 else 0#32)

/-- Entry `i` of the shifts, tap `i / 1024`, row `i / 32 % 32`, column `i % 32`: one where row plus one is column plus
    tap. -/
def shiftOk (i : Nat) : Bool :=
  lit2t i == (bif i / 32 % 32 + 1 == i % 32 + i / 1024 then 0x3F800000#32 else 0#32)

end Cert.Kernel2Ideal.Own

end
-- ==== Proof.Table1.lean ====
/-
  The averaging table tested, half 1 of 2.
-/
module

public import proofs.«01_k».proof.Proof.TableDef

@[expose] public section

noncomputable section

namespace Cert.Kernel2Ideal.Own

open Cert.KernelIdeal.Own (allFrom)

theorem average_0 : allFrom averageOk 12 0 = true := by decide +kernel

theorem average_4096 : allFrom averageOk 12 4096 = true := by decide +kernel

theorem average_8192 : allFrom averageOk 12 8192 = true := by decide +kernel

theorem average_12288 : allFrom averageOk 12 12288 = true := by decide +kernel

end Cert.Kernel2Ideal.Own

end
-- ==== Proof.Table2.lean ====
/-
  The averaging table tested, half 2 of 2.
-/
module

public import proofs.«01_k».proof.Proof.TableDef

@[expose] public section

noncomputable section

namespace Cert.Kernel2Ideal.Own

open Cert.KernelIdeal.Own (allFrom)

theorem average_16384 : allFrom averageOk 12 16384 = true := by decide +kernel

theorem average_20480 : allFrom averageOk 12 20480 = true := by decide +kernel

theorem average_24576 : allFrom averageOk 12 24576 = true := by decide +kernel

theorem average_28672 : allFrom averageOk 12 28672 = true := by decide +kernel

end Cert.Kernel2Ideal.Own

end
-- ==== Proof.Table3.lean ====
/-
  The rearrangement and the shifts tested.
-/
module

public import proofs.«01_k».proof.Proof.TableDef

@[expose] public section

noncomputable section

namespace Cert.Kernel2Ideal.Own

open Cert.KernelIdeal.Own (allFrom)

theorem rearrange_0 : allFrom rearrangeOk 11 0 = true := by decide +kernel

theorem rearrange_2048 : allFrom rearrangeOk 8 2048 = true := by decide +kernel

theorem shift_0 : allFrom shiftOk 11 0 = true := by decide +kernel

theorem shift_2048 : allFrom shiftOk 10 2048 = true := by decide +kernel

end Cert.Kernel2Ideal.Own

end
-- ==== Proof.Table.lean ====
/-
  What the last call's tables hold.
-/
module

public import proofs.«01_k».proof.Proof.Table1
public import proofs.«01_k».proof.Proof.Table2
public import proofs.«01_k».proof.Proof.Table3

@[expose] public section

noncomputable section

namespace Cert.Kernel2Ideal.Own

open Cert.KernelIdeal.Own (of_allFrom)

/-- Every entry of the averaging table. -/
theorem lit1t_eq (i : Nat) (h : i < 32768) : lit1t i = bif i / 1024 == i % 32 then 0x3D000000#32 else 0#32 := by
  have key : averageOk i = true := by
    by_cases h0 : i < 4096
    · exact of_allFrom _ _ _ average_0 i (by omega) (by omega)
    by_cases h4096 : i < 8192
    · exact of_allFrom _ _ _ average_4096 i (by omega) (by omega)
    by_cases h8192 : i < 12288
    · exact of_allFrom _ _ _ average_8192 i (by omega) (by omega)
    by_cases h12288 : i < 16384
    · exact of_allFrom _ _ _ average_12288 i (by omega) (by omega)
    by_cases h16384 : i < 20480
    · exact of_allFrom _ _ _ average_16384 i (by omega) (by omega)
    by_cases h20480 : i < 24576
    · exact of_allFrom _ _ _ average_20480 i (by omega) (by omega)
    by_cases h24576 : i < 28672
    · exact of_allFrom _ _ _ average_24576 i (by omega) (by omega)
    exact of_allFrom _ _ _ average_28672 i (by omega) (by omega)
  exact eq_of_beq key

/-- Every entry of the rearrangement. -/
theorem lit0t_eq (i : Nat) (h : i < 2304) :
    lit0t i = bif i % 48 == 6 * (i / 48 % 8) + i / 384 then 0x3F800000#32 else 0#32 := by
  have key : rearrangeOk i = true := by
    by_cases h0 : i < 2048
    · exact of_allFrom _ _ _ rearrange_0 i (by omega) (by omega)
    exact of_allFrom _ _ _ rearrange_2048 i (by omega) (by omega)
  exact eq_of_beq key

/-- Every entry of the shifts. -/
theorem lit2t_eq (i : Nat) (h : i < 3072) :
    lit2t i = bif i / 32 % 32 + 1 == i % 32 + i / 1024 then 0x3F800000#32 else 0#32 := by
  have key : shiftOk i = true := by
    by_cases h0 : i < 2048
    · exact of_allFrom _ _ _ shift_0 i (by omega) (by omega)
    exact of_allFrom _ _ _ shift_2048 i (by omega) (by omega)
  exact eq_of_beq key

end Cert.Kernel2Ideal.Own

end
-- ==== Proof.HeadHost.lean ====
/-
  The arrays the last call's region finds, as functions of its arguments, element by element.
-/
module

public import proofs.«01_k».proof.Proof.Gen.Kernel2Ideal.Value
public import proofs.«01_k».proof.Proof.HeadSpec
public import proofs.«01_k».proof.Proof.Table
public import Idealize.ShloMosaic.Lib.IdealHost
public import Idealize.ShloMosaic.Lib.Claim
public import Idealize.ShloMosaic.Lib.Pointwise

@[expose] public section

set_option maxRecDepth 16384

noncomputable section

namespace Cert.Kernel2Ideal.Own

open Cert.Kernel2Ideal Cert.Kernel2Ideal.Gen Cert.Head
open Cert.Conv (eps)
open Idealize.ShloMosaic Idealize.ShloMosaic.TcCoe Idealize.ShloMosaic.Tactic

variable (m : (ℓ : Loc nD τ sig) → Buf (Elt Ideal) ℓ) (c : Dev nD)

/-- Argument 0 on device `c`: the magnitudes. -/
abbrev a0 : S16x3x256x129.Idx → EReal := m ((c : Thread nD τ).loc main_arg0)
/-- Argument 1 on device `c`: the pooled features. -/
abbrev a1 : S16x96x1.Idx → EReal := m ((c : Thread nD τ).loc main_arg1)
/-- Argument 2 on device `c`: the first layer's weights. -/
abbrev a2 : S32x3x3.Idx → EReal := m ((c : Thread nD τ).loc main_arg2)
/-- Argument 3 on device `c`: its biases. -/
abbrev a3 : S32.Idx → EReal := m ((c : Thread nD τ).loc main_arg3)
/-- Argument 4 on device `c`: its normalisation rows. -/
abbrev a4 : S4x32.Idx → EReal := m ((c : Thread nD τ).loc main_arg4)
/-- Argument 5 on device `c`: the second layer's weights. -/
abbrev a5 : S32x32x3.Idx → EReal := m ((c : Thread nD τ).loc main_arg5)
/-- Argument 6 on device `c`: its biases. -/
abbrev a6 : S32.Idx → EReal := m ((c : Thread nD τ).loc main_arg6)
/-- Argument 7 on device `c`: its normalisation rows. -/
abbrev a7 : S4x32.Idx → EReal := m ((c : Thread nD τ).loc main_arg7)
/-- Argument 8 on device `c`: the first sums' weights. -/
abbrev a8 : S256x176.Idx → EReal := m ((c : Thread nD τ).loc main_arg8)
/-- Argument 9 on device `c`: their biases. -/
abbrev a9 : S256.Idx → EReal := m ((c : Thread nD τ).loc main_arg9)
/-- Argument 10 on device `c`: their scales. -/
abbrev a10 : S256.Idx → EReal := m ((c : Thread nD τ).loc main_arg10)
/-- Argument 11 on device `c`: their offsets. -/
abbrev a11 : S256.Idx → EReal := m ((c : Thread nD τ).loc main_arg11)
/-- Argument 12 on device `c`: the last sums' weights. -/
abbrev a12 : S128x256.Idx → EReal := m ((c : Thread nD τ).loc main_arg12)
/-- Argument 13 on device `c`: their biases. -/
abbrev a13 : S128.Idx → EReal := m ((c : Thread nD τ).loc main_arg13)
/-- What the region finds on device `c`: its array 0. -/
abbrev in0 : S48x33024.Idx → EReal := V m c main_v111
/-- What the region finds on device `c`: its array 1. -/
abbrev in1 : S33024x40.Idx → EReal := V m c main_v40
/-- What the region finds on device `c`: its array 2. -/
abbrev in2 : S16x96.Idx → EReal := V m c main_v112
/-- What the region finds on device `c`: its array 3. -/
abbrev in3 : S96x1024.Idx → EReal := V m c main_v64
/-- What the region finds on device `c`: its array 4. -/
abbrev in4 : S1024x1024.Idx → EReal := V m c main_v67
/-- What the region finds on device `c`: its array 5. -/
abbrev in5 : S1024x32.Idx → EReal := V m c main_cst_0
/-- What the region finds on device `c`: its array 6. -/
abbrev in6 : S48x48.Idx → EReal := V m c main_cst
/-- What the region finds on device `c`: its array 7. -/
abbrev in7 : S1x1024.Idx → EReal := V m c main_v100
/-- What the region finds on device `c`: its array 8. -/
abbrev in8 : S1x1024.Idx → EReal := V m c main_v103
/-- What the region finds on device `c`: its array 9. -/
abbrev in9 : S1x1024.Idx → EReal := V m c main_v106
/-- What the region finds on device `c`: its array 10. -/
abbrev in10 : S1x1024.Idx → EReal := V m c main_v109
/-- What the region finds on device `c`: its array 11. -/
abbrev in11 : S1x32.Idx → EReal := V m c main_v46
/-- What the region finds on device `c`: its array 12. -/
abbrev in12 : S1x8.Idx → EReal := V m c main_v53
/-- What the region finds on device `c`: its array 13. -/
abbrev in13 : S1x8.Idx → EReal := V m c main_v54
/-- What the region finds on device `c`: its array 14. -/
abbrev in14 : S1x8.Idx → EReal := V m c main_v61
/-- What the region finds on device `c`: its array 15. -/
abbrev in15 : S176x256.Idx → EReal := V m c main_v113
/-- What the region finds on device `c`: its array 16. -/
abbrev in16 : S1x256.Idx → EReal := V m c main_v114
/-- What the region finds on device `c`: its array 17. -/
abbrev in17 : S1x256.Idx → EReal := V m c main_v115
/-- What the region finds on device `c`: its array 18. -/
abbrev in18 : S1x256.Idx → EReal := V m c main_v116
/-- What the region finds on device `c`: its array 19. -/
abbrev in19 : S256x128.Idx → EReal := V m c main_v117
/-- What the region finds on device `c`: its array 20. -/
abbrev in20 : S1x128.Idx → EReal := V m c main_v118
/-- The rings' indicators as the region's host computes them. -/
abbrev ringTable : S33024x32.Idx → EReal := V m c main_v38
/-- The sectors' indicators as the region's host computes them. -/
abbrev secTable : S33024x8.Idx → EReal := V m c main_v39

/-- An entry of the shifts. -/
theorem shift_word (d : Fin 3) (u t : Fin 32) :
    Ideal.ofBits FTy.f32 (lit2 (S3x32x32.rowMajor (ix3 d u t))) = if u.val + 1 = t.val + d.val then (1 : EReal) else 0 := by
  have e : (S3x32x32.rowMajor (ix3 d u t)).val = (d.val * 32 + u.val) * 32 + t.val := Shape.rowMajor_val_three _
  show Ideal.ofBits .f32 (lit2t (S3x32x32.rowMajor (ix3 d u t)).val) = _
  rw [e, lit2t_eq _ (by omega)]
  have h1 : ((d.val * 32 + u.val) * 32 + t.val) / 32 % 32 = u.val := by omega
  have h2 : ((d.val * 32 + u.val) * 32 + t.val) % 32 = t.val := by omega
  have h3 : ((d.val * 32 + u.val) * 32 + t.val) / 1024 = d.val := by omega
  rw [h1, h2, h3]
  by_cases h : u.val + 1 = t.val + d.val
  · rw [if_pos h, beq_iff_eq.mpr h]
    exact Idealize.ShloMosaic.Ideal.ofBits_one_f32
  · rw [if_neg h, beq_eq_false_iff_ne.mpr h]
    exact Ideal.ofBits_zero_f32

/-- An entry of the averaging table. -/
theorem average_word (r : Fin 1024) (o : Fin 32) :
    Ideal.ofBits FTy.f32 (lit1 (S1024x32.rowMajor (ix2 r o)))
      = if r.val / 32 = o.val then Ideal.ofBits .f32 0x3D000000#32 else 0 := by
  have e : (S1024x32.rowMajor (ix2 r o)).val = r.val * 32 + o.val := Shape.rowMajor_val_two _
  show Ideal.ofBits .f32 (lit1t (S1024x32.rowMajor (ix2 r o)).val) = _
  rw [e, lit1t_eq _ (by omega)]
  have h1 : (r.val * 32 + o.val) / 1024 = r.val / 32 := by omega
  have h2 : (r.val * 32 + o.val) % 32 = o.val := by omega
  rw [h1, h2]
  by_cases h : r.val / 32 = o.val
  · rw [if_pos h, beq_iff_eq.mpr h]
    rfl
  · rw [if_neg h, beq_eq_false_iff_ne.mpr h]
    exact Ideal.ofBits_zero_f32

/-- An entry of the rearrangement. -/
theorem rearrange_word (r z : Fin 48) :
    Ideal.ofBits FTy.f32 (lit0 (S48x48.rowMajor (ix2 r z))) = if z.val = 6 * (r.val % 8) + r.val / 8 then (1 : EReal) else 0 := by
  have e : (S48x48.rowMajor (ix2 r z)).val = r.val * 48 + z.val := Shape.rowMajor_val_two _
  show Ideal.ofBits .f32 (lit0t (S48x48.rowMajor (ix2 r z)).val) = _
  rw [e, lit0t_eq _ (by omega)]
  have h1 : (r.val * 48 + z.val) % 48 = z.val := by omega
  have h2 : (r.val * 48 + z.val) / 48 % 8 = r.val % 8 := by omega
  have h3 : (r.val * 48 + z.val) / 384 = r.val / 8 := by omega
  rw [h1, h2, h3]
  by_cases h : z.val = 6 * (r.val % 8) + r.val / 8
  · rw [if_pos h, beq_iff_eq.mpr h]
    exact Idealize.ShloMosaic.Ideal.ofBits_one_f32
  · rw [if_neg h, beq_eq_false_iff_ne.mpr h]
    exact Ideal.ofBits_zero_f32

/-- The magnitudes: row `16 c + b` is channel `c` of image `b`. -/
theorem in0_apply (b : Fin 16) (ch : Fin 3) (k : Fin 33024) :
    in0 m c (ix2 ⟨16 * ch.val + b.val, by omega⟩ k) = a0 m c (ix4 b ch ⟨k.val / 129, by omega⟩ ⟨k.val % 129, by omega⟩) := by
  simp only [in0, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- The pooled features. -/
theorem in2_apply (b : Fin 16) (o : Fin 96) : in2 m c (ix2 b o) = a1 m c (ix3 b o 0) := by
  simp only [in2, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- The first layer's weights, spread over the positions. -/
theorem in3_apply (i : Fin 3) (u o t : Fin 32) :
    in3 m c (ix2 ⟨i.val * 32 + u.val, by omega⟩ ⟨o.val * 32 + t.val, by omega⟩)
      = ∑ d : Fin 3, (if u.val + 1 = t.val + d.val then 1 else 0) * a2 m c (ix3 o i d) := by
  simp only [in3, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  exact Finset.sum_congr rfl fun d _ => congrArg (· * _) (shift_word d u t)

/-- The second layer's weights, spread over the positions. -/
theorem in4_apply (i : Fin 32) (u o t : Fin 32) :
    in4 m c (ix2 ⟨i.val * 32 + u.val, by omega⟩ ⟨o.val * 32 + t.val, by omega⟩)
      = ∑ d : Fin 3, (if u.val + 1 = t.val + d.val then 1 else 0) * a5 m c (ix3 o i d) := by
  simp only [in4, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  exact Finset.sum_congr rfl fun d _ => congrArg (· * _) (shift_word d u t)

/-- The averaging table. -/
theorem in5_apply (r : Fin 1024) (o : Fin 32) :
    in5 m c (ix2 r o) = if r.val / 32 = o.val then Ideal.ofBits .f32 0x3D000000#32 else 0 := by
  simp only [in5, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  exact average_word r o

/-- The rearrangement. -/
theorem in6_apply (r z : Fin 48) :
    in6 m c (ix2 r z) = if z.val = 6 * (r.val % 8) + r.val / 8 then 1 else 0 := by
  simp only [in6, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  exact rearrange_word r z

/-- A layer's folded scale, at every position. -/
theorem in7_apply (o t : Fin 32) :
    in7 m c (ix2 0 ⟨o.val * 32 + t.val, by omega⟩) = a4 m c (ix2 0 o) * Ideal.rsqrt (a4 m c (ix2 3 o) + eps) := by
  simp only [in7, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  rfl

/-- A layer's folded scale, at every position. -/
theorem in9_apply (o t : Fin 32) :
    in9 m c (ix2 0 ⟨o.val * 32 + t.val, by omega⟩) = a7 m c (ix2 0 o) * Ideal.rsqrt (a7 m c (ix2 3 o) + eps) := by
  simp only [in9, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  rfl

/-- A layer's folded offset, at every position. -/
theorem in8_apply (o t : Fin 32) :
    in8 m c (ix2 0 ⟨o.val * 32 + t.val, by omega⟩)
      = (a3 m c (ix1 o) - a4 m c (ix2 2 o)) * (a4 m c (ix2 0 o) * Ideal.rsqrt (a4 m c (ix2 3 o) + eps)) + a4 m c (ix2 1 o) := by
  simp only [in8, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  rfl

/-- A layer's folded offset, at every position. -/
theorem in10_apply (o t : Fin 32) :
    in10 m c (ix2 0 ⟨o.val * 32 + t.val, by omega⟩)
      = (a6 m c (ix1 o) - a7 m c (ix2 2 o)) * (a7 m c (ix2 0 o) * Ideal.rsqrt (a7 m c (ix2 3 o) + eps)) + a7 m c (ix2 1 o) := by
  simp only [in10, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise
  rfl

/-- The first sums' weights. -/
theorem in15_apply (i : Fin 176) (o : Fin 256) : in15 m c (ix2 i o) = a8 m c (ix2 o i) := by
  simp only [in15, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- One of the rows of 256. -/
theorem in16_apply (o : Fin 256) : in16 m c (ix2 0 o) = a9 m c (ix1 o) := by
  simp only [in16, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- One of the rows of 256. -/
theorem in17_apply (o : Fin 256) : in17 m c (ix2 0 o) = a10 m c (ix1 o) := by
  simp only [in17, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- One of the rows of 256. -/
theorem in18_apply (o : Fin 256) : in18 m c (ix2 0 o) = a11 m c (ix1 o) := by
  simp only [in18, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- The last sums' weights. -/
theorem in19_apply (i : Fin 256) (o : Fin 128) : in19 m c (ix2 i o) = a12 m c (ix2 o i) := by
  simp only [in19, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- The last sums' biases. -/
theorem in20_apply (o : Fin 128) : in20 m c (ix2 0 o) = a13 m c (ix1 o) := by
  simp only [in20, V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  entry_read
  pointwise

/-- The contents of the buffers once the indicators of the bins are computed. -/
def binned : Valuation τ sig (Elt Ideal) :=
  StableHlo.after (List.flatten [hostOps0, hostOps0_1, hostOps0_2, hostOps0_3, hostOps0_4, hostOps0_5, hostOps0_6, hostOps0_7,
    hostOps0_8]) fun b => m (c, b)

/-- What the region finds, from there. -/
theorem V_binned (b : Ref sig .tc) :
    V m c b = StableHlo.after (List.flatten [hostOps0_9, hostOps0_10, hostOps0_11]) (binned m c) (Proc.devRef .tc b) := by
  rw [binned, ← StableHlo.after_append, ← List.flatten_append]
  rfl

theorem ringTable_binned : ringTable m c = binned m c (Proc.devRef .tc main_v38) := by
  rw [ringTable, V_binned]
  simp only [hostOps0_9, hostOps0_10, hostOps0_11, List.flatten_cons, List.flatten_nil, List.append_nil, List.cons_append, List.nil_append]
  entry_read
  rfl

theorem secTable_binned : secTable m c = binned m c (Proc.devRef .tc main_v39) := by
  rw [secTable, V_binned]
  simp only [hostOps0_9, hostOps0_10, hostOps0_11, List.flatten_cons, List.flatten_nil, List.append_nil, List.cons_append, List.nil_append]
  entry_read
  rfl

/-- The indicators side by side: the rings. -/
theorem in1_ring (k : Fin 33024) (u : Fin 32) :
    in1 m c (ix2 k ⟨u.val, by omega⟩) = ringTable m c (ix2 k u) := by
  rw [ringTable_binned, in1, V_binned]
  simp only [hostOps0_9, hostOps0_10, hostOps0_11, List.flatten_cons, List.flatten_nil, List.append_nil, List.cons_append, List.nil_append]
  entry_read
  pointwise

/-- The indicators side by side: the sectors. -/
theorem in1_sec (k : Fin 33024) (s : Fin 8) :
    in1 m c (ix2 k ⟨32 + s.val, by omega⟩) = secTable m c (ix2 k s) := by
  rw [secTable_binned, in1, V_binned]
  simp only [hostOps0_9, hostOps0_10, hostOps0_11, List.flatten_cons, List.flatten_nil, List.append_nil, List.cons_append, List.nil_append]
  entry_read
  pointwise

/-- One over a ring's count. -/
theorem in11_apply (u : Fin 32) :
    in11 m c (ix2 0 u) = Ideal.div 1 (max (count fun k => ringTable m c (ix2 k u)) 1) := by
  rw [ringTable_binned, in11, V_binned]
  simp only [hostOps0_9, hostOps0_10, hostOps0_11, List.flatten_cons, List.flatten_nil, List.append_nil, List.cons_append, List.nil_append]
  entry_read
  pointwise
  rfl

/-- One over a sector's count, zero for an empty one. -/
theorem in12_apply (s : Fin 8) :
    in12 m c (ix2 0 s) = if 0 < (count fun k => secTable m c (ix2 k s)) then Ideal.div 1 (count fun k => secTable m c (ix2 k s)) else 0 := by
  rw [secTable_binned, in12, V_binned]
  simp only [hostOps0_9, hostOps0_10, hostOps0_11, List.flatten_cons, List.flatten_nil, List.append_nil, List.cons_append, List.nil_append]
  entry_read
  simp only [StableHlo.TRef.toBuf, StableHlo.TRef.ofBuf, cast_eq]
  pointwise
  rfl

/-- A sector's count. -/
theorem in13_apply (s : Fin 8) : in13 m c (ix2 0 s) = count fun k => secTable m c (ix2 k s) := by
  rw [secTable_binned, in13, V_binned]
  simp only [hostOps0_9, hostOps0_10, hostOps0_11, List.flatten_cons, List.flatten_nil, List.append_nil, List.cons_append, List.nil_append]
  entry_read
  pointwise
  rfl

/-- One over a sector's count less one. -/
theorem in14_apply (s : Fin 8) :
    in14 m c (ix2 0 s) = Ideal.div 1 (max ((count fun k => secTable m c (ix2 k s)) - 1) 1) := by
  rw [secTable_binned, in14, V_binned]
  simp only [hostOps0_9, hostOps0_10, hostOps0_11, List.flatten_cons, List.flatten_nil, List.append_nil, List.cons_append, List.nil_append]
  entry_read
  pointwise
  rfl

end Cert.Kernel2Ideal.Own

end
-- ==== Proof.HeadBins.lean ====
/-
  The kernel's program and the reference build the indicators of the bins from the same grid of frequencies, operation for
  operation.
-/
module

public import proofs.«01_k».proof.Proof.HeadHost
public import proofs.«01_k».proof.Proof.Gen.Reference2Ideal.Run

@[expose] public section

set_option maxRecDepth 16384

noncomputable section

namespace Cert.Kernel2Ideal.Own

open Cert.Kernel2Ideal Cert.Kernel2Ideal.Gen
open Idealize.ShloMosaic Idealize.ShloMosaic.TcCoe

variable (m : (ℓ : Loc nD τ sig) → Buf (Elt Ideal) ℓ) (c : Dev nD)
variable (V0 : Valuation Cert.Reference2Ideal.τ Cert.Reference2Ideal.sig (Elt Ideal))

set_option maxHeartbeats 4000000 in
/-- The rings' indicators. -/
theorem ring_eq : ringTable m c = Cert.Reference2Ideal.Value.res_main_v39 V0 := by
  rw [ringTable_binned, binned]
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.toBuf, StableHlo.TRef.ofBuf, cast_eq]
  rfl

set_option maxHeartbeats 4000000 in
/-- The sectors' indicators. -/
theorem sec_eq : secTable m c = Cert.Reference2Ideal.Value.res_main_v48 V0 := by
  rw [secTable_binned, binned]
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.toBuf, StableHlo.TRef.ofBuf, cast_eq]
  rfl

end Cert.Kernel2Ideal.Own

end
-- ==== Proof.HeadBody.lean ====
/-
  What the last call's body computes, element by element, from the arrays it reads.
-/
module

public import proofs.«01_k».proof.Proof.Gen.Kernel2Ideal.Value
public import proofs.«01_k».proof.Proof.HeadSpec
public import Idealize.ShloMosaic.Lib.Pointwise

@[expose] public section

set_option maxRecDepth 16384

noncomputable section

namespace Cert.Kernel2Ideal.Own

open Cert.Kernel2Ideal Cert.Kernel2Ideal.Gen Cert.Head
open Idealize.ShloMosaic Idealize.ShloMosaic.TcCoe

/-- The sums over the bins of the magnitudes: the first 48 rows. -/
theorem bins_low (x : S48x33024.Idx → EReal) (r : S33024x40.Idx → EReal) (i : Fin 48) (q : Fin 40) :
    (k0_pay2 (F := Ideal) x r : S96x40.Idx → EReal) (ix2 ⟨i.val, by omega⟩ q) = ∑ k, x (ix2 i k) * r (ix2 k q) := by
  pointwise [k0_pay2]

/-- The sums over the bins of the magnitudes' squares: the last 48 rows. -/
theorem bins_high (x : S48x33024.Idx → EReal) (r : S33024x40.Idx → EReal) (i : Fin 48) (q : Fin 40) :
    (k0_pay2 (F := Ideal) x r : S96x40.Idx → EReal) (ix2 ⟨48 + i.val, by omega⟩ q)
      = ∑ k, x (ix2 i k) * x (ix2 i k) * r (ix2 k q) := by
  pointwise [k0_pay2]

theorem row_low (R : Fin 48) : R.val < 96 := by omega
theorem row_high (R : Fin 48) : 48 + R.val < 96 := by omega
theorem col_ring (u : Fin 32) : u.val < 40 := by omega
theorem col_sec (k : Fin 8) : 32 + k.val < 40 := by omega

/-- A ring's mean from the sums `d`: row `R` (channel and image), ring `u`. -/
def ringRaw (d : S96x40.Idx → EReal) (rc : S1x32.Idx → EReal) (R : Fin 48) (u : Fin 32) : EReal :=
  min (Ideal.ofBits .f32 0x49742400#32) (max 0 (d (ix2 ⟨R.val, row_low R⟩ ⟨u.val, col_ring u⟩) * rc (ix2 0 u)))

theorem ringRaw_at {d : S96x40.Idx → EReal} {rc : S1x32.Idx → EReal} {R : Fin 48} {u u' : Fin 32} {p : Fin 96} {q : Fin 40}
    (hp : p.val = R.val) (hq : q.val = u.val) (hu : u'.val = u.val) :
    min (Ideal.ofBits .f32 0x49742400#32) (max 0 (d (ix2 p q) * rc (ix2 0 u'))) = ringRaw d rc R u := by
  rw [show p = ⟨R.val, row_low R⟩ from Fin.ext hp]
  rw [show q = ⟨u.val, col_ring u⟩ from Fin.ext hq]
  rw [show u' = u from Fin.ext hu]
  rfl

/-- A sector's mean from the sums `d`. -/
def meanRaw (d : S96x40.Idx → EReal) (ai : S1x8.Idx → EReal) (R : Fin 48) (k : Fin 8) : EReal :=
  d (ix2 ⟨R.val, row_low R⟩ ⟨32 + k.val, col_sec k⟩) * ai (ix2 0 k)

theorem meanRaw_at {d : S96x40.Idx → EReal} {ai : S1x8.Idx → EReal} {R : Fin 48} {k k' : Fin 8} {p : Fin 96} {q : Fin 40}
    (hp : p.val = R.val) (hq : q.val = 32 + k.val) (hk : k'.val = k.val) :
    d (ix2 p q) * ai (ix2 0 k') = meanRaw d ai R k := by
  rw [show p = ⟨R.val, row_low R⟩ from Fin.ext hp]
  rw [show q = ⟨32 + k.val, col_sec k⟩ from Fin.ext hq]
  rw [show k' = k from Fin.ext hk]
  rfl

/-- A sector's deviation from the sums `d`. -/
def spreadRaw (d : S96x40.Idx → EReal) (ai an a1 : S1x8.Idx → EReal) (R : Fin 48) (k : Fin 8) : EReal :=
  Ideal.sqrt (max ((d (ix2 ⟨48 + R.val, row_high R⟩ ⟨32 + k.val, col_sec k⟩)
    - an (ix2 0 k) * meanRaw d ai R k * meanRaw d ai R k) * a1 (ix2 0 k)) 0)

theorem spreadRaw_at {d : S96x40.Idx → EReal} {ai an a1 : S1x8.Idx → EReal} {R : Fin 48} {k k' : Fin 8} {p p' : Fin 96}
    {q : Fin 40} (hp' : p'.val = 48 + R.val) (hp : p.val = R.val) (hq : q.val = 32 + k.val) (hk : k'.val = k.val) :
    Ideal.sqrt (max ((d (ix2 p' q) - an (ix2 0 k') * (d (ix2 p q) * ai (ix2 0 k')) * (d (ix2 p q) * ai (ix2 0 k')))
      * a1 (ix2 0 k')) 0) = spreadRaw d ai an a1 R k := by
  rw [show p' = ⟨48 + R.val, row_high R⟩ from Fin.ext hp']
  rw [show p = ⟨R.val, row_low R⟩ from Fin.ext hp]
  rw [show q = ⟨32 + k.val, col_sec k⟩ from Fin.ext hq]
  rw [show k' = k from Fin.ext hk]
  rfl

/-- The sectors' 48 values in the order the body concatenates them: the three channels' means, then their deviations. -/
def sidesRaw (d : S96x40.Idx → EReal) (ai an a1 : S1x8.Idx → EReal) (b : Fin 16) (z : Fin 48) : EReal :=
  if h : z.val < 24 then meanRaw d ai ⟨16 * (z.val / 8) + b.val, by omega⟩ ⟨z.val % 8, by omega⟩
  else spreadRaw d ai an a1 ⟨16 * (z.val / 8 - 3) + b.val, by omega⟩ ⟨z.val % 8, by omega⟩

theorem sidesRaw_low (d : S96x40.Idx → EReal) (ai an a1 : S1x8.Idx → EReal) (b : Fin 16) (z : Fin 48) (h : z.val < 24) :
    sidesRaw d ai an a1 b z = meanRaw d ai ⟨16 * (z.val / 8) + b.val, by omega⟩ ⟨z.val % 8, by omega⟩ := dif_pos h

theorem sidesRaw_high (d : S96x40.Idx → EReal) (ai an a1 : S1x8.Idx → EReal) (b : Fin 16) (z : Fin 48) (h : ¬ z.val < 24) :
    sidesRaw d ai an a1 b z = spreadRaw d ai an a1 ⟨16 * (z.val / 8 - 3) + b.val, by omega⟩ ⟨z.val % 8, by omega⟩ := dif_neg h

/-- The first layer's outputs as the body computes them from the sums `d`. -/
def lineRaw (d : S96x40.Idx → EReal) (rc : S1x32.Idx → EReal) (w : S96x1024.Idx → EReal)
    (s t : S1x1024.Idx → EReal) (b : Fin 16) (j : Fin 1024) : EReal :=
  max ((∑ k : Fin 96, ringRaw d rc ⟨16 * (k.val / 32) + b.val, by omega⟩ ⟨k.val % 32, by omega⟩ * w (ix2 k j)) * s (ix2 0 j)
    + t (ix2 0 j)) 0

set_option maxHeartbeats 1000000 in
theorem lines (x : S48x33024.Idx → EReal) (r : S33024x40.Idx → EReal) (rc : S1x32.Idx → EReal) (w : S96x1024.Idx → EReal)
    (s t : S1x1024.Idx → EReal) (w2 : S1024x1024.Idx → EReal) (d : S96x40.Idx → EReal)
    (hd : k0_pay2 (F := Ideal) x r = d) (b : Fin 16) (j : Fin 1024) :
    (k0_pay3 (F := Ideal) x r rc w s t w2 : S16x1024.Idx → EReal) (ix2 b j)
      = ∑ k, lineRaw d rc w s t b k * w2 (ix2 k j) := by
  pointwise [k0_pay3]
  rw [hd]
  refine Finset.sum_congr rfl fun a _ => ?_
  refine congrArg (· * _) ?_
  unfold lineRaw
  refine congrArg (max · 0) ?_
  refine congrArg (· + _) ?_
  refine congrArg (· * _) ?_
  refine Finset.sum_congr rfl fun k _ => ?_
  refine congrArg (· * _) ?_
  by_cases h0 : k.val < 32
  · rw [dif_pos h0]
    exact ringRaw_at (by simp only; omega) (by simp only; omega) (by simp only; omega)
  rw [dif_neg h0]
  by_cases h1 : k.val - 32 < 32
  · rw [dif_pos h1]
    exact ringRaw_at (by simp only; omega) (by simp only; omega) (by simp only; omega)
  rw [dif_neg h1]
  exact ringRaw_at (by simp only; omega) (by simp only; omega) (by simp only; omega)

set_option maxHeartbeats 8000000 in
theorem sides (d : S96x40.Idx → EReal) (y : S16x1024.Idx → EReal) (s t : S1x1024.Idx → EReal)
    (av : S1024x32.Idx → EReal) (ai an a1 : S1x8.Idx → EReal) (ef : S48x48.Idx → EReal) (pool : S16x96.Idx → EReal)
    (b : Fin 16) (q : Fin 176) :
    (k0_pay5 (F := Ideal) d y s t av ai an a1 ef pool : S16x176.Idx → EReal) (ix2 b q)
      = features (fun o => pool (ix2 b o))
          (fun o => ∑ k : Fin 1024, max (y (ix2 b k) * s (ix2 0 k) + t (ix2 0 k)) 0 * av (ix2 k o))
          (fun z => ∑ k : Fin 48, sidesRaw d ai an a1 b k * ef (ix2 k z)) q := by
  pointwise [k0_pay5]
  refine dite_congr rfl (fun _ => rfl) fun _ => ?_
  refine dite_congr rfl (fun _ => rfl) fun _ => ?_
  refine Finset.sum_congr rfl fun z _ => ?_
  refine congrArg (· * _) ?_
  by_cases h0 : z.val < 8
  · rw [dif_pos h0, sidesRaw_low _ _ _ _ _ _ (by omega)]
    exact meanRaw_at (by simp only; omega) (by simp only; omega) (by simp only; omega)
  rw [dif_neg h0]
  by_cases h1 : z.val - 8 < 8
  · rw [dif_pos h1, sidesRaw_low _ _ _ _ _ _ (by omega)]
    exact meanRaw_at (by simp only; omega) (by simp only; omega) (by simp only; omega)
  rw [dif_neg h1]
  by_cases h2 : z.val - 8 - 8 < 8
  · rw [dif_pos h2, sidesRaw_low _ _ _ _ _ _ (by omega)]
    exact meanRaw_at (by simp only; omega) (by simp only; omega) (by simp only; omega)
  rw [dif_neg h2, sidesRaw_high _ _ _ _ _ _ (by omega)]
  by_cases h3 : z.val - 8 - 8 - 8 < 8
  · rw [dif_pos h3]
    exact spreadRaw_at (by simp only; omega) (by simp only; omega) (by simp only; omega) (by simp only; omega)
  rw [dif_neg h3]
  by_cases h4 : z.val - 8 - 8 - 8 - 8 < 8
  · rw [dif_pos h4]
    exact spreadRaw_at (by simp only; omega) (by simp only; omega) (by simp only; omega) (by simp only; omega)
  rw [dif_neg h4]
  exact spreadRaw_at (by simp only; omega) (by simp only; omega) (by simp only; omega) (by simp only; omega)

/-- The normalisation as the body computes it. -/
def normedRaw (g be h : Fin 256 → EReal) (i : Fin 256) : EReal :=
  max ((h i - avg h) * Ideal.rsqrt (avg (fun j => (h j - avg h) * (h j - avg h)) + Cert.Conv.eps) * g i + be i) 0

/-- The last layers as the body computes them, before the limit. -/
theorem tail (y : S16x176.Idx → EReal) (w1 : S176x256.Idx → EReal) (b1 g be : S1x256.Idx → EReal) (w2 : S256x128.Idx → EReal)
    (b2 : S1x128.Idx → EReal) (b : Fin 16) (j : Fin 128) :
    (k0_pay6 (F := Ideal) y w1 b1 g be w2 b2 : S16x128.Idx → EReal) (ix2 b j)
      = dense (fun o i => w2 (ix2 i o)) (fun o => b2 (ix2 0 o)) (normedRaw (fun o => g (ix2 0 o)) (fun o => be (ix2 0 o))
          (dense (fun o i => w1 (ix2 i o)) (fun o => b1 (ix2 0 o)) (fun i => y (ix2 b i)))) j := by
  pointwise [k0_pay6]
  rfl

/-- A whole row is passed on as it is. -/
theorem same_row (x : S1x1024.Idx → EReal) (k : Fin 1024) :
    (k0_pay4 (F := Ideal) x : S1x1024.Idx → EReal) (ix2 0 k) = x (ix2 0 k) := by
  pointwise [k0_pay4]

/-- The limit. -/
theorem limited (y : S16x128.Idx → EReal) (b : Fin 16) (j : Fin 128) :
    (k0_pay1 (F := Ideal) y (Scalar.ofBits .f32 0xC2C80000#32) : S16x128.Idx → EReal) (ix2 b j) = limit (y (ix2 b j)) := by
  pointwise [k0_pay1]
  rfl

end Cert.Kernel2Ideal.Own

end
-- ==== Proof.HeadMath.lean ====
/-
  The equations behind the last call: a reciprocal as a factor, the shifts of a line as a convolution's taps, the average
  over a line as a product, the rearrangement of the sectors' values, the normalisation by a reciprocal root.
-/
module

public import proofs.«01_k».proof.Proof.HeadSpec

@[expose] public section

noncomputable section

namespace Cert.Head

open Idealize.ShloMosaic
open Cert.Conv (eps IsReal sum_blocks)

/-- Multiplying by the reciprocal of a positive number is dividing by it. -/
theorem mul_div_one (x c : EReal) (hc : 0 < c) : x * Ideal.div 1 c = Ideal.div x c := by
  rw [Ideal.div, if_neg hc.ne', Ideal.div, if_neg hc.ne', one_mul]

theorem max_one_pos (c : EReal) : 0 < max c 1 := lt_of_lt_of_le zero_lt_one (le_max_right _ _)

/-- A ring's mean, with the reciprocal of its count as a factor. -/
theorem radial_eq (x r : Fin 33024 → EReal) :
    min (Ideal.ofBits .f32 0x49742400#32) (max 0 (total x r * Ideal.div 1 (max (count r) 1))) = radial x r := by
  rw [radial, mul_div_one _ _ (max_one_pos _)]

/-- A sector's mean, with the reciprocal of its count as a factor. -/
theorem mean_eq (x r : Fin 33024 → EReal) :
    total x r * (if 0 < count r then Ideal.div 1 (count r) else 0) = mean x r := by
  unfold mean
  by_cases h : 0 < count r
  · rw [if_pos h, if_pos h, mul_div_one _ _ h]
  · rw [if_neg h, if_neg h, mul_zero]

/-- A sector's deviation, likewise. -/
theorem spread_eq (x r : Fin 33024 → EReal) :
    Ideal.sqrt (max (((∑ k, x k * x k * r k) - count r * mean x r * mean x r) * Ideal.div 1 (max (count r - 1) 1)) 0)
      = spread x r := by
  rw [spread, mul_div_one _ _ (max_one_pos _), mul_assoc (count r)]

/-- The rearrangement from channel by channel to sector by sector. -/
theorem pick (f : Fin 48 → EReal) (z : Fin 48) :
    ∑ k : Fin 48, f k * (if z.val = 6 * (k.val % 8) + k.val / 8 then 1 else 0) = f ⟨z.val % 6 * 8 + z.val / 6, by omega⟩ := by
  rw [Finset.sum_eq_single ⟨z.val % 6 * 8 + z.val / 6, by omega⟩]
  · rw [if_pos (by simp only; omega), mul_one]
  · intro k _ hk
    rw [if_neg, mul_zero]
    intro h
    exact hk (Fin.ext (by simp only; omega))
  · intro h
    exact absurd (Finset.mem_univ _) h

/-- One shift of a line. -/
theorem shift (x : Fin 32 → EReal) (w : EReal) (T : ℕ) :
    ∑ u : Fin 32, (if u.val + 1 = T then x u * w else 0) = line x T * w := by
  unfold line
  by_cases h : 1 ≤ T ∧ T ≤ 32
  · rw [dif_pos h, Finset.sum_eq_single ⟨T - 1, by omega⟩]
    · rw [if_pos (by simp only; omega)]
    · intro u _ hu
      rw [if_neg]
      intro e
      exact hu (Fin.ext (by simp only; omega))
    · intro e
      exact absurd (Finset.mem_univ _) e
  · rw [dif_neg h, zero_mul]
    refine Finset.sum_eq_zero fun u _ => if_neg ?_
    have := u.isLt
    omega

/-- A line against the three shifts, weighted by the taps. -/
theorem band (x : Fin 32 → EReal) (w : Fin 3 → EReal) (t : Fin 32) :
    ∑ u : Fin 32, x u * (∑ d : Fin 3, (if u.val + 1 = t.val + d.val then 1 else 0) * w d)
      = line x t.val * w 0 + line x (1 + t.val) * w 1 + line x (2 + t.val) * w 2 := by
  rw [← shift, ← shift, ← shift, ← Finset.sum_add_distrib, ← Finset.sum_add_distrib]
  refine Finset.sum_congr rfl fun u _ => ?_
  rw [Fin.sum_univ_three]
  show x u * ((if u.val + 1 = t.val + 0 then 1 else 0) * w 0 + (if u.val + 1 = t.val + 1 then 1 else 0) * w 1
    + (if u.val + 1 = t.val + 2 then 1 else 0) * w 2) = _
  by_cases h0 : u.val + 1 = t.val
  · rw [if_pos (by omega), if_neg (by omega), if_neg (by omega), if_pos (by omega), if_neg (by omega), if_neg (by omega)]
    simp only [one_mul, zero_mul, add_zero]
  by_cases h1 : u.val + 1 = 1 + t.val
  · rw [if_neg (by omega), if_pos (by omega), if_neg (by omega), if_neg (by omega), if_pos (by omega), if_neg (by omega)]
    simp only [one_mul, zero_mul, add_zero, zero_add]
  by_cases h2 : u.val + 1 = 2 + t.val
  · rw [if_neg (by omega), if_neg (by omega), if_pos (by omega), if_neg (by omega), if_neg (by omega), if_pos (by omega)]
    simp only [one_mul, zero_mul, zero_add]
  · rw [if_neg (by omega), if_neg (by omega), if_neg (by omega), if_neg (by omega), if_neg (by omega), if_neg (by omega)]
    simp only [zero_mul, add_zero, mul_zero]

/-- All lines together: the convolution. -/
theorem taps_eq {N n : ℕ} (hN : N = n * 32) (X : Fin n → Fin 32 → EReal) (w : Fin n → Fin 3 → EReal) (t : Fin 32)
    (Y W : Fin N → EReal) (hY : ∀ (c : Fin n) (u : Fin 32) (k : Fin N), k.val = c.val * 32 + u.val → Y k = X c u)
    (hW : ∀ (c : Fin n) (u : Fin 32) (k : Fin N), k.val = c.val * 32 + u.val →
      W k = ∑ d : Fin 3, (if u.val + 1 = t.val + d.val then 1 else 0) * w c d) :
    ∑ k, Y k * W k = taps w X t.val := by
  rw [sum_blocks n 32 hN, taps, ← Finset.sum_add_distrib, ← Finset.sum_add_distrib]
  refine Finset.sum_congr rfl fun c _ => ?_
  rw [← band]
  exact Finset.sum_congr rfl fun u _ => by rw [hY c u _ rfl, hW c u _ rfl]

/-- A channel's parameters are fit to be folded: its bias, scale and mean are real and its variance is above `-eps`. -/
def Layer.Fit {n : ℕ} (L : Layer n) (o : Fin 32) : Prop :=
  IsReal (L.b o) ∧ IsReal (L.g o) ∧ IsReal (L.mu o) ∧ 0 < L.va o + eps

/-- Folding the bias and the normalisation into one scale and one offset changes nothing. -/
theorem Layer.norm_eq {n : ℕ} (L : Layer n) (o : Fin 32) (h : L.Fit o) (a : EReal) :
    a * (L.g o * Ideal.rsqrt (L.va o + eps)) + ((L.b o - L.mu o) * (L.g o * Ideal.rsqrt (L.va o + eps)) + L.be o)
      = L.norm o (a + L.b o) :=
  Cert.Conv.Layer.norm_eq (n := 0) (k := 32) ⟨fun _ _ _ _ => 0, L.b, L.g, L.be, L.mu, L.va⟩ o h a

/-- A sum of products with one positive real. -/
theorem sum_mul_real {n : ℕ} (f : Fin n → EReal) (q : EReal) (h0 : 0 ≤ q) (ht : q ≠ ⊤) : ∑ t, f t * q = (∑ t, f t) * q := by
  induction n with
  | zero => simp
  | succ n ih => rw [Fin.sum_univ_succ, Fin.sum_univ_succ, EReal.right_distrib_of_nonneg_of_ne_top h0 ht, ih]

/-- The average over each line, as a product. -/
theorem average (y : Fin 1024 → EReal) (o : Fin 32) :
    ∑ k : Fin 1024, y k * (if k.val / 32 = o.val then Ideal.ofBits .f32 0x3D000000#32 else 0)
      = Ideal.div (∑ t : Fin 32, y ⟨o.val * 32 + t.val, by omega⟩) (Ideal.ofBits .f32 0x42000000#32) := by
  have h1 : Ideal.ofBits .f32 0x3D000000#32 = (((32 : ℝ)⁻¹ : ℝ) : EReal) := by
    simp [Ideal.ofBits, Ideal.ieee, -EReal.coe_mul]; norm_num
  have h2 : Ideal.ofBits .f32 0x42000000#32 = ((32 : ℝ) : EReal) := by
    simp [Ideal.ofBits, Ideal.ieee, -EReal.coe_mul]; norm_num
  rw [h1, h2, sum_blocks 32 32 rfl, Finset.sum_eq_single o]
  · rw [Ideal.div, if_neg (by norm_num), ← EReal.coe_inv,
      ← sum_mul_real _ _ (by exact_mod_cast (by norm_num : (0 : ℝ) ≤ 32⁻¹)) (EReal.coe_ne_top _)]
    refine Finset.sum_congr rfl fun t _ => ?_
    rw [if_pos (by simp only; omega)]
  · intro a _ ha
    refine Finset.sum_eq_zero fun t _ => ?_
    rw [if_neg, mul_zero]
    intro e
    exact ha (Fin.ext (by simp only at e; omega))
  · intro h
    exact absurd (Finset.mem_univ _) h

/-- Multiplying by the reciprocal root of a positive number is dividing by its root. -/
theorem rsqrt_div (a v : EReal) (hv : 0 < v) : a * Ideal.rsqrt v = Ideal.div a (Ideal.sqrt v) := by
  induction v with
  | bot => exact absurd hv (by simp)
  | top =>
    have e : Ideal.rsqrt ⊤ = 0 := rfl
    have e' : Ideal.sqrt ⊤ = ⊤ := rfl
    rw [e, e', mul_zero, Ideal.div, if_neg EReal.top_ne_zero, EReal.inv_top, mul_zero]
  | coe v =>
    have hp : 0 < v := by exact_mod_cast hv
    have hs : 0 < Real.sqrt v := Real.sqrt_pos.mpr hp
    have e : Ideal.rsqrt (v : EReal) = (((Real.sqrt v)⁻¹ : ℝ) : EReal) := by
      show (if v < 0 then ⊥ else if v = 0 then ⊤ else (((Real.sqrt v)⁻¹ : ℝ) : EReal)) = _
      rw [if_neg hp.not_gt, if_neg hp.ne']
    have e' : Ideal.sqrt (v : EReal) = ((Real.sqrt v : ℝ) : EReal) := by
      show (if v < 0 then ⊥ else ((Real.sqrt v : ℝ) : EReal)) = _
      rw [if_neg hp.not_gt]
    rw [e, e', Ideal.div, if_neg (by exact_mod_cast hs.ne'), ← EReal.coe_inv]

theorem square_nonneg (a : EReal) : 0 ≤ a * a := by
  induction a with
  | bot => simp
  | top => simp
  | coe a => exact_mod_cast mul_self_nonneg a

theorem eps_pos : 0 < eps := by
  have e : eps = ((2748779 * (2 : ℝ) ^ (-38 : ℤ) : ℝ) : EReal) := by
    unfold eps
    simp [Ideal.ofBits, Ideal.ieee, -EReal.coe_mul]; norm_num
  rw [e]
  exact_mod_cast (by positivity : (0 : ℝ) < 2748779 * (2 : ℝ) ^ (-38 : ℤ))

/-- The variance of 256 values, plus the small constant, is positive. -/
theorem variance_pos (h : Fin 256 → EReal) : 0 < avg (fun j => (h j - avg h) * (h j - avg h)) + eps := by
  refine lt_of_lt_of_le eps_pos (le_add_of_nonneg_left ?_)
  have h2 : Ideal.ofBits .f32 0x43800000#32 = ((256 : ℝ) : EReal) := by
    simp [Ideal.ofBits, Ideal.ieee, -EReal.coe_mul]; norm_num
  unfold avg
  rw [h2, Ideal.div, if_neg (by norm_num), ← EReal.coe_inv]
  refine mul_nonneg (Finset.sum_nonneg fun j _ => square_nonneg _) ?_
  exact_mod_cast (by norm_num : (0 : ℝ) ≤ 256⁻¹)

/-- The normalisation by a reciprocal root. -/
theorem normed_eq (g be h : Fin 256 → EReal) (i : Fin 256) :
    max ((h i - avg h) * Ideal.rsqrt (avg (fun j => (h j - avg h) * (h j - avg h)) + eps) * g i + be i) 0 = normed g be h i := by
  rw [rsqrt_div _ _ (variance_pos h), normed]

end Cert.Head

end
-- ==== Proof.HeadRegion.lean ====
/-
  What the last call's one grid point reads and what the result array holds at the end: every array whole.
-/
module

public import proofs.«01_k».proof.Proof.Gen.Kernel2Ideal.Value
public import Idealize.ShloMosaic.Lib.Pipeline.Value
public import Idealize.ShloMosaic.Lib.Pipeline.ValueKit.Basic

@[expose] public section

set_option maxRecDepth 16384

noncomputable section

namespace Cert.Kernel2Ideal.Own

open Cert.Kernel2Ideal Cert.Kernel2Ideal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The point writes the whole of the result. -/
theorem index21 : ∀ t : Fin cfg0.N, win0_21.index t 0 = 0 ∧ win0_21.index t 1 = 0 :=
  (by decide +kernel : ∀ t : Fin grid0.N, win0_21.index t 0 = 0 ∧ win0_21.index t 1 = 0)

theorem points : cfg0.N = 1 := N_0

/-- The point reads the whole of array 0. -/
theorem block0 (c : Dev nD) (t : Fin cfg0.N) : (iblk m c 0 t : Vec F S48x33024 .f32) = V m c main_v111 := by
  have hi : ∀ t : Fin cfg0.N, win0_0.index t 0 = 0 ∧ win0_0.index t 1 = 0 :=
    (by decide +kernel : ∀ t : Fin grid0.N, win0_0.index t 0 = 0 ∧ win0_0.index t 1 = 0)
  funext j
  unfold iblk
  rw [View.read_apply]
  show V m c main_v111 _ = V m c main_v111 _
  congr 1
  funext a
  apply Fin.ext
  match a with
  | ⟨0, _⟩ => show win0_0.index t 0 * 48 + 1 * (j 0).val = (j 0).val; rw [(hi t).1]; omega
  | ⟨1, _⟩ => show win0_0.index t 1 * 33024 + 1 * (j 1).val = (j 1).val; rw [(hi t).2]; omega

/-- The point reads the whole of array 1. -/
theorem block1 (c : Dev nD) (t : Fin cfg0.N) : (iblk m c 1 t : Vec F S33024x40 .f32) = V m c main_v40 := by
  have hi : ∀ t : Fin cfg0.N, win0_1.index t 0 = 0 ∧ win0_1.index t 1 = 0 :=
    (by decide +kernel : ∀ t : Fin grid0.N, win0_1.index t 0 = 0 ∧ win0_1.index t 1 = 0)
  funext j
  unfold iblk
  rw [View.read_apply]
  show V m c main_v40 _ = V m c main_v40 _
  congr 1
  funext a
  apply Fin.ext
  match a with
  | ⟨0, _⟩ => show win0_1.index t 0 * 33024 + 1 * (j 0).val = (j 0).val; rw [(hi t).1]; omega
  | ⟨1, _⟩ => show win0_1.index t 1 * 40 + 1 * (j 1).val = (j 1).val; rw [(hi t).2]; omega

/-- The point reads the whole of array 2. -/
theorem block2 (c : Dev nD) (t : Fin cfg0.N) : (iblk m c 2 t : Vec F S16x96 .f32) = V m c main_v112 := by
  have hi : ∀ t : Fin cfg0.N, win0_2.index t 0 = 0 ∧ win0_2.index t 1 = 0 :=
    (by decide +kernel : ∀ t : Fin grid0.N, win0_2.index t 0 = 0 ∧ win0_2.index t 1 = 0)
  funext j
  unfold iblk
  rw [View.read_apply]
  show V m c main_v112 _ = V m c main_v112 _
  congr 1
  funext a
  apply Fin.ext
  match a with
  | ⟨0, _⟩ => show win0_2.index t 0 * 16 + 1 * (j 0).val = (j 0).val; rw [(hi t).1]; omega
  | ⟨1, _⟩ => show win0_2.index t 1 * 96 + 1 * (j 1).val = (j 1).val; rw [(hi t).2]; omega

/-- The point reads the whole of array 3. -/
theorem block3 (c : Dev nD) (t : Fin cfg0.N) : (iblk m c 3 t : Vec F S96x1024 .f32) = V m c main_v64 := by
  have hi : ∀ t : Fin cfg0.N, win0_3.index t 0 = 0 ∧ win0_3.index t 1 = 0 :=
    (by decide +kernel : ∀ t : Fin grid0.N, win0_3.index t 0 = 0 ∧ win0_3.index t 1 = 0)
  funext j
  unfold iblk
  rw [View.read_apply]
  show V m c main_v64 _ = V m c main_v64 _
  congr 1
  funext a
  apply Fin.ext
  match a with
  | ⟨0, _⟩ => show win0_3.index t 0 * 96 + 1 * (j 0).val = (j 0).val; rw [(hi t).1]; omega
  | ⟨1, _⟩ => show win0_3.index t 1 * 1024 + 1 * (j 1).val = (j 1).val; rw [(hi t).2]; omega

/-- The point reads the whole of array 4. -/
theorem block4 (c : Dev nD) (t : Fin cfg0.N) : (iblk m c 4 t : Vec F S1024x1024 .f32) = V m c main_v67 := by
  have hi : ∀ t : Fin cfg0.N, win0_4.index t 0 = 0 ∧ win0_4.index t 1 = 0 :=
    (by decide +kernel : ∀ t : Fin grid0.N, win0_4.index t 0 = 0 ∧ win0_4.index t 1 = 0)
  funext j
  unfold iblk
  rw [View.read_apply]
  show V m c main_v67 _ = V m c main_v67 _
  congr 1
  funext a
  apply Fin.ext
  match a with
  | ⟨0, _⟩ => show win0_4.index t 0 * 1024 + 1 * (j 0).val = (j 0).val; rw [(hi t).1]; omega
  | ⟨1, _⟩ => show win0_4.index t 1 * 1024 + 1 * (j 1).val = (j 1).val; rw [(hi t).2]; omega

/-- The point reads the whole of array 5. -/
theorem block5 (c : Dev nD) (t : Fin cfg0.N) : (iblk m c 5 t : Vec F S1024x32 .f32) = V m c main_cst_0 := by
  have hi : ∀ t : Fin cfg0.N, win0_5.index t 0 = 0 ∧ win0_5.index t 1 = 0 :=
    (by decide +kernel : ∀ t : Fin grid0.N, win0_5.index t 0 = 0 ∧ win0_5.index t 1 = 0)
  funext j
  unfold iblk
  rw [View.read_apply]
  show V m c main_cst_0 _ = V m c main_cst_0 _
  congr 1
  funext a
  apply Fin.ext
  match a with
  | ⟨0, _⟩ => show win0_5.index t 0 * 1024 + 1 * (j 0).val = (j 0).val; rw [(hi t).1]; omega
  | ⟨1, _⟩ => show win0_5.index t 1 * 32 + 1 * (j 1).val = (j 1).val; rw [(hi t).2]; omega

/-- The point reads the whole of array 6. -/
theorem block6 (c : Dev nD) (t : Fin cfg0.N) : (iblk m c 6 t : Vec F S48x48 .f32) = V m c main_cst := by
  have hi : ∀ t : Fin cfg0.N, win0_6.index t 0 = 0 ∧ win0_6.index t 1 = 0 :=
    (by decide +kernel : ∀ t : Fin grid0.N, win0_6.index t 0 = 0 ∧ win0_6.index t 1 = 0)
  funext j
  unfold iblk
  rw [View.read_apply]
  show V m c main_cst _ = V m c main_cst _
  congr 1
  funext a
  apply Fin.ext
  match a with
  | ⟨0, _⟩ => show win0_6.index t 0 * 48 + 1 * (j 0).val = (j 0).val; rw [(hi t).1]; omega
  | ⟨1, _⟩ => show win0_6.index t 1 * 48 + 1 * (j 1).val = (j 1).val; rw [(hi t).2]; omega

/-- The point reads the whole of array 7. -/
theorem block7 (c : Dev nD) (t : Fin cfg0.N) : (iblk m c 7 t : Vec F S1x1024 .f32) = V m c main_v100 := by
  have hi : ∀ t : Fin cfg0.N, win0_7.index t 0 = 0 ∧ win0_7.index t 1 = 0 :=
    (by decide +kernel : ∀ t : Fin grid0.N, win0_7.index t 0 = 0 ∧ win0_7.index t 1 = 0)
  funext j
  unfold iblk
  rw [View.read_apply]
  show V m c main_v100 _ = V m c main_v100 _
  congr 1
  funext a
  apply Fin.ext
  match a with
  | ⟨0, _⟩ => show win0_7.index t 0 * 1 + 1 * (j 0).val = (j 0).val; rw [(hi t).1]; omega
  | ⟨1, _⟩ => show win0_7.index t 1 * 1024 + 1 * (j 1).val = (j 1).val; rw [(hi t).2]; omega

/-- The point reads the whole of array 8. -/
theorem block8 (c : Dev nD) (t : Fin cfg0.N) : (iblk m c 8 t : Vec F S1x1024 .f32) = V m c main_v103 := by
  have hi : ∀ t : Fin cfg0.N, win0_8.index t 0 = 0 ∧ win0_8.index t 1 = 0 :=
    (by decide +kernel : ∀ t : Fin grid0.N, win0_8.index t 0 = 0 ∧ win0_8.index t 1 = 0)
  funext j
  unfold iblk
  rw [View.read_apply]
  show V m c main_v103 _ = V m c main_v103 _
  congr 1
  funext a
  apply Fin.ext
  match a with
  | ⟨0, _⟩ => show win0_8.index t 0 * 1 + 1 * (j 0).val = (j 0).val; rw [(hi t).1]; omega
  | ⟨1, _⟩ => show win0_8.index t 1 * 1024 + 1 * (j 1).val = (j 1).val; rw [(hi t).2]; omega

/-- The point reads the whole of array 9. -/
theorem block9 (c : Dev nD) (t : Fin cfg0.N) : (iblk m c 9 t : Vec F S1x1024 .f32) = V m c main_v106 := by
  have hi : ∀ t : Fin cfg0.N, win0_9.index t 0 = 0 ∧ win0_9.index t 1 = 0 :=
    (by decide +kernel : ∀ t : Fin grid0.N, win0_9.index t 0 = 0 ∧ win0_9.index t 1 = 0)
  funext j
  unfold iblk
  rw [View.read_apply]
  show V m c main_v106 _ = V m c main_v106 _
  congr 1
  funext a
  apply Fin.ext
  match a with
  | ⟨0, _⟩ => show win0_9.index t 0 * 1 + 1 * (j 0).val = (j 0).val; rw [(hi t).1]; omega
  | ⟨1, _⟩ => show win0_9.index t 1 * 1024 + 1 * (j 1).val = (j 1).val; rw [(hi t).2]; omega

/-- The point reads the whole of array 10. -/
theorem block10 (c : Dev nD) (t : Fin cfg0.N) : (iblk m c 10 t : Vec F S1x1024 .f32) = V m c main_v109 := by
  have hi : ∀ t : Fin cfg0.N, win0_10.index t 0 = 0 ∧ win0_10.index t 1 = 0 :=
    (by decide +kernel : ∀ t : Fin grid0.N, win0_10.index t 0 = 0 ∧ win0_10.index t 1 = 0)
  funext j
  unfold iblk
  rw [View.read_apply]
  show V m c main_v109 _ = V m c main_v109 _
  congr 1
  funext a
  apply Fin.ext
  match a with
  | ⟨0, _⟩ => show win0_10.index t 0 * 1 + 1 * (j 0).val = (j 0).val; rw [(hi t).1]; omega
  | ⟨1, _⟩ => show win0_10.index t 1 * 1024 + 1 * (j 1).val = (j 1).val; rw [(hi t).2]; omega

/-- The point reads the whole of array 11. -/
theorem block11 (c : Dev nD) (t : Fin cfg0.N) : (iblk m c 11 t : Vec F S1x32 .f32) = V m c main_v46 := by
  have hi : ∀ t : Fin cfg0.N, win0_11.index t 0 = 0 ∧ win0_11.index t 1 = 0 :=
    (by decide +kernel : ∀ t : Fin grid0.N, win0_11.index t 0 = 0 ∧ win0_11.index t 1 = 0)
  funext j
  unfold iblk
  rw [View.read_apply]
  show V m c main_v46 _ = V m c main_v46 _
  congr 1
  funext a
  apply Fin.ext
  match a with
  | ⟨0, _⟩ => show win0_11.index t 0 * 1 + 1 * (j 0).val = (j 0).val; rw [(hi t).1]; omega
  | ⟨1, _⟩ => show win0_11.index t 1 * 32 + 1 * (j 1).val = (j 1).val; rw [(hi t).2]; omega

/-- The point reads the whole of array 12. -/
theorem block12 (c : Dev nD) (t : Fin cfg0.N) : (iblk m c 12 t : Vec F S1x8 .f32) = V m c main_v53 := by
  have hi : ∀ t : Fin cfg0.N, win0_12.index t 0 = 0 ∧ win0_12.index t 1 = 0 :=
    (by decide +kernel : ∀ t : Fin grid0.N, win0_12.index t 0 = 0 ∧ win0_12.index t 1 = 0)
  funext j
  unfold iblk
  rw [View.read_apply]
  show V m c main_v53 _ = V m c main_v53 _
  congr 1
  funext a
  apply Fin.ext
  match a with
  | ⟨0, _⟩ => show win0_12.index t 0 * 1 + 1 * (j 0).val = (j 0).val; rw [(hi t).1]; omega
  | ⟨1, _⟩ => show win0_12.index t 1 * 8 + 1 * (j 1).val = (j 1).val; rw [(hi t).2]; omega

/-- The point reads the whole of array 13. -/
theorem block13 (c : Dev nD) (t : Fin cfg0.N) : (iblk m c 13 t : Vec F S1x8 .f32) = V m c main_v54 := by
  have hi : ∀ t : Fin cfg0.N, win0_13.index t 0 = 0 ∧ win0_13.index t 1 = 0 :=
    (by decide +kernel : ∀ t : Fin grid0.N, win0_13.index t 0 = 0 ∧ win0_13.index t 1 = 0)
  funext j
  unfold iblk
  rw [View.read_apply]
  show V m c main_v54 _ = V m c main_v54 _
  congr 1
  funext a
  apply Fin.ext
  match a with
  | ⟨0, _⟩ => show win0_13.index t 0 * 1 + 1 * (j 0).val = (j 0).val; rw [(hi t).1]; omega
  | ⟨1, _⟩ => show win0_13.index t 1 * 8 + 1 * (j 1).val = (j 1).val; rw [(hi t).2]; omega

/-- The point reads the whole of array 14. -/
theorem block14 (c : Dev nD) (t : Fin cfg0.N) : (iblk m c 14 t : Vec F S1x8 .f32) = V m c main_v61 := by
  have hi : ∀ t : Fin cfg0.N, win0_14.index t 0 = 0 ∧ win0_14.index t 1 = 0 :=
    (by decide +kernel : ∀ t : Fin grid0.N, win0_14.index t 0 = 0 ∧ win0_14.index t 1 = 0)
  funext j
  unfold iblk
  rw [View.read_apply]
  show V m c main_v61 _ = V m c main_v61 _
  congr 1
  funext a
  apply Fin.ext
  match a with
  | ⟨0, _⟩ => show win0_14.index t 0 * 1 + 1 * (j 0).val = (j 0).val; rw [(hi t).1]; omega
  | ⟨1, _⟩ => show win0_14.index t 1 * 8 + 1 * (j 1).val = (j 1).val; rw [(hi t).2]; omega

/-- The point reads the whole of array 15. -/
theorem block15 (c : Dev nD) (t : Fin cfg0.N) : (iblk m c 15 t : Vec F S176x256 .f32) = V m c main_v113 := by
  have hi : ∀ t : Fin cfg0.N, win0_15.index t 0 = 0 ∧ win0_15.index t 1 = 0 :=
    (by decide +kernel : ∀ t : Fin grid0.N, win0_15.index t 0 = 0 ∧ win0_15.index t 1 = 0)
  funext j
  unfold iblk
  rw [View.read_apply]
  show V m c main_v113 _ = V m c main_v113 _
  congr 1
  funext a
  apply Fin.ext
  match a with
  | ⟨0, _⟩ => show win0_15.index t 0 * 176 + 1 * (j 0).val = (j 0).val; rw [(hi t).1]; omega
  | ⟨1, _⟩ => show win0_15.index t 1 * 256 + 1 * (j 1).val = (j 1).val; rw [(hi t).2]; omega

/-- The point reads the whole of array 16. -/
theorem block16 (c : Dev nD) (t : Fin cfg0.N) : (iblk m c 16 t : Vec F S1x256 .f32) = V m c main_v114 := by
  have hi : ∀ t : Fin cfg0.N, win0_16.index t 0 = 0 ∧ win0_16.index t 1 = 0 :=
    (by decide +kernel : ∀ t : Fin grid0.N, win0_16.index t 0 = 0 ∧ win0_16.index t 1 = 0)
  funext j
  unfold iblk
  rw [View.read_apply]
  show V m c main_v114 _ = V m c main_v114 _
  congr 1
  funext a
  apply Fin.ext
  match a with
  | ⟨0, _⟩ => show win0_16.index t 0 * 1 + 1 * (j 0).val = (j 0).val; rw [(hi t).1]; omega
  | ⟨1, _⟩ => show win0_16.index t 1 * 256 + 1 * (j 1).val = (j 1).val; rw [(hi t).2]; omega

/-- The point reads the whole of array 17. -/
theorem block17 (c : Dev nD) (t : Fin cfg0.N) : (iblk m c 17 t : Vec F S1x256 .f32) = V m c main_v115 := by
  have hi : ∀ t : Fin cfg0.N, win0_17.index t 0 = 0 ∧ win0_17.index t 1 = 0 :=
    (by decide +kernel : ∀ t : Fin grid0.N, win0_17.index t 0 = 0 ∧ win0_17.index t 1 = 0)
  funext j
  unfold iblk
  rw [View.read_apply]
  show V m c main_v115 _ = V m c main_v115 _
  congr 1
  funext a
  apply Fin.ext
  match a with
  | ⟨0, _⟩ => show win0_17.index t 0 * 1 + 1 * (j 0).val = (j 0).val; rw [(hi t).1]; omega
  | ⟨1, _⟩ => show win0_17.index t 1 * 256 + 1 * (j 1).val = (j 1).val; rw [(hi t).2]; omega

/-- The point reads the whole of array 18. -/
theorem block18 (c : Dev nD) (t : Fin cfg0.N) : (iblk m c 18 t : Vec F S1x256 .f32) = V m c main_v116 := by
  have hi : ∀ t : Fin cfg0.N, win0_18.index t 0 = 0 ∧ win0_18.index t 1 = 0 :=
    (by decide +kernel : ∀ t : Fin grid0.N, win0_18.index t 0 = 0 ∧ win0_18.index t 1 = 0)
  funext j
  unfold iblk
  rw [View.read_apply]
  show V m c main_v116 _ = V m c main_v116 _
  congr 1
  funext a
  apply Fin.ext
  match a with
  | ⟨0, _⟩ => show win0_18.index t 0 * 1 + 1 * (j 0).val = (j 0).val; rw [(hi t).1]; omega
  | ⟨1, _⟩ => show win0_18.index t 1 * 256 + 1 * (j 1).val = (j 1).val; rw [(hi t).2]; omega

/-- The point reads the whole of array 19. -/
theorem block19 (c : Dev nD) (t : Fin cfg0.N) : (iblk m c 19 t : Vec F S256x128 .f32) = V m c main_v117 := by
  have hi : ∀ t : Fin cfg0.N, win0_19.index t 0 = 0 ∧ win0_19.index t 1 = 0 :=
    (by decide +kernel : ∀ t : Fin grid0.N, win0_19.index t 0 = 0 ∧ win0_19.index t 1 = 0)
  funext j
  unfold iblk
  rw [View.read_apply]
  show V m c main_v117 _ = V m c main_v117 _
  congr 1
  funext a
  apply Fin.ext
  match a with
  | ⟨0, _⟩ => show win0_19.index t 0 * 256 + 1 * (j 0).val = (j 0).val; rw [(hi t).1]; omega
  | ⟨1, _⟩ => show win0_19.index t 1 * 128 + 1 * (j 1).val = (j 1).val; rw [(hi t).2]; omega

/-- The point reads the whole of array 20. -/
theorem block20 (c : Dev nD) (t : Fin cfg0.N) : (iblk m c 20 t : Vec F S1x128 .f32) = V m c main_v118 := by
  have hi : ∀ t : Fin cfg0.N, win0_20.index t 0 = 0 ∧ win0_20.index t 1 = 0 :=
    (by decide +kernel : ∀ t : Fin grid0.N, win0_20.index t 0 = 0 ∧ win0_20.index t 1 = 0)
  funext j
  unfold iblk
  rw [View.read_apply]
  show V m c main_v118 _ = V m c main_v118 _
  congr 1
  funext a
  apply Fin.ext
  match a with
  | ⟨0, _⟩ => show win0_20.index t 0 * 1 + 1 * (j 0).val = (j 0).val; rw [(hi t).1]; omega
  | ⟨1, _⟩ => show win0_20.index t 1 * 128 + 1 * (j 1).val = (j 1).val; rw [(hi t).2]; omega

/-- What the body computes from the arrays. -/
def bodyOut (x0 : Vec F S48x33024 .f32) (x1 : Vec F S33024x40 .f32) (x2 : Vec F S16x96 .f32) (x3 : Vec F S96x1024 .f32) (x4 : Vec F S1024x1024 .f32) (x5 : Vec F S1024x32 .f32) (x6 : Vec F S48x48 .f32) (x7 : Vec F S1x1024 .f32) (x8 : Vec F S1x1024 .f32) (x9 : Vec F S1x1024 .f32) (x10 : Vec F S1x1024 .f32) (x11 : Vec F S1x32 .f32) (x12 : Vec F S1x8 .f32) (x13 : Vec F S1x8 .f32) (x14 : Vec F S1x8 .f32) (x15 : Vec F S176x256 .f32) (x16 : Vec F S1x256 .f32) (x17 : Vec F S1x256 .f32) (x18 : Vec F S1x256 .f32) (x19 : Vec F S256x128 .f32) (x20 : Vec F S1x128 .f32) : Vec F S16x128 .f32 :=
  k0_pay1 (k0_pay6 (k0_pay5 (k0_pay2 x0 x1) (k0_pay3 x0 x1 x11 x3 x7 x8 x4) (k0_pay4 x9) x10 x5 x12 x13 x14 x6 x2)
    x15 x16 x17 x18 x19 x20) (Scalar.ofBits .f32 0xC2C80000#32)

/-- What the body leaves in the result's buffer. -/
theorem out_body (x0 : Vec F S48x33024 .f32) (x1 : Vec F S33024x40 .f32) (x2 : Vec F S16x96 .f32) (x3 : Vec F S96x1024 .f32) (x4 : Vec F S1024x1024 .f32) (x5 : Vec F S1024x32 .f32) (x6 : Vec F S48x48 .f32) (x7 : Vec F S1x1024 .f32) (x8 : Vec F S1x1024 .f32) (x9 : Vec F S1x1024 .f32) (x10 : Vec F S1x1024 .f32) (x11 : Vec F S1x32 .f32) (x12 : Vec F S1x8 .f32) (x13 : Vec F S1x8 .f32) (x14 : Vec F S1x8 .f32) (x15 : Vec F S176x256 .f32) (x16 : Vec F S1x256 .f32) (x17 : Vec F S1x256 .f32) (x18 : Vec F S1x256 .f32) (x19 : Vec F S256x128 .f32) (x20 : Vec F S1x128 .f32) :
    out0_21 x0 x1 x2 x3 x4 x5 x6 x7 x8 x9 x10 x11 x12 x13 x14 x15 x16 x17 x18 x19 x20 = bodyOut x0 x1 x2 x3 x4 x5 x6 x7 x8 x9 x10 x11 x12 x13 x14 x15 x16 x17 x18 x19 x20 := by
  have hz : (![0, 0] : Fin 2 → Nat) = fun _ => 0 := by decide
  unfold out0_21 bodyOut
  refine (View.canon_unit_zero (S := S16x128) hz _ _).trans ?_
  rw [View.ld_unit_zero (S := S48x33024) hz _ x0,
    View.ld_unit_zero (S := S33024x40) hz _ x1,
    View.ld_unit_zero (S := S1x32) hz _ x11,
    View.ld_unit_zero (S := S96x1024) hz _ x3,
    View.ld_unit_zero (S := S1x1024) hz _ x7,
    View.ld_unit_zero (S := S1x1024) hz _ x8,
    View.ld_unit_zero (S := S1024x1024) hz _ x4,
    View.ld_unit_zero (S := S1x1024) hz _ x9,
    View.ld_unit_zero (S := S1x1024) hz _ x10,
    View.ld_unit_zero (S := S1024x32) hz _ x5,
    View.ld_unit_zero (S := S1x8) hz _ x12,
    View.ld_unit_zero (S := S1x8) hz _ x13,
    View.ld_unit_zero (S := S1x8) hz _ x14,
    View.ld_unit_zero (S := S48x48) hz _ x6,
    View.ld_unit_zero (S := S16x96) hz _ x2,
    View.ld_unit_zero (S := S176x256) hz _ x15,
    View.ld_unit_zero (S := S1x256) hz _ x16,
    View.ld_unit_zero (S := S1x256) hz _ x17,
    View.ld_unit_zero (S := S1x256) hz _ x18,
    View.ld_unit_zero (S := S256x128) hz _ x19,
    View.ld_unit_zero (S := S1x128) hz _ x20]

/-- The result array. -/
def whole (c : Dev nD) : Vec F S16x128 .f32 :=
  bodyOut (V m c main_v111) (V m c main_v40) (V m c main_v112) (V m c main_v64) (V m c main_v67) (V m c main_cst_0) (V m c main_cst) (V m c main_v100) (V m c main_v103) (V m c main_v106) (V m c main_v109) (V m c main_v46) (V m c main_v53) (V m c main_v54) (V m c main_v61) (V m c main_v113) (V m c main_v114) (V m c main_v115) (V m c main_v116) (V m c main_v117) (V m c main_v118)

/-- What the point writes back is the result array. -/
theorem flushed (c : Dev nD) (t : Fin cfg0.N) (hf : (cfg0.win 21).flush t = true) :
    (dats m 0 c).flushed 21 t = ((cfg0.win 21).blk t).view.read (Elt F) (whole m c) := by
  have hi := index21 t
  show (cfg0.win 21).cut (grid0.coords t) ((dats m 0 c).after 21 t) = _
  rw [after0_21, block0, block1, block2, block3, block4, block5, block6, block7, block8, block9, block10, block11, block12, block13, block14, block15, block16, block17, block18, block19, block20, out_body]
  funext j
  rw [View.read_apply]
  have e : (((cfg0.win 21).blk t).view.emb j : S16x128.Idx) = j := by
    funext a
    apply Fin.ext
    match a with
    | ⟨0, _⟩ => show win0_21.index t 0 * 16 + 1 * (j 0).val = (j 0).val; rw [hi.1]; omega
    | ⟨1, _⟩ => show win0_21.index t 1 * 128 + 1 * (j 1).val = (j 1).val; rw [hi.2]; omega
  show whole m c _ = whole m c (((cfg0.win 21).blk t).view.emb j)
  rw [e]

/-- So the result array ends as `whole`: the one point covers it. -/
theorem final (c : Dev nD) : (dats m 0 c).arrAt 21 cfg0.N = whole m c :=
  (dats m 0 c).arrAt_eq_of_cover 21 (whole m c) (flushed m c) fun i => by
    have h0 : (i 0 : ℕ) < 16 := (i 0).isLt
    have h1 : (i 1 : ℕ) < 128 := (i 1).isLt
    have key : ∀ t : Fin cfg0.N, i ∈ ((cfg0.win 21).blk t).view.set := fun t => by
      have hi := index21 t
      show i ∈ ((View.whole main_v119).slice (win0_21.rect t)).set
      rw [View.set_slice_whole, Rect.mem_set_unit]
      intro a
      match a with
      | ⟨0, _⟩ =>
        show win0_21.index t 0 * 16 ≤ (i 0 : ℕ) ∧ (i 0 : ℕ) < win0_21.index t 0 * 16 + 16
        rw [hi.1]; omega
      | ⟨1, _⟩ =>
        show win0_21.index t 1 * 128 ≤ (i 1 : ℕ) ∧ (i 1 : ℕ) < win0_21.index t 1 * 128 + 128
        rw [hi.2]; omega
    exact ⟨⟨0, Nat.zero_lt_one.trans_eq points.symm⟩, flush0_21 _, key _⟩

end Cert.Kernel2Ideal.Own

end
-- ==== Proof.HeadEquation.lean ====
/-
  The last call's result over the extended reals, from its arguments.
-/
module

public import proofs.«01_k».proof.Proof.HeadHost
public import proofs.«01_k».proof.Proof.HeadBody
public import proofs.«01_k».proof.Proof.HeadMath
public import proofs.«01_k».proof.Proof.HeadRegion

@[expose] public section

set_option maxRecDepth 16384

noncomputable section

namespace Cert.Kernel2Ideal.Own

open Cert.Kernel2Ideal Cert.Kernel2Ideal.Gen Cert.Head
open Idealize.ShloMosaic Idealize.ShloMosaic.TcCoe
open Cert.Conv (eps)

variable (m : (ℓ : Loc nD τ sig) → Buf (Elt Ideal) ℓ) (c : Dev nD)

/-- The magnitudes of image `b`, channel `ch`, as one line. -/
def kmags (b : Fin 16) (ch : Fin 3) (k : Fin 33024) : EReal :=
  a0 m c (ix4 b ch ⟨k.val / 129, by omega⟩ ⟨k.val % 129, by omega⟩)

/-- The indicator of ring `u`. -/
def krings (u : Fin 32) (k : Fin 33024) : EReal := ringTable m c (ix2 k u)

/-- The indicator of sector `s`. -/
def ksecs (s : Fin 8) (k : Fin 33024) : EReal := secTable m c (ix2 k s)

/-- The first layer, from the kernel's arguments. -/
abbrev K1 : Layer 3 := Layer.of (a2 m c) (a3 m c) (a4 m c)
/-- The second layer. -/
abbrev K2 : Layer 32 := Layer.of (a5 m c) (a6 m c) (a7 m c)

/-- Every channel's parameters are fit to be folded. -/
def Fits : Prop := (∀ o, (K1 m c).Fit o) ∧ ∀ o, (K2 m c).Fit o

/-- The sums over the bins. -/
def sums : S96x40.Idx → EReal := k0_pay2 (F := Ideal) (in0 m c) (in1 m c)

theorem sums_ring (b : Fin 16) (ch : Fin 3) (u : Fin 32) :
    sums m c (ix2 ⟨16 * ch.val + b.val, by omega⟩ ⟨u.val, by omega⟩) = total (kmags m c b ch) (krings m c u) := by
  refine (bins_low (in0 m c) (in1 m c) ⟨16 * ch.val + b.val, by omega⟩ ⟨u.val, by omega⟩).trans ?_
  refine Finset.sum_congr rfl fun k _ => ?_
  rw [in0_apply, in1_ring]
  rfl

theorem sums_sec (b : Fin 16) (ch : Fin 3) (s : Fin 8) :
    sums m c (ix2 ⟨16 * ch.val + b.val, by omega⟩ ⟨32 + s.val, by omega⟩) = total (kmags m c b ch) (ksecs m c s) := by
  refine (bins_low (in0 m c) (in1 m c) ⟨16 * ch.val + b.val, by omega⟩ ⟨32 + s.val, by omega⟩).trans ?_
  refine Finset.sum_congr rfl fun k _ => ?_
  rw [in0_apply, in1_sec]
  rfl

theorem sums_square (b : Fin 16) (ch : Fin 3) (s : Fin 8) :
    sums m c (ix2 ⟨48 + (16 * ch.val + b.val), by omega⟩ ⟨32 + s.val, by omega⟩)
      = ∑ k, kmags m c b ch k * kmags m c b ch k * ksecs m c s k := by
  refine (bins_high (in0 m c) (in1 m c) ⟨16 * ch.val + b.val, by omega⟩ ⟨32 + s.val, by omega⟩).trans ?_
  refine Finset.sum_congr rfl fun k _ => ?_
  rw [in0_apply, in1_sec]
  rfl

/-- The rings' means are the means. -/
theorem ring_mean (b : Fin 16) (ch : Fin 3) (u : Fin 32) :
    ringRaw (sums m c) (in11 m c) ⟨16 * ch.val + b.val, by omega⟩ u = radial (kmags m c b ch) (krings m c u) := by
  rw [← radial_eq, ← sums_ring, ringRaw, in11_apply]
  rfl

/-- The sectors' means are the means. -/
theorem sec_mean (b : Fin 16) (ch : Fin 3) (s : Fin 8) :
    meanRaw (sums m c) (in12 m c) ⟨16 * ch.val + b.val, by omega⟩ s = mean (kmags m c b ch) (ksecs m c s) := by
  rw [← mean_eq, ← sums_sec, meanRaw, in12_apply]
  rfl

/-- The sectors' deviations are the deviations. -/
theorem sec_spread (b : Fin 16) (ch : Fin 3) (s : Fin 8) :
    spreadRaw (sums m c) (in12 m c) (in13 m c) (in14 m c) ⟨16 * ch.val + b.val, by omega⟩ s
      = spread (kmags m c b ch) (ksecs m c s) := by
  rw [← spread_eq, ← sums_square, spreadRaw, sec_mean, in13_apply, in14_apply]
  rfl

/-- The sectors' values, sector by sector. -/
theorem sec_values (b : Fin 16) (z : Fin 48) :
    ∑ k : Fin 48, sidesRaw (sums m c) (in12 m c) (in13 m c) (in14 m c) b k * in6 m c (ix2 k z)
      = sectors (kmags m c b) (ksecs m c) z := by
  have e : ∀ k : Fin 48, in6 m c (ix2 k z) = if z.val = 6 * (k.val % 8) + k.val / 8 then 1 else 0 := fun k => in6_apply m c k z
  simp only [e]
  rw [pick]
  have d8 : ∀ p q : ℕ, q < 8 → (p * 8 + q) / 8 = p := fun p q h => by omega
  have m8 : ∀ p q : ℕ, q < 8 → (p * 8 + q) % 8 = q := fun p q h => by omega
  have h1 := d8 (z.val % 6) (z.val / 6) (by omega)
  have h2 := m8 (z.val % 6) (z.val / 6) (by omega)
  unfold sectors
  by_cases h : z.val % 6 < 3
  · rw [if_pos h, sidesRaw_low _ _ _ _ _ _ (by simp only; omega), ← sec_mean]
    exact congrArg₂ (meanRaw (sums m c) (in12 m c)) (Fin.ext (by simp only [h1]; omega)) (Fin.ext h2)
  · rw [if_neg h, sidesRaw_high _ _ _ _ _ _ (by simp only; omega), ← sec_spread]
    exact congrArg₂ (spreadRaw (sums m c) (in12 m c) (in13 m c) (in14 m c)) (Fin.ext (by simp only [h1]; omega))
      (Fin.ext h2)

/-- The first layer. -/
theorem first_layer (hF : Fits m c) (b : Fin 16) (o t : Fin 32) :
    lineRaw (sums m c) (in11 m c) (in3 m c) (in7 m c) (in8 m c) b ⟨o.val * 32 + t.val, by omega⟩
      = (K1 m c).at (fun ch u => radial (kmags m c b ch) (krings m c u)) o t := by
  have e := taps_eq (N := 96) (n := 3) rfl (fun ch u => radial (kmags m c b ch) (krings m c u)) ((K1 m c).w o) t
    (fun k => ringRaw (sums m c) (in11 m c) ⟨16 * (k.val / 32) + b.val, by omega⟩ ⟨k.val % 32, by omega⟩)
    (fun k => in3 m c (ix2 k ⟨o.val * 32 + t.val, by omega⟩))
    (fun ch u k hk => by
      refine Eq.trans ?_ (ring_mean m c b ch u)
      exact congrArg₂ (ringRaw (sums m c) (in11 m c)) (Fin.ext (by simp only; omega)) (Fin.ext (by simp only; omega)))
    (fun ch u k hk => by
      refine Eq.trans ?_ (in3_apply m c ch u o t)
      exact congrArg (fun k => in3 m c (ix2 k ⟨o.val * 32 + t.val, by omega⟩)) (Fin.ext hk))
  unfold lineRaw Layer.at
  rw [e, ← Layer.norm_eq _ o (hF.1 o), in7_apply, in8_apply]
  rfl

/-- The second layer's sums. -/
theorem second_sums (hF : Fits m c) (b : Fin 16) (o t : Fin 32) :
    (k0_pay3 (F := Ideal) (in0 m c) (in1 m c) (in11 m c) (in3 m c) (in7 m c) (in8 m c) (in4 m c) : S16x1024.Idx → EReal)
        (ix2 b ⟨o.val * 32 + t.val, by omega⟩)
      = taps ((K2 m c).w o) ((K1 m c).at fun ch u => radial (kmags m c b ch) (krings m c u)) t.val := by
  refine (lines (in0 m c) (in1 m c) (in11 m c) (in3 m c) (in7 m c) (in8 m c) (in4 m c) (sums m c) rfl b
    ⟨o.val * 32 + t.val, by omega⟩).trans ?_
  exact taps_eq (N := 1024) (n := 32) rfl _ _ t _ _
    (fun ch u k hk => by
      refine Eq.trans ?_ (first_layer m c hF b ch u)
      exact congrArg (lineRaw (sums m c) (in11 m c) (in3 m c) (in7 m c) (in8 m c) b) (Fin.ext hk))
    (fun ch u k hk => by
      refine Eq.trans ?_ (in4_apply m c ch u o t)
      exact congrArg (fun k => in4 m c (ix2 k ⟨o.val * 32 + t.val, by omega⟩)) (Fin.ext hk))

/-- Both layers and the mean over the line. -/
theorem ring_values (hF : Fits m c) (b : Fin 16) (o : Fin 32) (s : S1x1024.Idx → EReal) (hs : s = k0_pay4 (F := Ideal) (in9 m c)) :
    ∑ k : Fin 1024, max ((k0_pay3 (F := Ideal) (in0 m c) (in1 m c) (in11 m c) (in3 m c) (in7 m c) (in8 m c) (in4 m c)
        : S16x1024.Idx → EReal) (ix2 b k) * s (ix2 0 k) + in10 m c (ix2 0 k)) 0 * in5 m c (ix2 k o)
      = lineMean (K1 m c) (K2 m c) (fun ch u => radial (kmags m c b ch) (krings m c u)) o := by
  have e : ∀ k : Fin 1024, in5 m c (ix2 k o) = if k.val / 32 = o.val then Ideal.ofBits .f32 0x3D000000#32 else 0 :=
    fun k => in5_apply m c k o
  simp only [e]
  rw [average fun k => max ((k0_pay3 (F := Ideal) (in0 m c) (in1 m c) (in11 m c) (in3 m c) (in7 m c) (in8 m c) (in4 m c)
        : S16x1024.Idx → EReal) (ix2 b k) * s (ix2 0 k) + in10 m c (ix2 0 k)) 0]
  have key : ∀ t : Fin 32, max ((k0_pay3 (F := Ideal) (in0 m c) (in1 m c) (in11 m c) (in3 m c) (in7 m c) (in8 m c) (in4 m c)
        : S16x1024.Idx → EReal) (ix2 b ⟨o.val * 32 + t.val, by omega⟩) * s (ix2 0 ⟨o.val * 32 + t.val, by omega⟩)
        + in10 m c (ix2 0 ⟨o.val * 32 + t.val, by omega⟩)) 0
      = (K2 m c).at ((K1 m c).at fun ch u => radial (kmags m c b ch) (krings m c u)) o t := fun t => by
    conv_rhs => unfold Layer.at
    rw [second_sums m c hF, hs, same_row, in9_apply, in10_apply, ← Layer.norm_eq _ o (hF.2 o)]
    rfl
  exact congrArg (fun z => Ideal.div z (Ideal.ofBits .f32 0x42000000#32)) (Finset.sum_congr rfl fun t _ => key t)

/-- The result array over the extended reals. -/
theorem whole_apply (hF : Fits m c) (b : Fin 16) (j : Fin 128) :
    (whole m c : S16x128.Idx → EReal) (ix2 b j)
      = head (fun o q => a8 m c (ix2 o q)) (fun o => a9 m c (ix1 o)) (fun o => a10 m c (ix1 o)) (fun o => a11 m c (ix1 o))
          (fun o q => a12 m c (ix2 o q)) (fun o => a13 m c (ix1 o))
          (features (fun o => a1 m c (ix3 b o 0))
            (lineMean (K1 m c) (K2 m c) fun ch u => radial (kmags m c b ch) (krings m c u))
            (sectors (kmags m c b) (ksecs m c))) j := by
  unfold whole bodyOut head
  refine (limited _ b j).trans (congrArg limit ?_)
  refine (tail _ (in15 m c) (in16 m c) (in17 m c) (in18 m c) (in19 m c) (in20 m c) b j).trans ?_
  have ef : ∀ q : Fin 176, (k0_pay5 (F := Ideal) (sums m c)
      (k0_pay3 (F := Ideal) (in0 m c) (in1 m c) (in11 m c) (in3 m c) (in7 m c) (in8 m c) (in4 m c))
      (k0_pay4 (F := Ideal) (in9 m c)) (in10 m c) (in5 m c) (in12 m c) (in13 m c) (in14 m c) (in6 m c) (in2 m c)
        : S16x176.Idx → EReal) (ix2 b q)
      = features (fun o => a1 m c (ix3 b o 0))
            (lineMean (K1 m c) (K2 m c) fun ch u => radial (kmags m c b ch) (krings m c u))
            (sectors (kmags m c b) (ksecs m c)) q := fun q => by
    refine (sides (sums m c) _ _ (in10 m c) (in5 m c) (in12 m c) (in13 m c) (in14 m c) (in6 m c) (in2 m c) b q).trans ?_
    have e1 : (fun o => in2 m c (ix2 b o)) = fun o => a1 m c (ix3 b o 0) := funext fun o => in2_apply m c b o
    have e2 := funext fun o => ring_values m c hF b o _ rfl
    have e3 := funext fun z => sec_values m c b z
    rw [e1, e2, e3]
  have en : ∀ (g be h : Fin 256 → EReal), normedRaw g be h = normed g be h := fun g be h => funext fun i => normed_eq g be h i
  rw [en]
  have e15 : (fun (o : Fin 256) (i : Fin 176) => in15 m c (ix2 i o)) = fun o i => a8 m c (ix2 o i) :=
    funext fun o => funext fun i => in15_apply m c i o
  have e16 : (fun o => in16 m c (ix2 0 o)) = fun o => a9 m c (ix1 o) := funext fun o => in16_apply m c o
  have e17 : (fun o => in17 m c (ix2 0 o)) = fun o => a10 m c (ix1 o) := funext fun o => in17_apply m c o
  have e18 : (fun o => in18 m c (ix2 0 o)) = fun o => a11 m c (ix1 o) := funext fun o => in18_apply m c o
  have e19 : (fun (o : Fin 128) (i : Fin 256) => in19 m c (ix2 i o)) = fun o i => a12 m c (ix2 o i) :=
    funext fun o => funext fun i => in19_apply m c i o
  have e20 : (fun o => in20 m c (ix2 0 o)) = fun o => a13 m c (ix1 o) := funext fun o => in20_apply m c o
  rw [e15, e16, e17, e18, e19, e20]
  refine congrArg (fun y => dense _ _ (normed _ _ (dense _ _ y)) j) (funext fun q => ?_)
  exact ef q

end Cert.Kernel2Ideal.Own

end
-- ==== Proof.HeadPre.lean ====
/-
  The last call's precondition read: every channel's bias, scale and mean are real and its variance is above `-eps`.
-/
module

public import proofs.«01_k».proof.Pre_parameters2_ok
public import proofs.«01_k».proof.Proof.Pre
public import proofs.«01_k».proof.Proof.HeadMath

@[expose] public section

noncomputable section

namespace Cert.Pre_parameters2_ok

open Idealize.ShloMosaic Cert.Head
open Cert.Pre_parameters_ok (bit of_bit)

/-- The side conditions of the precondition's operations. -/
instance facts : Facts where
  slices_S4x32_S1x32_0_0 := by decide
  shapeCasts_S1x32_S32 := by decide
  slices_S4x32_S1x32_1_0 := by decide
  slices_S4x32_S1x32_2_0 := by decide
  slices_S4x32_S1x32_3_0 := by decide
  bcast_S_S32 := by decide
  concatenates_S32_S32_S64_d0 := by decide

/-- The precondition's element `k`: the test of one channel of one of the two layers. -/
theorem fn_apply (x0 : S16x3x256x129.Idx → EReal) (x1 : S16x96x1.Idx → EReal) (x2 : S32x3x3.Idx → EReal) (x3 : S32.Idx → EReal)
    (x4 : S4x32.Idx → EReal) (x5 : S32x32x3.Idx → EReal) (x6 : S32.Idx → EReal) (x7 : S4x32.Idx → EReal) (x8 : S256x176.Idx → EReal)
    (x9 x10 x11 : S256.Idx → EReal) (x12 : S128x256.Idx → EReal) (x13 : S128.Idx → EReal) (k : Fin 64) :
    (fn (F := Ideal) x0 x1 x2 x3 x4 x5 x6 x7 x8 x9 x10 x11 x12 x13 : S64.Idx → BitVec 1) (ix1 k)
      = if h : k.val < 32 then bit (x3 (ix1 ⟨k.val, h⟩)) (x4 (ix2 0 ⟨k.val, h⟩)) (x4 (ix2 2 ⟨k.val, h⟩)) (x4 (ix2 3 ⟨k.val, h⟩))
        else bit (x6 (ix1 ⟨k.val - 32, by omega⟩)) (x7 (ix2 0 ⟨k.val - 32, by omega⟩)) (x7 (ix2 2 ⟨k.val - 32, by omega⟩))
          (x7 (ix2 3 ⟨k.val - 32, by omega⟩)) := by
  pointwise [fn, fn_part1, fn_part2]
  rfl

/-- Under the precondition every channel of both layers is fit to be folded. -/
theorem fit (x0 : S16x3x256x129.Idx → EReal) (x1 : S16x96x1.Idx → EReal) (x2 : S32x3x3.Idx → EReal) (x3 : S32.Idx → EReal)
    (x4 : S4x32.Idx → EReal) (x5 : S32x32x3.Idx → EReal) (x6 : S32.Idx → EReal) (x7 : S4x32.Idx → EReal) (x8 : S256x176.Idx → EReal)
    (x9 x10 x11 : S256.Idx → EReal) (x12 : S128x256.Idx → EReal) (x13 : S128.Idx → EReal)
    (h : fn (F := Ideal) x0 x1 x2 x3 x4 x5 x6 x7 x8 x9 x10 x11 x12 x13 = fun _ => 1#1) :
    (∀ o, (Layer.of x2 x3 x4).Fit o) ∧ (∀ o, (Layer.of x5 x6 x7).Fit o) := by
  have key := fun k => (fn_apply x0 x1 x2 x3 x4 x5 x6 x7 x8 x9 x10 x11 x12 x13 k).symm.trans (congrFun h (ix1 k))
  refine ⟨fun o => ?_, fun o => ?_⟩
  · have k := key ⟨o.val, by omega⟩
    rw [dif_pos o.isLt] at k
    exact of_bit _ _ _ _ k
  · have k := key ⟨32 + o.val, by omega⟩
    rw [dif_neg (by simp only; omega)] at k
    have e : 32 + o.val - 32 = o.val := by omega
    simp only [e] at k
    exact of_bit _ _ _ _ k

end Cert.Pre_parameters2_ok

end
-- ==== Proof.HeadRef.lean ====
/-
  What the last call's reference computes: each of its named intermediate arrays, element by element, in the words of
  HeadSpec.lean.
-/
module

public import proofs.«01_k».proof.Proof.Gen.Reference2Ideal.Run
public import proofs.«01_k».proof.Proof.HeadSpec
public import Idealize.ShloMosaic.Lib.Pointwise

@[expose] public section

set_option maxRecDepth 16384

noncomputable section

namespace Cert.Reference2Ideal.Own

open Cert.Reference2Ideal Cert.Reference2Ideal.Value Cert.Reference2Ideal.Gen Cert.Head
open Idealize.ShloMosaic Idealize.ShloMosaic.TcCoe

variable (V0 : Valuation τ sig (Elt Ideal))

/-- The word zero, as a number. -/
theorem zero_word : (FloatOps.sitofp (F := Ideal) FTy.f32 0#32) = (0 : EReal) := by
  show (((0#32).toInt : ℝ) : EReal) = 0
  simp

/-- The magnitudes of image `b`, channel `c`, as one line. -/
def mags (b : Fin 16) (c : Fin 3) (k : Fin 33024) : EReal :=
  (V0 (Proc.devRef .tc main_arg0) : S16x3x256x129.Idx → EReal) (ix4 b c ⟨k.val / 129, by omega⟩ ⟨k.val % 129, by omega⟩)

/-- Ring `u`'s indicator. -/
def rings (u : Fin 32) (k : Fin 33024) : EReal := (res_main_v39 V0 : S33024x32.Idx → EReal) (ix2 k u)

/-- Sector `s`'s indicator. -/
def secs (s : Fin 8) (k : Fin 33024) : EReal := (res_main_v48 V0 : S33024x8.Idx → EReal) (ix2 k s)

/-- The first layer over the rings. -/
def L1 : Layer 3 :=
  Layer.of (V0 (Proc.devRef .tc main_arg2)) (V0 (Proc.devRef .tc main_arg3)) (V0 (Proc.devRef .tc main_arg4))

/-- The second layer over the rings. -/
def L2 : Layer 32 :=
  Layer.of (V0 (Proc.devRef .tc main_arg5)) (V0 (Proc.devRef .tc main_arg6)) (V0 (Proc.devRef .tc main_arg7))

/-- The flattened magnitudes. -/
theorem flat (b : Fin 16) (c : Fin 3) (k : Fin 33024) :
    (res_main_v38 V0 : S16x3x33024.Idx → EReal) (ix3 b c k) = mags V0 b c k := by
  pointwise [res_main_v38]
  rfl

/-- The sectors' counts. -/
theorem counts (s : Fin 8) : (res_main_v49 V0 : S8.Idx → EReal) (ix1 s) = count (secs V0 s) := by
  pointwise [res_main_v49]
  rfl

/-- The sectors' means. -/
theorem means (b : Fin 16) (c : Fin 3) (s : Fin 8) :
    (res_main_v58 V0 : S16x3x8.Idx → EReal) (ix3 b c s) = mean (mags V0 b c) (secs V0 s) := by
  pointwise [res_main_v58]
  simp only [flat, counts]
  exact if_congr Iff.rfl rfl Ideal.ofBits_zero_f32

/-- The rings' means, between zeros. -/
theorem pad_rings (b : Fin 16) (c : Fin 3) (T : Fin 34) :
    (res_main_v80 V0 : S16x3x34.Idx → EReal) (ix3 b c T) = line (fun u => radial (mags V0 b c) (rings V0 u)) T := by
  pointwise [res_main_v80]
  simp only [flat]
  unfold line
  refine dite_congr (propext (by omega)) (fun h => ?_) (fun h => zero_word)
  show min (Ideal.ofBits .f32 0x49742400#32) (max (Ideal.ofBits .f32 0#32) _) = _
  rw [Ideal.ofBits_zero_f32]
  rfl

theorem pad_one (b : Fin 16) (o : Fin 32) (T : Fin 34) :
    (res_main_v124 V0 : S16x32x34.Idx → EReal) (ix3 b o T)
      = line ((L1 V0).at (fun c u => radial (mags V0 b c) (rings V0 u)) o) T := by
  pointwise [res_main_v124]
  simp only [pad_rings]
  rw [line]
  exact dite_congr (propext (by omega)) (fun h => rfl) (fun h => zero_word)

/-- Three arrays side by side. -/
theorem side (x : S16x96.Idx → EReal) (y : S16x32.Idx → EReal) (z : S16x48.Idx → EReal) (b : Fin 16) (q : Fin 176) :
    (concatenate S16x176 1 [⟨S16x96, x⟩, ⟨S16x32, y⟩, ⟨S16x48, z⟩] concatenates_S16x96_S16x32_S16x48_S16x176_d1 :
        S16x176.Idx → EReal) (ix2 b q)
      = features (fun o => x (ix2 b o)) (fun o => y (ix2 b o)) (fun o => z (ix2 b o)) q := by
  pointwise
  rfl

/-- Two arrays one behind the other, flattened. -/
theorem behind (x y : S16x8x1x3.Idx → EReal) (b : Fin 16) (z : Fin 48) :
    (shapeCast S16x48 (concatenate S16x8x2x3 2 [⟨S16x8x1x3, x⟩, ⟨S16x8x1x3, y⟩] concatenates_S16x8x1x3_S16x8x1x3_S16x8x2x3_d2)
        shapeCasts_S16x8x2x3_S16x48 : S16x48.Idx → EReal) (ix2 b z)
      = if z.val % 6 < 3 then x (ix4 b ⟨z.val / 6, by omega⟩ 0 ⟨z.val % 3, by omega⟩)
        else y (ix4 b ⟨z.val / 6, by omega⟩ 0 ⟨z.val % 3, by omega⟩) := by
  pointwise
  by_cases h : z.val % 6 < 3
  · rw [dif_pos (by omega), if_pos h]
    exact congrArg (fun s => x (ix4 b _ s _)) (Fin.ext (by simp only; omega))
  · rw [dif_neg (by omega), if_neg h]
    exact congrArg (fun s => y (ix4 b _ s _)) (Fin.ext (by simp only; omega))

/-- All 176 features. -/
theorem feats (b : Fin 16) (q : Fin 176) :
    (res_main_v172 V0 : S16x176.Idx → EReal) (ix2 b q)
      = features (fun o => (V0 (Proc.devRef .tc main_arg1) : S16x96x1.Idx → EReal) (ix3 b o 0))
          (lineMean (L1 V0) (L2 V0) (fun c u => radial (mags V0 b c) (rings V0 u)))
          (sectors (mags V0 b) (secs V0)) q := by
  unfold res_main_v172
  refine (side _ _ _ b q).trans ?_
  refine congrFun (congr (congr (congrArg features ?_) ?_) ?_) q
  · funext o
    pointwise
  · funext o
    pointwise
    simp only [pad_one]
    rfl
  · funext z
    refine (behind _ _ b z).trans ?_
    refine if_congr Iff.rfl ?_ ?_
    · pointwise
      exact means V0 b _ _
    · pointwise
      simp only [flat, counts, means]
      rfl

/-- The first sums, before the normalisation. -/
abbrev sums : S16x256.Idx → EReal := res_main_v177 V0

/-- The first sums over the features. -/
theorem first (b : Fin 16) (i : Fin 256) :
    sums V0 (ix2 b i)
      = dense (fun o q => (V0 (Proc.devRef .tc main_arg8) : S256x176.Idx → EReal) (ix2 o q))
          (fun o => (V0 (Proc.devRef .tc main_arg9) : S256.Idx → EReal) (ix1 o))
          (fun q => (res_main_v172 V0 : S16x176.Idx → EReal) (ix2 b q)) i := by
  pointwise [res_main_v177]
  rfl

/-- Their mean. -/
theorem first_mean (b : Fin 16) :
    (res_main_v181 V0 : S16x1.Idx → EReal) (ix2 b 0)
      = avg (fun i => sums V0 (ix2 b i)) := by
  pointwise [res_main_v181]
  rfl

/-- Their distance from it. -/
theorem first_off (b : Fin 16) (i : Fin 256) :
    (res_main_v183 V0 : S16x256.Idx → EReal) (ix2 b i)
      = sums V0 (ix2 b i) - avg (fun i => sums V0 (ix2 b i)) := by
  pointwise [res_main_v183]
  rw [first_mean]

/-- The reference's result. -/
theorem result (b : Fin 16) (j : Fin 128) :
    (val5 V0 (Proc.devRef .tc main_v208) : S16x128.Idx → EReal) (ix2 b j)
      = head (fun o q => (V0 (Proc.devRef .tc main_arg8) : S256x176.Idx → EReal) (ix2 o q))
          (fun o => (V0 (Proc.devRef .tc main_arg9) : S256.Idx → EReal) (ix1 o))
          (fun o => (V0 (Proc.devRef .tc main_arg10) : S256.Idx → EReal) (ix1 o))
          (fun o => (V0 (Proc.devRef .tc main_arg11) : S256.Idx → EReal) (ix1 o))
          (fun o q => (V0 (Proc.devRef .tc main_arg12) : S128x256.Idx → EReal) (ix2 o q))
          (fun o => (V0 (Proc.devRef .tc main_arg13) : S128.Idx → EReal) (ix1 o))
          (features (fun o => (V0 (Proc.devRef .tc main_arg1) : S16x96x1.Idx → EReal) (ix3 b o 0))
            (lineMean (L1 V0) (L2 V0) (fun c u => radial (mags V0 b c) (rings V0 u)))
            (sectors (mags V0 b) (secs V0))) j := by
  have e : (fun q => (res_main_v172 V0 : S16x176.Idx → EReal) (ix2 b q)) = _ := funext (feats V0 b)
  rw [← e]
  have e' : (fun i => sums V0 (ix2 b i)) = _ := funext (first V0 b)
  rw [head, ← e', val5_main_v208]
  pointwise
  simp only [first_off, first_mean]
  rfl

end Cert.Reference2Ideal.Own

end
-- ==== Proof.WaveSpec.lean ====
/-
  The spectrum call's mathematics: the transform of an image along its rows and then along its columns, the magnitudes,
  their logarithms and the phases, each of the two upsampled along the rows.
-/
module

public import Idealize.ShloMosaic.PureOps.Ideal
public import Idealize.ShloMosaic.Lib.Pointwise

@[expose] public section

noncomputable section

namespace Cert.Wave

open Idealize.ShloMosaic

/-- An image's value, limited to the numbers from -10 to 10. -/
def limited (x : EReal) : EReal := min (Ideal.ofBits .f32 0x41200000#32) (max (Ideal.ofBits .f32 0xC1200000#32) x)

/-- A row's sums against the columns of a table. -/
def along (x : Fin 256 → Fin 256 → EReal) (w : Fin 256 → Fin 129 → EReal) (h : Fin 256) (k : Fin 129) : EReal :=
  ∑ j, x h j * w j k

/-- The transform's real part from the rows' sums `a` and `b`. -/
def real (a b : Fin 256 → Fin 129 → EReal) (ch sh : Fin 256 → Fin 256 → EReal) (g : Fin 256) (k : Fin 129) : EReal :=
  (∑ h, a h k * ch g h) + ∑ h, b h k * sh g h

/-- Whether a frequency is its own conjugate along an axis. -/
def own (n : ℕ) : Prop := n = 0 ∨ n = 128

instance (n : ℕ) : Decidable (own n) := inferInstanceAs (Decidable (_ ∨ _))

/-- The transform's imaginary part from the rows' sums, zero at the four frequencies that are their own conjugates. -/
def imag (a b : Fin 256 → Fin 129 → EReal) (ch sh : Fin 256 → Fin 256 → EReal) (g : Fin 256) (k : Fin 129) : EReal :=
  if own g.val ∧ own k.val then 0 else (∑ h, b h k * ch g h) + ∑ h, a h k * -sh g h

/-- A magnitude. -/
def mag (re im : EReal) : EReal :=
  min (Ideal.ofBits .f32 0x49742400#32) (max (Ideal.ofBits .f32 0x322BCC77#32) (Ideal.sqrt (re * re + im * im)))

/-- A magnitude's logarithm. -/
def loud (re im : EReal) : EReal :=
  min (Ideal.ofBits .f32 0x41A00000#32) (max (Ideal.ofBits .f32 0xC1A00000#32) (Ideal.log1p (mag re im)))

/-- A phase, in half turns. -/
def phase (re im : EReal) : EReal :=
  min 1
    (max (Ideal.ofBits .f32 0xBF800000#32) (Ideal.div (Ideal.atan2 im re) (Ideal.ofBits .f32 0x40490FDB#32)))

section
variable (x : (⟨4, ![16, 3, 256, 256]⟩ : Shape).Idx → EReal) (cw sw : (⟨2, ![256, 129]⟩ : Shape).Idx → EReal)
  (ch sh : (⟨2, ![256, 256]⟩ : Shape).Idx → EReal) (u : (⟨2, ![129, 256]⟩ : Shape).Idx → EReal)

/-- The sums along the rows of image `b`, channel `c`, against the cosines. -/
def cosines (b : Fin 16) (c : Fin 3) : Fin 256 → Fin 129 → EReal :=
  along (fun h j => limited (x (ix4 b c h j))) fun j k => cw (ix2 j k)

/-- The sums along the rows against the sines, their sign changed. -/
def sines (b : Fin 16) (c : Fin 3) : Fin 256 → Fin 129 → EReal :=
  along (fun h j => limited (x (ix4 b c h j))) fun j k => -sw (ix2 j k)

/-- The transform's real part. -/
def re (b : Fin 16) (c : Fin 3) : Fin 256 → Fin 129 → EReal :=
  real (cosines x cw b c) (sines x sw b c) (fun g h => ch (ix2 g h)) fun g h => sh (ix2 g h)

/-- The transform's imaginary part. -/
def im (b : Fin 16) (c : Fin 3) : Fin 256 → Fin 129 → EReal :=
  imag (cosines x cw b c) (sines x sw b c) (fun g h => ch (ix2 g h)) fun g h => sh (ix2 g h)

/-- The magnitudes. -/
def mags : (⟨4, ![16, 3, 256, 129]⟩ : Shape).Idx → EReal := fun i =>
  mag (re x cw sw ch sh (i 0) (i 1) (i 2) (i 3)) (im x cw sw ch sh (i 0) (i 1) (i 2) (i 3))

/-- The magnitudes' logarithms, upsampled along the rows with the weights `u`. -/
def louds : (⟨4, ![16, 3, 256, 256]⟩ : Shape).Idx → EReal := fun i =>
  ∑ k, loud (re x cw sw ch sh (i 0) (i 1) (i 2) k) (im x cw sw ch sh (i 0) (i 1) (i 2) k) * u (ix2 k (i 3))

/-- The phases, upsampled the same way. -/
def phases : (⟨4, ![16, 3, 256, 256]⟩ : Shape).Idx → EReal := fun i =>
  ∑ k, phase (re x cw sw ch sh (i 0) (i 1) (i 2) k) (im x cw sw ch sh (i 0) (i 1) (i 2) k) * u (ix2 k (i 3))

end

end Cert.Wave

end
-- ==== Proof.WaveTableDef.lean ====
/-
  The spectrum call's table of 256 by 129 numbers, flattened: one at the four frequencies that are their own conjugates,
  zero elsewhere. This module says what the table should hold; the modules that import it evaluate the test.
-/
module

public import proofs.«01_k».proof.Kernel3Ideal
public import proofs.«01_k».proof.Proof.MaskDef

@[expose] public section

noncomputable section

namespace Cert.Kernel3Ideal.Own

/-- Entry `i` of the table, row `i / 129`, column `i % 129`. -/
def ownOk (i : Nat) : Bool :=
  lit0t i == (bif (i / 129 == 0 || i / 129 == 128) && (i % 129 == 0 || i % 129 == 128) then 0x3F800000#32 else 0#32)

end Cert.Kernel3Ideal.Own

end
-- ==== Proof.WaveTable1.lean ====
/-
  The spectrum call's table tested, half 1 of 2.
-/
module

public import proofs.«01_k».proof.Proof.WaveTableDef

@[expose] public section

noncomputable section

namespace Cert.Kernel3Ideal.Own

open Cert.KernelIdeal.Own (allFrom)

theorem own_0 : allFrom ownOk 12 0 = true := by decide +kernel

theorem own_4096 : allFrom ownOk 12 4096 = true := by decide +kernel

theorem own_8192 : allFrom ownOk 12 8192 = true := by decide +kernel

theorem own_12288 : allFrom ownOk 12 12288 = true := by decide +kernel

end Cert.Kernel3Ideal.Own

end
-- ==== Proof.WaveTable2.lean ====
/-
  The spectrum call's table tested, half 2 of 2.
-/
module

public import proofs.«01_k».proof.Proof.WaveTableDef

@[expose] public section

noncomputable section

namespace Cert.Kernel3Ideal.Own

open Cert.KernelIdeal.Own (allFrom)

theorem own_16384 : allFrom ownOk 12 16384 = true := by decide +kernel

theorem own_20480 : allFrom ownOk 12 20480 = true := by decide +kernel

theorem own_24576 : allFrom ownOk 12 24576 = true := by decide +kernel

theorem own_28672 : allFrom ownOk 12 28672 = true := by decide +kernel

theorem own_32768 : allFrom ownOk 8 32768 = true := by decide +kernel

end Cert.Kernel3Ideal.Own

end
-- ==== Proof.WaveTable.lean ====
/-
  Every entry of the spectrum call's table.
-/
module

public import proofs.«01_k».proof.Proof.WaveTable1
public import proofs.«01_k».proof.Proof.WaveTable2

@[expose] public section

noncomputable section

namespace Cert.Kernel3Ideal.Own

open Cert.KernelIdeal.Own (of_allFrom)

theorem lit0t_eq (i : Nat) (h : i < 33024) :
    lit0t i = bif (i / 129 == 0 || i / 129 == 128) && (i % 129 == 0 || i % 129 == 128) then 0x3F800000#32 else 0#32 := by
  have key : ownOk i = true := by
    by_cases h0 : i < 4096
    · exact of_allFrom _ _ _ own_0 i (by omega) (by omega)
    by_cases h4096 : i < 8192
    · exact of_allFrom _ _ _ own_4096 i (by omega) (by omega)
    by_cases h8192 : i < 12288
    · exact of_allFrom _ _ _ own_8192 i (by omega) (by omega)
    by_cases h12288 : i < 16384
    · exact of_allFrom _ _ _ own_12288 i (by omega) (by omega)
    by_cases h16384 : i < 20480
    · exact of_allFrom _ _ _ own_16384 i (by omega) (by omega)
    by_cases h20480 : i < 24576
    · exact of_allFrom _ _ _ own_20480 i (by omega) (by omega)
    by_cases h24576 : i < 28672
    · exact of_allFrom _ _ _ own_24576 i (by omega) (by omega)
    by_cases h28672 : i < 32768
    · exact of_allFrom _ _ _ own_28672 i (by omega) (by omega)
    exact of_allFrom _ _ _ own_32768 i (by omega) (by omega)
  exact eq_of_beq key

end Cert.Kernel3Ideal.Own

end
-- ==== Proof.WaveHost.lean ====
/-
  The arrays the spectrum call's region finds, as functions of its arguments, element by element.
-/
module

public import proofs.«01_k».proof.Proof.Gen.Kernel3Ideal.Value
public import proofs.«01_k».proof.Proof.WaveSpec
public import proofs.«01_k».proof.Proof.WaveTable
public import Idealize.ShloMosaic.Lib.IdealHost
public import Idealize.ShloMosaic.Lib.Claim
public import Idealize.ShloMosaic.Lib.Pointwise

@[expose] public section

set_option maxRecDepth 16384

noncomputable section

namespace Cert.Kernel3Ideal.Own

open Cert.Kernel3Ideal Cert.Kernel3Ideal.Gen Cert.Wave
open Idealize.ShloMosaic Idealize.ShloMosaic.TcCoe Idealize.ShloMosaic.Tactic

variable (m : (ℓ : Loc nD τ sig) → Buf (Elt Ideal) ℓ) (c : Dev nD)

/-- Argument 0 on device `c`: the images. -/
abbrev a0 : S16x3x256x256.Idx → EReal := m ((c : Thread nD τ).loc main_arg0)
/-- Argument 1: the cosines along a row. -/
abbrev a1 : S256x129.Idx → EReal := m ((c : Thread nD τ).loc main_arg1)
/-- Argument 2: the sines along a row. -/
abbrev a2 : S256x129.Idx → EReal := m ((c : Thread nD τ).loc main_arg2)
/-- Argument 3: the cosines along a column. -/
abbrev a3 : S256x256.Idx → EReal := m ((c : Thread nD τ).loc main_arg3)
/-- Argument 4: the sines along a column. -/
abbrev a4 : S256x256.Idx → EReal := m ((c : Thread nD τ).loc main_arg4)

/-- What the region finds in window 0's array, and so on. -/
abbrev in0 : S16x3x256x256.Idx → EReal := V m c main_v47
abbrev in1 : S256x129.Idx → EReal := V m c main_arg1
abbrev in2 : S256x129.Idx → EReal := V m c main_v0
abbrev in3 : S256x512.Idx → EReal := V m c main_v1
abbrev in4 : S256x512.Idx → EReal := V m c main_v3
abbrev in5 : S129x256.Idx → EReal := V m c main_v46
abbrev in6 : S256x129.Idx → EReal := V m c main_cst

/-- The images, limited. -/
theorem in0_apply (b : Fin 16) (ch : Fin 3) (h j : Fin 256) :
    in0 m c (ix4 b ch h j) = limited (a0 m c (ix4 b ch h j)) := by
  simp only [in0, V, hostOps0, hostOps0_1, hostOps0_2, hostOps0_3, hostOps0_4, hostOps0_5, hostOps0_6, hostOps0_7,
    List.flatten_cons, List.flatten_nil, List.append_nil, List.cons_append, List.nil_append]
  entry_read
  pointwise
  rfl

theorem in1_apply (j : Fin 256) (k : Fin 129) : in1 m c (ix2 j k) = a1 m c (ix2 j k) :=
  congrFun (V_main_arg1 m c) _

theorem in2_apply (j : Fin 256) (k : Fin 129) : in2 m c (ix2 j k) = -a2 m c (ix2 j k) := by
  simp only [in2, V, hostOps0, hostOps0_1, hostOps0_2, hostOps0_3, hostOps0_4, hostOps0_5, hostOps0_6, hostOps0_7,
    List.flatten_cons, List.flatten_nil, List.append_nil, List.cons_append, List.nil_append]
  entry_read
  pointwise

theorem in3_low (g h : Fin 256) : in3 m c (ix2 g ⟨h.val, by omega⟩) = a3 m c (ix2 g h) := by
  simp only [in3, V, hostOps0, hostOps0_1, hostOps0_2, hostOps0_3, hostOps0_4, hostOps0_5, hostOps0_6, hostOps0_7,
    List.flatten_cons, List.flatten_nil, List.append_nil, List.cons_append, List.nil_append]
  entry_read
  pointwise

theorem in3_high (g h : Fin 256) : in3 m c (ix2 g ⟨256 + h.val, by omega⟩) = a4 m c (ix2 g h) := by
  simp only [in3, V, hostOps0, hostOps0_1, hostOps0_2, hostOps0_3, hostOps0_4, hostOps0_5, hostOps0_6, hostOps0_7,
    List.flatten_cons, List.flatten_nil, List.append_nil, List.cons_append, List.nil_append]
  entry_read
  pointwise

theorem in4_low (g h : Fin 256) : in4 m c (ix2 g ⟨h.val, by omega⟩) = -a4 m c (ix2 g h) := by
  simp only [in4, V, hostOps0, hostOps0_1, hostOps0_2, hostOps0_3, hostOps0_4, hostOps0_5, hostOps0_6, hostOps0_7,
    List.flatten_cons, List.flatten_nil, List.append_nil, List.cons_append, List.nil_append]
  entry_read
  pointwise

theorem in4_high (g h : Fin 256) : in4 m c (ix2 g ⟨256 + h.val, by omega⟩) = a3 m c (ix2 g h) := by
  simp only [in4, V, hostOps0, hostOps0_1, hostOps0_2, hostOps0_3, hostOps0_4, hostOps0_5, hostOps0_6, hostOps0_7,
    List.flatten_cons, List.flatten_nil, List.append_nil, List.cons_append, List.nil_append]
  entry_read
  pointwise

theorem own_word (g : Fin 256) (k : Fin 129) :
    Ideal.ofBits FTy.f32 (lit0 (S256x129.rowMajor (ix2 g k))) = if own g.val ∧ own k.val then (1 : EReal) else 0 := by
  have e : (S256x129.rowMajor (ix2 g k)).val = g.val * 129 + k.val := Shape.rowMajor_val_two _
  show Ideal.ofBits .f32 (lit0t (S256x129.rowMajor (ix2 g k)).val) = _
  rw [e, lit0t_eq _ (by omega)]
  have h1 : (g.val * 129 + k.val) % 129 = k.val := by omega
  have h2 : (g.val * 129 + k.val) / 129 = g.val := by omega
  rw [h1, h2]
  by_cases h : own g.val ∧ own k.val
  · rw [if_pos h]
    have hb : ((g.val == 0 || g.val == 128) && (k.val == 0 || k.val == 128)) = true := by simpa [own] using h
    rw [hb]
    exact Idealize.ShloMosaic.Ideal.ofBits_one_f32
  · rw [if_neg h]
    have hb : ((g.val == 0 || g.val == 128) && (k.val == 0 || k.val == 128)) = false := by
      rw [Bool.eq_false_iff]
      exact fun h' => h (by simpa [own] using h')
    rw [hb]
    exact Ideal.ofBits_zero_f32

theorem in6_apply (g : Fin 256) (k : Fin 129) : in6 m c (ix2 g k) = if own g.val ∧ own k.val then (1 : EReal) else 0 := by
  simp only [in6, V, hostOps0, hostOps0_1, hostOps0_2, hostOps0_3, hostOps0_4, hostOps0_5, hostOps0_6, hostOps0_7,
    List.flatten_cons, List.flatten_nil, List.append_nil, List.cons_append, List.nil_append]
  entry_read
  pointwise
  exact own_word g k

/-- The table's entries above one half are those at the four frequencies. -/
theorem in6_lt (g : Fin 256) (k : Fin 129) :
    Ideal.ofBits .f32 0x3F000000#32 < in6 m c (ix2 g k) ↔ own g.val ∧ own k.val := by
  have h0 : Ideal.ofBits .f32 0x3F000000#32 = ((1 / 2 : ℝ) : EReal) := by
    simp [Ideal.ofBits, Ideal.ieee, -EReal.coe_mul]; norm_num
  rw [in6_apply, h0]
  by_cases h : own g.val ∧ own k.val
  · rw [if_pos h]
    refine ⟨fun _ => h, fun _ => ?_⟩
    rw [← EReal.coe_one, EReal.coe_lt_coe_iff]
    norm_num
  · rw [if_neg h]
    refine ⟨fun h' => absurd h' ?_, fun h' => absurd h' h⟩
    rw [← EReal.coe_zero, EReal.coe_lt_coe_iff]
    norm_num

end Cert.Kernel3Ideal.Own

end
-- ==== Proof.WaveBody.lean ====
/-
  What the spectrum call's body computes for each of the three channels, element by element, from the arrays it reads.
-/
module

public import proofs.«01_k».proof.Proof.Gen.Kernel3Ideal.Value
public import proofs.«01_k».proof.Proof.WaveSpec
public import Idealize.ShloMosaic.Lib.Pointwise

@[expose] public section

set_option maxRecDepth 16384

noncomputable section

namespace Cert.Kernel3Ideal.Own

open Cert.Kernel3Ideal Cert.Kernel3Ideal.Gen Cert.Wave
open Idealize.ShloMosaic Idealize.ShloMosaic.TcCoe

/-- The rows' sums of the first channel, the first table's above the second's. -/
theorem stack_low (x : S1x1x256x256.Idx → EReal) (w v : S256x129.Idx → EReal) (h : Fin 256) (k : Fin 129) :
    (k0_pay2 (F := Ideal) x w v : S512x129.Idx → EReal) (ix2 ⟨h.val, by omega⟩ k) = ∑ j, x (ix4 0 0 h j) * w (ix2 j k) := by
  pointwise [k0_pay2]

theorem stack_high (x : S1x1x256x256.Idx → EReal) (w v : S256x129.Idx → EReal) (h : Fin 256) (k : Fin 129) :
    (k0_pay2 (F := Ideal) x w v : S512x129.Idx → EReal) (ix2 ⟨256 + h.val, by omega⟩ k) = ∑ j, x (ix4 0 0 h j) * v (ix2 j k) := by
  pointwise [k0_pay2]

theorem real_apply (x : S1x1x256x256.Idx → EReal) (w v : S256x129.Idx → EReal) (r : S256x512.Idx → EReal)
    (g : Fin 256) (k : Fin 129) :
    (k0_pay3 (F := Ideal) x w v r : S256x129.Idx → EReal) (ix2 g k)
      = ∑ n, r (ix2 g n) * (k0_pay2 (F := Ideal) x w v : S512x129.Idx → EReal) (ix2 n k) := by
  pointwise [k0_pay3]

theorem imag_apply (s : S256x129.Idx → EReal) (x : S1x1x256x256.Idx → EReal) (w v : S256x129.Idx → EReal)
    (r : S256x512.Idx → EReal) (g : Fin 256) (k : Fin 129) :
    (k0_pay4 (F := Ideal) s x w v r : S256x129.Idx → EReal) (ix2 g k)
      = if Ideal.ofBits .f32 0x3F000000#32 < s (ix2 g k) then 0
        else ∑ n, r (ix2 g n) * (k0_pay2 (F := Ideal) x w v : S512x129.Idx → EReal) (ix2 n k) := by
  pointwise [k0_pay4, k0_pay1]

theorem mag_apply (s : S256x129.Idx → EReal) (x : S1x1x256x256.Idx → EReal) (w v : S256x129.Idx → EReal)
    (r q : S256x512.Idx → EReal) (g : Fin 256) (k : Fin 129) :
    (k0_pay5 (F := Ideal) s x w v r q : S256x129.Idx → EReal) (ix2 g k)
      = mag ((k0_pay3 (F := Ideal) x w v r : S256x129.Idx → EReal) (ix2 g k))
          ((k0_pay4 (F := Ideal) s x w v q : S256x129.Idx → EReal) (ix2 g k)) := by
  pointwise [k0_pay5]
  rfl

/-- The kernel multiplies by the inverse of the number the reference divides by. -/
theorem half_turns (x : EReal) :
    x * Named.named (F := Ideal) κ "inv_pi" (φ := .f32) 0x3EA2F983#32 = Ideal.div x (Ideal.ofBits .f32 0x40490FDB#32) := by
  have h1 : Named.named (F := Ideal) κ "inv_pi" (φ := .f32) 0x3EA2F983#32 = ((4194304 / 13176795 : ℝ) : EReal) :=
    IdealRules.named_const.ideal_named_scalar _ _ _ _ rfl
  have h2 : Ideal.ofBits .f32 0x40490FDB#32 = ((13176795 / 4194304 : ℝ) : EReal) := by
    simp [Ideal.ofBits, Ideal.ieee, -EReal.coe_mul]; norm_num
  rw [h1, h2, Ideal.div_coe (by norm_num)]
  norm_num

theorem phase_apply (a b : S256x129.Idx → EReal) (u : S129x256.Idx → EReal) (g q : Fin 256) :
    (k0_pay9 (F := Ideal) a b u : S1x1x256x256.Idx → EReal) (ix4 0 0 g q)
      = ∑ k, phase (a (ix2 g k)) (b (ix2 g k)) * u (ix2 k q) := by
  pointwise [k0_pay9]
  refine Finset.sum_congr rfl fun k _ => ?_
  unfold phase
  rw [← half_turns]

theorem store_apply (s : S256x129.Idx → EReal) (x : S1x1x256x256.Idx → EReal) (w v : S256x129.Idx → EReal)
    (r q : S256x512.Idx → EReal) (g : Fin 256) (k : Fin 129) :
    (k0_pay6 (F := Ideal) s x w v r q : S1x1x256x129.Idx → EReal) (ix4 0 0 g k)
      = (k0_pay5 (F := Ideal) s x w v r q : S256x129.Idx → EReal) (ix2 g k) := by
  pointwise [k0_pay6]

theorem loud_apply (s : S256x129.Idx → EReal) (x : S1x1x256x256.Idx → EReal) (w v : S256x129.Idx → EReal)
    (r q : S256x512.Idx → EReal) (u : S129x256.Idx → EReal) (g p : Fin 256) :
    (k0_pay8 (F := Ideal) (k0_pay7 (F := Ideal) s x w v r q) u : S1x1x256x256.Idx → EReal) (ix4 0 0 g p)
      = ∑ k, loud ((k0_pay3 (F := Ideal) x w v r : S256x129.Idx → EReal) (ix2 g k))
          ((k0_pay4 (F := Ideal) s x w v q : S256x129.Idx → EReal) (ix2 g k)) * u (ix2 k p) := by
  have h : (k0_pay8 (F := Ideal) (k0_pay7 (F := Ideal) s x w v r q) u : S1x1x256x256.Idx → EReal) (ix4 0 0 g p)
      = ∑ k, min (Ideal.ofBits .f32 0x41A00000#32) (max (Ideal.ofBits .f32 0xC1A00000#32)
          (Ideal.log1p ((k0_pay5 (F := Ideal) s x w v r q : S256x129.Idx → EReal) (ix2 g k)))) * u (ix2 k p) := by
    pointwise [k0_pay8, k0_pay7]
  rw [h]
  refine Finset.sum_congr rfl fun k _ => ?_
  rw [mag_apply]
  rfl

/-! The other two channels: the same operations, split elsewhere. -/

section
variable (s : Vec Ideal S256x129 .f32) (x : Vec Ideal S1x1x256x256 .f32) (w v : Vec Ideal S256x129 .f32)
  (r q : Vec Ideal S256x512 .f32) (u : Vec Ideal S129x256 .f32)

theorem mag_1 : k0_pay17 (F := Ideal) (k0_pay1 s) (k0_pay10 x) (k0_pay11 x w) (k0_pay12 v) (constant S256x129 .f32 0x00000000#32) r q
    = k0_pay6 s x w v r q := rfl

theorem loud_1 : k0_pay20 (F := Ideal) (k0_pay19 (k0_pay1 s) (k0_pay10 x) (k0_pay11 x w) (k0_pay12 v)
      (constant S256x129 .f32 0x00000000#32) r q u)
    = k0_pay8 (k0_pay7 s x w v r q) u := rfl

theorem phase_1 : k0_pay21 (F := Ideal) (k0_pay18 (k0_pay1 s) (k0_pay10 x) (k0_pay11 x w) (k0_pay12 v)
      (constant S256x129 .f32 0x00000000#32) r q) u
    = k0_pay9 (k0_pay3 x w v r) (k0_pay4 s x w v q) u := rfl

theorem mag_2 : k0_pay28 (F := Ideal) (k0_pay25 (k0_pay1 s) x w v r q) (Scalar.ofBits .f32 0x49742400#32) k0_pay26
    = k0_pay6 s x w v r q := rfl

theorem loud_2 : k0_pay29 (F := Ideal) (k0_pay25 (k0_pay1 s) x w v r q) (Scalar.ofBits .f32 0x49742400#32) k0_pay26 u
    = k0_pay8 (k0_pay7 s x w v r q) u := rfl

theorem phase_2 : k0_pay30 (F := Ideal) (k0_pay23 x w v r) (k0_pay24 (k0_pay1 s) x w v q) u
    = k0_pay9 (k0_pay3 x w v r) (k0_pay4 s x w v q) u := rfl

end

/-! The sums over the stacked tables, taken apart. -/

theorem sum_halves (f : Fin 512 → EReal) :
    ∑ n, f n = (∑ h : Fin 256, f ⟨h.val, by omega⟩) + ∑ h : Fin 256, f ⟨256 + h.val, by omega⟩ :=
  Fin.sum_univ_add (a := 256) (b := 256) f

section
variable {s : S256x129.Idx → EReal} {x : S1x1x256x256.Idx → EReal} {w v : S256x129.Idx → EReal} {r q : S256x512.Idx → EReal}
  {X : Fin 256 → Fin 256 → EReal} {W M : Fin 256 → Fin 129 → EReal} {C S : Fin 256 → Fin 256 → EReal}

theorem real_eq (hx : ∀ h j, x (ix4 0 0 h j) = X h j) (hw : ∀ j k, w (ix2 j k) = W j k) (hv : ∀ j k, v (ix2 j k) = M j k)
    (h1 : ∀ g h : Fin 256, r (ix2 g ⟨h.val, by omega⟩) = C g h) (h2 : ∀ g h : Fin 256, r (ix2 g ⟨256 + h.val, by omega⟩) = S g h)
    (g : Fin 256) (k : Fin 129) :
    (k0_pay3 (F := Ideal) x w v r : S256x129.Idx → EReal) (ix2 g k) = real (along X W) (along X M) C S g k := by
  rw [real_apply, sum_halves]
  unfold real along
  congr 1
  · refine Finset.sum_congr rfl fun h _ => ?_
    rw [h1, stack_low, mul_comm]
    exact congrArg (· * _) (Finset.sum_congr rfl fun j _ => by rw [hx, hw])
  · refine Finset.sum_congr rfl fun h _ => ?_
    rw [h2, stack_high, mul_comm]
    exact congrArg (· * _) (Finset.sum_congr rfl fun j _ => by rw [hx, hv])

theorem imag_eq (hx : ∀ h j, x (ix4 0 0 h j) = X h j) (hw : ∀ j k, w (ix2 j k) = W j k) (hv : ∀ j k, v (ix2 j k) = M j k)
    (h1 : ∀ g h : Fin 256, q (ix2 g ⟨h.val, by omega⟩) = -S g h) (h2 : ∀ g h : Fin 256, q (ix2 g ⟨256 + h.val, by omega⟩) = C g h)
    (hs : ∀ (g : Fin 256) (k : Fin 129), Ideal.ofBits .f32 0x3F000000#32 < s (ix2 g k) ↔ own g.val ∧ own k.val)
    (g : Fin 256) (k : Fin 129) :
    (k0_pay4 (F := Ideal) s x w v q : S256x129.Idx → EReal) (ix2 g k) = imag (along X W) (along X M) C S g k := by
  rw [imag_apply]
  unfold imag
  by_cases h : own g.val ∧ own k.val
  · rw [if_pos h, if_pos ((hs g k).2 h)]
  · rw [if_neg h, if_neg (fun h' => h ((hs g k).1 h')), sum_halves, add_comm]
    unfold along
    congr 1
    · refine Finset.sum_congr rfl fun h _ => ?_
      rw [h2, stack_high, mul_comm]
      exact congrArg (· * _) (Finset.sum_congr rfl fun j _ => by rw [hx, hv])
    · refine Finset.sum_congr rfl fun h _ => ?_
      rw [h1, stack_low, mul_comm]
      exact congrArg (· * _) (Finset.sum_congr rfl fun j _ => by rw [hx, hw])

end

end Cert.Kernel3Ideal.Own

end
-- ==== Proof.WaveRegion.lean ====
/-
  What each grid point of the spectrum call reads and what the three result arrays hold at the end: point `t` is example
  `t`; it reads example `t`'s images and the other arrays whole, and writes example `t` of each result, a channel at a time.
-/
module

public import proofs.«01_k».proof.Proof.WaveHost
public import proofs.«01_k».proof.Proof.WaveBody
public import Idealize.ShloMosaic.Lib.Pipeline.Value
public import Idealize.ShloMosaic.Lib.Pipeline.ValueKit.Basic
public import Idealize.ShloMosaic.Lib.Pointwise.Index

@[expose] public section

set_option maxRecDepth 16384

noncomputable section

namespace Cert.Kernel3Ideal.Own

open Cert.Kernel3Ideal Cert.Kernel3Ideal.Gen Cert.Wave
open Idealize.ShloMosaic Idealize.ShloMosaic.TcCoe Idealize.SL.Sem
open Idealize.ShloMosaic.Pipeline (Dat)

variable (m : (ℓ : Loc nD τ sig) → Buf (Elt Ideal) ℓ) (c : Dev nD)

theorem points : cfg0.N = 16 := N_0

/-- Which block of the images point `t` reads: example `t`. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Which block of the magnitudes point `t` writes: example `t`. -/
theorem index7 : ∀ t : Fin cfg0.N, win0_7.index t 0 = t.val ∧ win0_7.index t 1 = 0 ∧ win0_7.index t 2 = 0 ∧ win0_7.index t 3 = 0 :=
  (by decide +kernel : ∀ t : Fin grid0.N, win0_7.index t 0 = t.val ∧ win0_7.index t 1 = 0 ∧ win0_7.index t 2 = 0 ∧ win0_7.index t 3 = 0)

/-- Which block of the upsampled logarithms point `t` writes: example `t`. -/
theorem index8 : ∀ t : Fin cfg0.N, win0_8.index t 0 = t.val ∧ win0_8.index t 1 = 0 ∧ win0_8.index t 2 = 0 ∧ win0_8.index t 3 = 0 :=
  (by decide +kernel : ∀ t : Fin grid0.N, win0_8.index t 0 = t.val ∧ win0_8.index t 1 = 0 ∧ win0_8.index t 2 = 0 ∧ win0_8.index t 3 = 0)

/-- Which block of the upsampled phases point `t` writes: example `t`. -/
theorem index9 : ∀ t : Fin cfg0.N, win0_9.index t 0 = t.val ∧ win0_9.index t 1 = 0 ∧ win0_9.index t 2 = 0 ∧ win0_9.index t 3 = 0 :=
  (by decide +kernel : ∀ t : Fin grid0.N, win0_9.index t 0 = t.val ∧ win0_9.index t 1 = 0 ∧ win0_9.index t 2 = 0 ∧ win0_9.index t 3 = 0)

/-- Point `t` reads example `t` of the limited images. -/
theorem block0 (t : Fin cfg0.N) (ch : Fin 3) (h j : Fin 256) :
    (iblk m c 0 t : S1x3x256x256.Idx → EReal) (ix4 0 ch h j) = in0 m c (ix4 ⟨t.val, t.isLt.trans_eq points⟩ ch h j) := by
  have hi := index0 t
  unfold iblk
  rw [View.read_apply]
  show V m c main_v47 _ = V m c main_v47 _
  congr 1
  funext a
  apply Fin.ext
  match a with
  | ⟨0, _⟩ => show win0_0.index t 0 * 1 + 1 * 0 = t.val; rw [hi.1]; omega
  | ⟨1, _⟩ => show win0_0.index t 1 * 3 + 1 * ch.val = ch.val; rw [hi.2.1]; omega
  | ⟨2, _⟩ => show win0_0.index t 2 * 256 + 1 * h.val = h.val; rw [hi.2.2.1]; omega
  | ⟨3, _⟩ => show win0_0.index t 3 * 256 + 1 * j.val = j.val; rw [hi.2.2.2]; omega

/-- Every point reads the whole of array 1. -/
theorem block1 (t : Fin cfg0.N) : (iblk m c 1 t : Vec Ideal S256x129 .f32) = in1 m c := by
  have hi : ∀ t : Fin cfg0.N, win0_1.index t 0 = 0 ∧ win0_1.index t 1 = 0 :=
    (by decide +kernel : ∀ t : Fin grid0.N, win0_1.index t 0 = 0 ∧ win0_1.index t 1 = 0)
  funext j
  unfold iblk
  rw [View.read_apply]
  show V m c main_arg1 _ = V m c main_arg1 _
  congr 1
  funext a
  apply Fin.ext
  match a with
  | ⟨0, _⟩ => show win0_1.index t 0 * 256 + 1 * (j 0).val = (j 0).val; rw [(hi t).1]; omega
  | ⟨1, _⟩ => show win0_1.index t 1 * 129 + 1 * (j 1).val = (j 1).val; rw [(hi t).2]; omega

/-- Every point reads the whole of array 2. -/
theorem block2 (t : Fin cfg0.N) : (iblk m c 2 t : Vec Ideal S256x129 .f32) = in2 m c := by
  have hi : ∀ t : Fin cfg0.N, win0_2.index t 0 = 0 ∧ win0_2.index t 1 = 0 :=
    (by decide +kernel : ∀ t : Fin grid0.N, win0_2.index t 0 = 0 ∧ win0_2.index t 1 = 0)
  funext j
  unfold iblk
  rw [View.read_apply]
  show V m c main_v0 _ = V m c main_v0 _
  congr 1
  funext a
  apply Fin.ext
  match a with
  | ⟨0, _⟩ => show win0_2.index t 0 * 256 + 1 * (j 0).val = (j 0).val; rw [(hi t).1]; omega
  | ⟨1, _⟩ => show win0_2.index t 1 * 129 + 1 * (j 1).val = (j 1).val; rw [(hi t).2]; omega

/-- Every point reads the whole of array 3. -/
theorem block3 (t : Fin cfg0.N) : (iblk m c 3 t : Vec Ideal S256x512 .f32) = in3 m c := by
  have hi : ∀ t : Fin cfg0.N, win0_3.index t 0 = 0 ∧ win0_3.index t 1 = 0 :=
    (by decide +kernel : ∀ t : Fin grid0.N, win0_3.index t 0 = 0 ∧ win0_3.index t 1 = 0)
  funext j
  unfold iblk
  rw [View.read_apply]
  show V m c main_v1 _ = V m c main_v1 _
  congr 1
  funext a
  apply Fin.ext
  match a with
  | ⟨0, _⟩ => show win0_3.index t 0 * 256 + 1 * (j 0).val = (j 0).val; rw [(hi t).1]; omega
  | ⟨1, _⟩ => show win0_3.index t 1 * 512 + 1 * (j 1).val = (j 1).val; rw [(hi t).2]; omega

/-- Every point reads the whole of array 4. -/
theorem block4 (t : Fin cfg0.N) : (iblk m c 4 t : Vec Ideal S256x512 .f32) = in4 m c := by
  have hi : ∀ t : Fin cfg0.N, win0_4.index t 0 = 0 ∧ win0_4.index t 1 = 0 :=
    (by decide +kernel : ∀ t : Fin grid0.N, win0_4.index t 0 = 0 ∧ win0_4.index t 1 = 0)
  funext j
  unfold iblk
  rw [View.read_apply]
  show V m c main_v3 _ = V m c main_v3 _
  congr 1
  funext a
  apply Fin.ext
  match a with
  | ⟨0, _⟩ => show win0_4.index t 0 * 256 + 1 * (j 0).val = (j 0).val; rw [(hi t).1]; omega
  | ⟨1, _⟩ => show win0_4.index t 1 * 512 + 1 * (j 1).val = (j 1).val; rw [(hi t).2]; omega

/-- Every point reads the whole of array 5. -/
theorem block5 (t : Fin cfg0.N) : (iblk m c 5 t : Vec Ideal S129x256 .f32) = in5 m c := by
  have hi : ∀ t : Fin cfg0.N, win0_5.index t 0 = 0 ∧ win0_5.index t 1 = 0 :=
    (by decide +kernel : ∀ t : Fin grid0.N, win0_5.index t 0 = 0 ∧ win0_5.index t 1 = 0)
  funext j
  unfold iblk
  rw [View.read_apply]
  show V m c main_v46 _ = V m c main_v46 _
  congr 1
  funext a
  apply Fin.ext
  match a with
  | ⟨0, _⟩ => show win0_5.index t 0 * 129 + 1 * (j 0).val = (j 0).val; rw [(hi t).1]; omega
  | ⟨1, _⟩ => show win0_5.index t 1 * 256 + 1 * (j 1).val = (j 1).val; rw [(hi t).2]; omega

/-- Every point reads the whole of array 6. -/
theorem block6 (t : Fin cfg0.N) : (iblk m c 6 t : Vec Ideal S256x129 .f32) = in6 m c := by
  have hi : ∀ t : Fin cfg0.N, win0_6.index t 0 = 0 ∧ win0_6.index t 1 = 0 :=
    (by decide +kernel : ∀ t : Fin grid0.N, win0_6.index t 0 = 0 ∧ win0_6.index t 1 = 0)
  funext j
  unfold iblk
  rw [View.read_apply]
  show V m c main_cst _ = V m c main_cst _
  congr 1
  funext a
  apply Fin.ext
  match a with
  | ⟨0, _⟩ => show win0_6.index t 0 * 256 + 1 * (j 0).val = (j 0).val; rw [(hi t).1]; omega
  | ⟨1, _⟩ => show win0_6.index t 1 * 129 + 1 * (j 1).val = (j 1).val; rw [(hi t).2]; omega

end Cert.Kernel3Ideal.Own

end
-- ==== Proof.WaveStores.lean ====
/-
  The three results of the spectrum call at the end of the run: what the body leaves in each staging buffer, channel by
  channel, and so what the sixteen points leave in each array.
-/
module

public import proofs.«01_k».proof.Proof.WaveRegion
public import Idealize.ShloMosaic.Lib.Pipeline.Value
public import Idealize.ShloMosaic.Lib.Pipeline.ValueKit.Basic
public import Idealize.ShloMosaic.Lib.Pointwise.Index

@[expose] public section

set_option maxRecDepth 16384

noncomputable section

namespace Cert.Kernel3Ideal.Own

open Cert.Kernel3Ideal Cert.Kernel3Ideal.Gen Cert.Wave
open Idealize.ShloMosaic Idealize.ShloMosaic.TcCoe Idealize.SL.Sem
open Idealize.ShloMosaic.Pipeline (Dat)

variable (m : (ℓ : Loc nD τ sig) → Buf (Elt Ideal) ℓ) (c : Dev nD)

theorem hz : (![0, 0] : Fin 2 → Nat) = fun _ => 0 := by decide

section
variable (x0 : Vec Ideal S1x3x256x256 .f32) (x1 x2 : Vec Ideal S256x129 .f32) (x3 x4 : Vec Ideal S256x512 .f32)
  (x5 : Vec Ideal S129x256 .f32) (x6 : Vec Ideal S256x129 .f32)

theorem out7_pieces : out0_7 x0 x1 x2 x3 x4 x5 x6 = View.canon (Val := Elt Ideal) (e := .f32)
      [(⟨r0_8, k0_pay6 x6 (View.ld x0 r0_7) x1 x2 x3 x4⟩ : View.Piece (Elt Ideal) S1x3x256x129 .f32),
        (⟨r0_6, k0_pay6 x6 (View.ld x0 r0_5) x1 x2 x3 x4⟩ : View.Piece (Elt Ideal) S1x3x256x129 .f32),
        (⟨r0_3, k0_pay6 x6 (View.ld x0 r0_1) x1 x2 x3 x4⟩ : View.Piece (Elt Ideal) S1x3x256x129 .f32)] := by
  unfold out0_7 k0_pay37 k0_pay36 k0_pay35 k0_pay34 k0_pay33 k0_pay32 k0_pay31
  unfold r0_0 r0_2
  rw [View.ld_unit_zero (S := S256x129) hz _ x6,
    View.ld_unit_zero (S := S256x129) hz _ x1,
    View.ld_unit_zero (S := S256x129) hz _ x2,
    View.ld_unit_zero (S := S256x512) hz _ x3,
    View.ld_unit_zero (S := S256x512) hz _ x4]
  rw [mag_1, mag_2]

theorem out8_pieces : out0_8 x0 x1 x2 x3 x4 x5 x6 = View.canon (Val := Elt Ideal) (e := .f32)
      [(⟨r0_7, k0_pay8 (k0_pay7 x6 (View.ld x0 r0_7) x1 x2 x3 x4) x5⟩ : View.Piece (Elt Ideal) S1x3x256x256 .f32),
        (⟨r0_5, k0_pay8 (k0_pay7 x6 (View.ld x0 r0_5) x1 x2 x3 x4) x5⟩ : View.Piece (Elt Ideal) S1x3x256x256 .f32),
        (⟨r0_1, k0_pay8 (k0_pay7 x6 (View.ld x0 r0_1) x1 x2 x3 x4) x5⟩ : View.Piece (Elt Ideal) S1x3x256x256 .f32)] := by
  unfold out0_8 k0_pay37 k0_pay36 k0_pay35 k0_pay34 k0_pay33 k0_pay32 k0_pay31
  unfold r0_0 r0_2 r0_4
  rw [View.ld_unit_zero (S := S256x129) hz _ x6,
    View.ld_unit_zero (S := S256x129) hz _ x1,
    View.ld_unit_zero (S := S256x129) hz _ x2,
    View.ld_unit_zero (S := S256x512) hz _ x3,
    View.ld_unit_zero (S := S256x512) hz _ x4,
    View.ld_unit_zero (S := S129x256) hz _ x5]
  rw [loud_1, loud_2]

theorem out9_pieces : out0_9 x0 x1 x2 x3 x4 x5 x6 = View.canon (Val := Elt Ideal) (e := .f32)
      [(⟨r0_7, k0_pay9 (k0_pay3 (View.ld x0 r0_7) x1 x2 x3) (k0_pay4 x6 (View.ld x0 r0_7) x1 x2 x4) x5⟩ : View.Piece (Elt Ideal) S1x3x256x256 .f32),
        (⟨r0_5, k0_pay9 (k0_pay3 (View.ld x0 r0_5) x1 x2 x3) (k0_pay4 x6 (View.ld x0 r0_5) x1 x2 x4) x5⟩ : View.Piece (Elt Ideal) S1x3x256x256 .f32),
        (⟨r0_1, k0_pay9 (k0_pay3 (View.ld x0 r0_1) x1 x2 x3) (k0_pay4 x6 (View.ld x0 r0_1) x1 x2 x4) x5⟩ : View.Piece (Elt Ideal) S1x3x256x256 .f32)] := by
  unfold out0_9 k0_pay35 k0_pay34 k0_pay33 k0_pay32 k0_pay31
  unfold r0_0 r0_2 r0_4
  rw [View.ld_unit_zero (S := S256x129) hz _ x6,
    View.ld_unit_zero (S := S256x129) hz _ x1,
    View.ld_unit_zero (S := S256x129) hz _ x2,
    View.ld_unit_zero (S := S256x512) hz _ x3,
    View.ld_unit_zero (S := S256x512) hz _ x4,
    View.ld_unit_zero (S := S129x256) hz _ x5]
  rw [phase_1, phase_2]

end
theorem narrow_emb_0 (g : Fin 256) (q : Fin 129) : r0_3.emb (ix4 0 0 g q : S1x1x256x129.Idx) = (ix4 0 0 g q : S1x3x256x129.Idx) := by
  funext a
  apply Fin.ext
  match a with
  | ⟨0, _⟩ => rfl
  | ⟨1, _⟩ => rfl
  | ⟨2, _⟩ => show 0 + 1 * g.val = g.val; omega
  | ⟨3, _⟩ => show 0 + 1 * q.val = q.val; omega

theorem narrow_emb_1 (g : Fin 256) (q : Fin 129) : r0_6.emb (ix4 0 0 g q : S1x1x256x129.Idx) = (ix4 0 1 g q : S1x3x256x129.Idx) := by
  funext a
  apply Fin.ext
  match a with
  | ⟨0, _⟩ => rfl
  | ⟨1, _⟩ => rfl
  | ⟨2, _⟩ => show 0 + 1 * g.val = g.val; omega
  | ⟨3, _⟩ => show 0 + 1 * q.val = q.val; omega

theorem narrow_emb_2 (g : Fin 256) (q : Fin 129) : r0_8.emb (ix4 0 0 g q : S1x1x256x129.Idx) = (ix4 0 2 g q : S1x3x256x129.Idx) := by
  funext a
  apply Fin.ext
  match a with
  | ⟨0, _⟩ => rfl
  | ⟨1, _⟩ => rfl
  | ⟨2, _⟩ => show 0 + 1 * g.val = g.val; omega
  | ⟨3, _⟩ => show 0 + 1 * q.val = q.val; omega

theorem narrow_off_2_0 (g : Fin 256) (q : Fin 129) : (ix4 0 0 g q : S1x3x256x129.Idx) ∉ r0_8.set := by
  rw [Rect.mem_set_unit]
  intro h
  exact absurd (show 2 ≤ 0 from (h 1).1) (by decide)

theorem narrow_off_2_1 (g : Fin 256) (q : Fin 129) : (ix4 0 1 g q : S1x3x256x129.Idx) ∉ r0_8.set := by
  rw [Rect.mem_set_unit]
  intro h
  exact absurd (show 2 ≤ 1 from (h 1).1) (by decide)

theorem narrow_off_1_0 (g : Fin 256) (q : Fin 129) : (ix4 0 0 g q : S1x3x256x129.Idx) ∉ r0_6.set := by
  rw [Rect.mem_set_unit]
  intro h
  exact absurd (show 1 ≤ 0 from (h 1).1) (by decide)

/-- Three channels' stores, read back. -/
theorem narrow_canon (p0 p1 p2 : S1x1x256x129.Idx → EReal) (ch : Fin 3) (g : Fin 256) (q : Fin 129) :
    View.canon (Val := Elt Ideal) (e := .f32) [(⟨r0_8, p2⟩ : View.Piece (Elt Ideal) S1x3x256x129 .f32),
        (⟨r0_6, p1⟩ : View.Piece (Elt Ideal) S1x3x256x129 .f32), (⟨r0_3, p0⟩ : View.Piece (Elt Ideal) S1x3x256x129 .f32)] (ix4 0 ch g q)
      = (match ch with | 0 => p0 | 1 => p1 | 2 => p2) (ix4 0 0 g q) := by
  match ch with
  | 0 =>
    refine (View.canon_cons_of_not_mem (Val := Elt Ideal) (e := .f32) (⟨r0_8, p2⟩ : View.Piece (Elt Ideal) S1x3x256x129 .f32)
        [(⟨r0_6, p1⟩ : View.Piece (Elt Ideal) S1x3x256x129 .f32), (⟨r0_3, p0⟩ : View.Piece (Elt Ideal) S1x3x256x129 .f32)] (narrow_off_2_0 g q)).trans ?_
    refine (View.canon_cons_of_not_mem (Val := Elt Ideal) (e := .f32) (⟨r0_6, p1⟩ : View.Piece (Elt Ideal) S1x3x256x129 .f32)
        [(⟨r0_3, p0⟩ : View.Piece (Elt Ideal) S1x3x256x129 .f32)] (narrow_off_1_0 g q)).trans ?_
    have h := View.canon_cons_emb (Val := Elt Ideal) (e := .f32) r0_3 p0
      [] (ix4 0 0 g q)
    rw [narrow_emb_0] at h
    exact h
  | 1 =>
    refine (View.canon_cons_of_not_mem (Val := Elt Ideal) (e := .f32) (⟨r0_8, p2⟩ : View.Piece (Elt Ideal) S1x3x256x129 .f32)
        [(⟨r0_6, p1⟩ : View.Piece (Elt Ideal) S1x3x256x129 .f32), (⟨r0_3, p0⟩ : View.Piece (Elt Ideal) S1x3x256x129 .f32)] (narrow_off_2_1 g q)).trans ?_
    have h := View.canon_cons_emb (Val := Elt Ideal) (e := .f32) r0_6 p1
      [(⟨r0_3, p0⟩ : View.Piece (Elt Ideal) S1x3x256x129 .f32)] (ix4 0 0 g q)
    rw [narrow_emb_1] at h
    exact h
  | 2 =>
    have h := View.canon_cons_emb (Val := Elt Ideal) (e := .f32) r0_8 p2
      [(⟨r0_6, p1⟩ : View.Piece (Elt Ideal) S1x3x256x129 .f32), (⟨r0_3, p0⟩ : View.Piece (Elt Ideal) S1x3x256x129 .f32)] (ix4 0 0 g q)
    rw [narrow_emb_2] at h
    exact h

theorem wide_emb_0 (g : Fin 256) (q : Fin 256) : r0_1.emb (ix4 0 0 g q : S1x1x256x256.Idx) = (ix4 0 0 g q : S1x3x256x256.Idx) := by
  funext a
  apply Fin.ext
  match a with
  | ⟨0, _⟩ => rfl
  | ⟨1, _⟩ => rfl
  | ⟨2, _⟩ => show 0 + 1 * g.val = g.val; omega
  | ⟨3, _⟩ => show 0 + 1 * q.val = q.val; omega

theorem wide_emb_1 (g : Fin 256) (q : Fin 256) : r0_5.emb (ix4 0 0 g q : S1x1x256x256.Idx) = (ix4 0 1 g q : S1x3x256x256.Idx) := by
  funext a
  apply Fin.ext
  match a with
  | ⟨0, _⟩ => rfl
  | ⟨1, _⟩ => rfl
  | ⟨2, _⟩ => show 0 + 1 * g.val = g.val; omega
  | ⟨3, _⟩ => show 0 + 1 * q.val = q.val; omega

theorem wide_emb_2 (g : Fin 256) (q : Fin 256) : r0_7.emb (ix4 0 0 g q : S1x1x256x256.Idx) = (ix4 0 2 g q : S1x3x256x256.Idx) := by
  funext a
  apply Fin.ext
  match a with
  | ⟨0, _⟩ => rfl
  | ⟨1, _⟩ => rfl
  | ⟨2, _⟩ => show 0 + 1 * g.val = g.val; omega
  | ⟨3, _⟩ => show 0 + 1 * q.val = q.val; omega

theorem wide_off_2_0 (g : Fin 256) (q : Fin 256) : (ix4 0 0 g q : S1x3x256x256.Idx) ∉ r0_7.set := by
  rw [Rect.mem_set_unit]
  intro h
  exact absurd (show 2 ≤ 0 from (h 1).1) (by decide)

theorem wide_off_2_1 (g : Fin 256) (q : Fin 256) : (ix4 0 1 g q : S1x3x256x256.Idx) ∉ r0_7.set := by
  rw [Rect.mem_set_unit]
  intro h
  exact absurd (show 2 ≤ 1 from (h 1).1) (by decide)

theorem wide_off_1_0 (g : Fin 256) (q : Fin 256) : (ix4 0 0 g q : S1x3x256x256.Idx) ∉ r0_5.set := by
  rw [Rect.mem_set_unit]
  intro h
  exact absurd (show 1 ≤ 0 from (h 1).1) (by decide)

/-- Three channels' stores, read back. -/
theorem wide_canon (p0 p1 p2 : S1x1x256x256.Idx → EReal) (ch : Fin 3) (g : Fin 256) (q : Fin 256) :
    View.canon (Val := Elt Ideal) (e := .f32) [(⟨r0_7, p2⟩ : View.Piece (Elt Ideal) S1x3x256x256 .f32),
        (⟨r0_5, p1⟩ : View.Piece (Elt Ideal) S1x3x256x256 .f32), (⟨r0_1, p0⟩ : View.Piece (Elt Ideal) S1x3x256x256 .f32)] (ix4 0 ch g q)
      = (match ch with | 0 => p0 | 1 => p1 | 2 => p2) (ix4 0 0 g q) := by
  match ch with
  | 0 =>
    refine (View.canon_cons_of_not_mem (Val := Elt Ideal) (e := .f32) (⟨r0_7, p2⟩ : View.Piece (Elt Ideal) S1x3x256x256 .f32)
        [(⟨r0_5, p1⟩ : View.Piece (Elt Ideal) S1x3x256x256 .f32), (⟨r0_1, p0⟩ : View.Piece (Elt Ideal) S1x3x256x256 .f32)] (wide_off_2_0 g q)).trans ?_
    refine (View.canon_cons_of_not_mem (Val := Elt Ideal) (e := .f32) (⟨r0_5, p1⟩ : View.Piece (Elt Ideal) S1x3x256x256 .f32)
        [(⟨r0_1, p0⟩ : View.Piece (Elt Ideal) S1x3x256x256 .f32)] (wide_off_1_0 g q)).trans ?_
    have h := View.canon_cons_emb (Val := Elt Ideal) (e := .f32) r0_1 p0
      [] (ix4 0 0 g q)
    rw [wide_emb_0] at h
    exact h
  | 1 =>
    refine (View.canon_cons_of_not_mem (Val := Elt Ideal) (e := .f32) (⟨r0_7, p2⟩ : View.Piece (Elt Ideal) S1x3x256x256 .f32)
        [(⟨r0_5, p1⟩ : View.Piece (Elt Ideal) S1x3x256x256 .f32), (⟨r0_1, p0⟩ : View.Piece (Elt Ideal) S1x3x256x256 .f32)] (wide_off_2_1 g q)).trans ?_
    have h := View.canon_cons_emb (Val := Elt Ideal) (e := .f32) r0_5 p1
      [(⟨r0_1, p0⟩ : View.Piece (Elt Ideal) S1x3x256x256 .f32)] (ix4 0 0 g q)
    rw [wide_emb_1] at h
    exact h
  | 2 =>
    have h := View.canon_cons_emb (Val := Elt Ideal) (e := .f32) r0_7 p2
      [(⟨r0_5, p1⟩ : View.Piece (Elt Ideal) S1x3x256x256 .f32), (⟨r0_1, p0⟩ : View.Piece (Elt Ideal) S1x3x256x256 .f32)] (ix4 0 0 g q)
    rw [wide_emb_2] at h
    exact h

/-! The body's results from what the region finds. -/

section
variable (b : Fin 16) (ch : Fin 3) (x : S1x1x256x256.Idx → EReal) (hx : ∀ h j, x (ix4 0 0 h j) = in0 m c (ix4 b ch h j))
include hx

theorem real_in (g : Fin 256) (k : Fin 129) :
    (k0_pay3 (F := Ideal) x (in1 m c) (in2 m c) (in3 m c) : S256x129.Idx → EReal) (ix2 g k)
      = re (a0 m c) (a1 m c) (a2 m c) (a3 m c) (a4 m c) b ch g k :=
  real_eq (fun h j => (hx h j).trans (in0_apply m c b ch h j)) (in1_apply m c) (in2_apply m c) (in3_low m c) (in3_high m c) g k

theorem imag_in (g : Fin 256) (k : Fin 129) :
    (k0_pay4 (F := Ideal) (in6 m c) x (in1 m c) (in2 m c) (in4 m c) : S256x129.Idx → EReal) (ix2 g k)
      = im (a0 m c) (a1 m c) (a2 m c) (a3 m c) (a4 m c) b ch g k :=
  imag_eq (fun h j => (hx h j).trans (in0_apply m c b ch h j)) (in1_apply m c) (in2_apply m c) (in4_low m c) (in4_high m c)
    (in6_lt m c) g k

theorem mag_in (g : Fin 256) (k : Fin 129) :
    (k0_pay6 (F := Ideal) (in6 m c) x (in1 m c) (in2 m c) (in3 m c) (in4 m c) : S1x1x256x129.Idx → EReal) (ix4 0 0 g k)
      = mags (a0 m c) (a1 m c) (a2 m c) (a3 m c) (a4 m c) (ix4 b ch g k) := by
  rw [store_apply, mag_apply, real_in m c b ch x hx, imag_in m c b ch x hx]
  rfl

theorem loud_in (g q : Fin 256) :
    (k0_pay8 (F := Ideal) (k0_pay7 (F := Ideal) (in6 m c) x (in1 m c) (in2 m c) (in3 m c) (in4 m c)) (in5 m c) :
        S1x1x256x256.Idx → EReal) (ix4 0 0 g q)
      = louds (a0 m c) (a1 m c) (a2 m c) (a3 m c) (a4 m c) (in5 m c) (ix4 b ch g q) := by
  rw [loud_apply]
  refine Finset.sum_congr rfl fun k _ => ?_
  rw [real_in m c b ch x hx, imag_in m c b ch x hx]
  rfl

theorem phase_in (g q : Fin 256) :
    (k0_pay9 (F := Ideal) (k0_pay3 (F := Ideal) x (in1 m c) (in2 m c) (in3 m c))
        (k0_pay4 (F := Ideal) (in6 m c) x (in1 m c) (in2 m c) (in4 m c)) (in5 m c) : S1x1x256x256.Idx → EReal) (ix4 0 0 g q)
      = phases (a0 m c) (a1 m c) (a2 m c) (a3 m c) (a4 m c) (in5 m c) (ix4 b ch g q) := by
  rw [phase_apply]
  refine Finset.sum_congr rfl fun k _ => ?_
  rw [real_in m c b ch x hx, imag_in m c b ch x hx]
  rfl

end

theorem channel_0 (t : Fin cfg0.N) (h j : Fin 256) :
    (View.ld (iblk m c 0 t : Vec Ideal S1x3x256x256 .f32) r0_1 : S1x1x256x256.Idx → EReal) (ix4 0 0 h j)
      = in0 m c (ix4 ⟨t.val, t.isLt.trans_eq points⟩ 0 h j) := by
  rw [← block0 m c t 0 h j, ← wide_emb_0 h j]
  rfl

theorem channel_1 (t : Fin cfg0.N) (h j : Fin 256) :
    (View.ld (iblk m c 0 t : Vec Ideal S1x3x256x256 .f32) r0_5 : S1x1x256x256.Idx → EReal) (ix4 0 0 h j)
      = in0 m c (ix4 ⟨t.val, t.isLt.trans_eq points⟩ 1 h j) := by
  rw [← block0 m c t 1 h j, ← wide_emb_1 h j]
  rfl

theorem channel_2 (t : Fin cfg0.N) (h j : Fin 256) :
    (View.ld (iblk m c 0 t : Vec Ideal S1x3x256x256 .f32) r0_7 : S1x1x256x256.Idx → EReal) (ix4 0 0 h j)
      = in0 m c (ix4 ⟨t.val, t.isLt.trans_eq points⟩ 2 h j) := by
  rw [← block0 m c t 2 h j, ← wide_emb_2 h j]
  rfl

/-- What point `t` leaves in output 7's buffer. -/
theorem point7 (t : Fin cfg0.N) (ch : Fin 3) (g : Fin 256) (q : Fin 129) :
    (out0_7 (iblk m c 0 t) (iblk m c 1 t) (iblk m c 2 t) (iblk m c 3 t) (iblk m c 4 t) (iblk m c 5 t) (iblk m c 6 t) :
        S1x3x256x129.Idx → EReal) (ix4 0 ch g q)
      = mags (a0 m c) (a1 m c) (a2 m c) (a3 m c) (a4 m c) (ix4 ⟨t.val, t.isLt.trans_eq points⟩ ch g q) := by
  rw [block1, block2, block3, block4, block5, block6, out7_pieces]
  refine (narrow_canon _ _ _ ch g q).trans ?_
  match ch with
  | 0 => exact mag_in m c _ 0 _ (channel_0 m c t) g q
  | 1 => exact mag_in m c _ 1 _ (channel_1 m c t) g q
  | 2 => exact mag_in m c _ 2 _ (channel_2 m c t) g q

/-- What point `t` writes back is example `t` of the result. -/
theorem flushed7 (t : Fin cfg0.N) (hf : (cfg0.win 7).flush t = true) :
    (dats m 0 c).flushed 7 t
      = ((cfg0.win 7).blk t).view.read (Elt Ideal) (mags (a0 m c) (a1 m c) (a2 m c) (a3 m c) (a4 m c) : S16x3x256x129.Idx → EReal) := by
  have hi := index7 t
  show (cfg0.win 7).cut (grid0.coords t) ((dats m 0 c).after 7 t) = _
  rw [after0_7]
  funext j
  rw [View.read_apply]
  have h0 : (j 0).val < 1 := (j 0).isLt
  have e : (((cfg0.win 7).blk t).view.emb j : S16x3x256x129.Idx) = ix4 ⟨t.val, t.isLt.trans_eq points⟩ (j 1) (j 2) (j 3) := by
    funext a
    apply Fin.ext
    match a with
    | ⟨0, _⟩ => show win0_7.index t 0 * 1 + 1 * (j 0).val = t.val; rw [hi.1]; omega
    | ⟨1, _⟩ => show win0_7.index t 1 * 3 + 1 * (j 1).val = (j 1).val; rw [hi.2.1]; omega
    | ⟨2, _⟩ => show win0_7.index t 2 * 256 + 1 * (j 2).val = (j 2).val; rw [hi.2.2.1]; omega
    | ⟨3, _⟩ => show win0_7.index t 3 * 129 + 1 * (j 3).val = (j 3).val; rw [hi.2.2.2]; omega
  refine Eq.trans ?_ ((point7 m c t (j 1) (j 2) (j 3)).trans (congrArg (mags (a0 m c) (a1 m c) (a2 m c) (a3 m c) (a4 m c) : S16x3x256x129.Idx → EReal) e.symm))
  show out0_7 _ _ _ _ _ _ _ _ = out0_7 _ _ _ _ _ _ _ _
  congr 1
  funext a
  apply Fin.ext
  match a with
  | ⟨0, _⟩ => show (j 0).val = 0; omega
  | ⟨1, _⟩ => rfl
  | ⟨2, _⟩ => rfl
  | ⟨3, _⟩ => rfl

/-- So the array ends as the specification says. -/
theorem final7 : (dats m 0 c).arrAt 7 cfg0.N = (mags (a0 m c) (a1 m c) (a2 m c) (a3 m c) (a4 m c) : S16x3x256x129.Idx → EReal) :=
  (dats m 0 c).arrAt_eq_of_cover 7 (mags (a0 m c) (a1 m c) (a2 m c) (a3 m c) (a4 m c) : S16x3x256x129.Idx → EReal) (flushed7 m c) fun i => by
    have h0 : (i 0 : ℕ) < 16 := (i 0).isLt
    have h1 : (i 1 : ℕ) < 3 := (i 1).isLt
    have h2 : (i 2 : ℕ) < 256 := (i 2).isLt
    have h3 : (i 3 : ℕ) < 129 := (i 3).isLt
    have key : ∀ t : Fin cfg0.N, t.val = (i 0 : ℕ) → i ∈ ((cfg0.win 7).blk t).view.set := fun t ht => by
      have hi := index7 t
      show i ∈ ((View.whole main_v48_0).slice (win0_7.rect t)).set
      rw [View.set_slice_whole, Rect.mem_set_unit]
      intro a
      match a with
      | ⟨0, _⟩ =>
        show win0_7.index t 0 * 1 ≤ (i 0 : ℕ) ∧ (i 0 : ℕ) < win0_7.index t 0 * 1 + 1
        rw [hi.1]; omega
      | ⟨1, _⟩ =>
        show win0_7.index t 1 * 3 ≤ (i 1 : ℕ) ∧ (i 1 : ℕ) < win0_7.index t 1 * 3 + 3
        rw [hi.2.1]; omega
      | ⟨2, _⟩ =>
        show win0_7.index t 2 * 256 ≤ (i 2 : ℕ) ∧ (i 2 : ℕ) < win0_7.index t 2 * 256 + 256
        rw [hi.2.2.1]; omega
      | ⟨3, _⟩ =>
        show win0_7.index t 3 * 129 ≤ (i 3 : ℕ) ∧ (i 3 : ℕ) < win0_7.index t 3 * 129 + 129
        rw [hi.2.2.2]; omega
    exact ⟨⟨(i 0).val, h0.trans_eq points.symm⟩, flush0_7 _, key _ rfl⟩

/-- What point `t` leaves in output 8's buffer. -/
theorem point8 (t : Fin cfg0.N) (ch : Fin 3) (g : Fin 256) (q : Fin 256) :
    (out0_8 (iblk m c 0 t) (iblk m c 1 t) (iblk m c 2 t) (iblk m c 3 t) (iblk m c 4 t) (iblk m c 5 t) (iblk m c 6 t) :
        S1x3x256x256.Idx → EReal) (ix4 0 ch g q)
      = louds (a0 m c) (a1 m c) (a2 m c) (a3 m c) (a4 m c) (in5 m c) (ix4 ⟨t.val, t.isLt.trans_eq points⟩ ch g q) := by
  rw [block1, block2, block3, block4, block5, block6, out8_pieces]
  refine (wide_canon _ _ _ ch g q).trans ?_
  match ch with
  | 0 => exact loud_in m c _ 0 _ (channel_0 m c t) g q
  | 1 => exact loud_in m c _ 1 _ (channel_1 m c t) g q
  | 2 => exact loud_in m c _ 2 _ (channel_2 m c t) g q

/-- What point `t` writes back is example `t` of the result. -/
theorem flushed8 (t : Fin cfg0.N) (hf : (cfg0.win 8).flush t = true) :
    (dats m 0 c).flushed 8 t
      = ((cfg0.win 8).blk t).view.read (Elt Ideal) (louds (a0 m c) (a1 m c) (a2 m c) (a3 m c) (a4 m c) (in5 m c) : S16x3x256x256.Idx → EReal) := by
  have hi := index8 t
  show (cfg0.win 8).cut (grid0.coords t) ((dats m 0 c).after 8 t) = _
  rw [after0_8]
  funext j
  rw [View.read_apply]
  have h0 : (j 0).val < 1 := (j 0).isLt
  have e : (((cfg0.win 8).blk t).view.emb j : S16x3x256x256.Idx) = ix4 ⟨t.val, t.isLt.trans_eq points⟩ (j 1) (j 2) (j 3) := by
    funext a
    apply Fin.ext
    match a with
    | ⟨0, _⟩ => show win0_8.index t 0 * 1 + 1 * (j 0).val = t.val; rw [hi.1]; omega
    | ⟨1, _⟩ => show win0_8.index t 1 * 3 + 1 * (j 1).val = (j 1).val; rw [hi.2.1]; omega
    | ⟨2, _⟩ => show win0_8.index t 2 * 256 + 1 * (j 2).val = (j 2).val; rw [hi.2.2.1]; omega
    | ⟨3, _⟩ => show win0_8.index t 3 * 256 + 1 * (j 3).val = (j 3).val; rw [hi.2.2.2]; omega
  refine Eq.trans ?_ ((point8 m c t (j 1) (j 2) (j 3)).trans (congrArg (louds (a0 m c) (a1 m c) (a2 m c) (a3 m c) (a4 m c) (in5 m c) : S16x3x256x256.Idx → EReal) e.symm))
  show out0_8 _ _ _ _ _ _ _ _ = out0_8 _ _ _ _ _ _ _ _
  congr 1
  funext a
  apply Fin.ext
  match a with
  | ⟨0, _⟩ => show (j 0).val = 0; omega
  | ⟨1, _⟩ => rfl
  | ⟨2, _⟩ => rfl
  | ⟨3, _⟩ => rfl

/-- So the array ends as the specification says. -/
theorem final8 : (dats m 0 c).arrAt 8 cfg0.N = (louds (a0 m c) (a1 m c) (a2 m c) (a3 m c) (a4 m c) (in5 m c) : S16x3x256x256.Idx → EReal) :=
  (dats m 0 c).arrAt_eq_of_cover 8 (louds (a0 m c) (a1 m c) (a2 m c) (a3 m c) (a4 m c) (in5 m c) : S16x3x256x256.Idx → EReal) (flushed8 m c) fun i => by
    have h0 : (i 0 : ℕ) < 16 := (i 0).isLt
    have h1 : (i 1 : ℕ) < 3 := (i 1).isLt
    have h2 : (i 2 : ℕ) < 256 := (i 2).isLt
    have h3 : (i 3 : ℕ) < 256 := (i 3).isLt
    have key : ∀ t : Fin cfg0.N, t.val = (i 0 : ℕ) → i ∈ ((cfg0.win 8).blk t).view.set := fun t ht => by
      have hi := index8 t
      show i ∈ ((View.whole main_v48_1).slice (win0_8.rect t)).set
      rw [View.set_slice_whole, Rect.mem_set_unit]
      intro a
      match a with
      | ⟨0, _⟩ =>
        show win0_8.index t 0 * 1 ≤ (i 0 : ℕ) ∧ (i 0 : ℕ) < win0_8.index t 0 * 1 + 1
        rw [hi.1]; omega
      | ⟨1, _⟩ =>
        show win0_8.index t 1 * 3 ≤ (i 1 : ℕ) ∧ (i 1 : ℕ) < win0_8.index t 1 * 3 + 3
        rw [hi.2.1]; omega
      | ⟨2, _⟩ =>
        show win0_8.index t 2 * 256 ≤ (i 2 : ℕ) ∧ (i 2 : ℕ) < win0_8.index t 2 * 256 + 256
        rw [hi.2.2.1]; omega
      | ⟨3, _⟩ =>
        show win0_8.index t 3 * 256 ≤ (i 3 : ℕ) ∧ (i 3 : ℕ) < win0_8.index t 3 * 256 + 256
        rw [hi.2.2.2]; omega
    exact ⟨⟨(i 0).val, h0.trans_eq points.symm⟩, flush0_8 _, key _ rfl⟩

/-- What point `t` leaves in output 9's buffer. -/
theorem point9 (t : Fin cfg0.N) (ch : Fin 3) (g : Fin 256) (q : Fin 256) :
    (out0_9 (iblk m c 0 t) (iblk m c 1 t) (iblk m c 2 t) (iblk m c 3 t) (iblk m c 4 t) (iblk m c 5 t) (iblk m c 6 t) :
        S1x3x256x256.Idx → EReal) (ix4 0 ch g q)
      = phases (a0 m c) (a1 m c) (a2 m c) (a3 m c) (a4 m c) (in5 m c) (ix4 ⟨t.val, t.isLt.trans_eq points⟩ ch g q) := by
  rw [block1, block2, block3, block4, block5, block6, out9_pieces]
  refine (wide_canon _ _ _ ch g q).trans ?_
  match ch with
  | 0 => exact phase_in m c _ 0 _ (channel_0 m c t) g q
  | 1 => exact phase_in m c _ 1 _ (channel_1 m c t) g q
  | 2 => exact phase_in m c _ 2 _ (channel_2 m c t) g q

/-- What point `t` writes back is example `t` of the result. -/
theorem flushed9 (t : Fin cfg0.N) (hf : (cfg0.win 9).flush t = true) :
    (dats m 0 c).flushed 9 t
      = ((cfg0.win 9).blk t).view.read (Elt Ideal) (phases (a0 m c) (a1 m c) (a2 m c) (a3 m c) (a4 m c) (in5 m c) : S16x3x256x256.Idx → EReal) := by
  have hi := index9 t
  show (cfg0.win 9).cut (grid0.coords t) ((dats m 0 c).after 9 t) = _
  rw [after0_9]
  funext j
  rw [View.read_apply]
  have h0 : (j 0).val < 1 := (j 0).isLt
  have e : (((cfg0.win 9).blk t).view.emb j : S16x3x256x256.Idx) = ix4 ⟨t.val, t.isLt.trans_eq points⟩ (j 1) (j 2) (j 3) := by
    funext a
    apply Fin.ext
    match a with
    | ⟨0, _⟩ => show win0_9.index t 0 * 1 + 1 * (j 0).val = t.val; rw [hi.1]; omega
    | ⟨1, _⟩ => show win0_9.index t 1 * 3 + 1 * (j 1).val = (j 1).val; rw [hi.2.1]; omega
    | ⟨2, _⟩ => show win0_9.index t 2 * 256 + 1 * (j 2).val = (j 2).val; rw [hi.2.2.1]; omega
    | ⟨3, _⟩ => show win0_9.index t 3 * 256 + 1 * (j 3).val = (j 3).val; rw [hi.2.2.2]; omega
  refine Eq.trans ?_ ((point9 m c t (j 1) (j 2) (j 3)).trans (congrArg (phases (a0 m c) (a1 m c) (a2 m c) (a3 m c) (a4 m c) (in5 m c) : S16x3x256x256.Idx → EReal) e.symm))
  show out0_9 _ _ _ _ _ _ _ _ = out0_9 _ _ _ _ _ _ _ _
  congr 1
  funext a
  apply Fin.ext
  match a with
  | ⟨0, _⟩ => show (j 0).val = 0; omega
  | ⟨1, _⟩ => rfl
  | ⟨2, _⟩ => rfl
  | ⟨3, _⟩ => rfl

/-- So the array ends as the specification says. -/
theorem final9 : (dats m 0 c).arrAt 9 cfg0.N = (phases (a0 m c) (a1 m c) (a2 m c) (a3 m c) (a4 m c) (in5 m c) : S16x3x256x256.Idx → EReal) :=
  (dats m 0 c).arrAt_eq_of_cover 9 (phases (a0 m c) (a1 m c) (a2 m c) (a3 m c) (a4 m c) (in5 m c) : S16x3x256x256.Idx → EReal) (flushed9 m c) fun i => by
    have h0 : (i 0 : ℕ) < 16 := (i 0).isLt
    have h1 : (i 1 : ℕ) < 3 := (i 1).isLt
    have h2 : (i 2 : ℕ) < 256 := (i 2).isLt
    have h3 : (i 3 : ℕ) < 256 := (i 3).isLt
    have key : ∀ t : Fin cfg0.N, t.val = (i 0 : ℕ) → i ∈ ((cfg0.win 9).blk t).view.set := fun t ht => by
      have hi := index9 t
      show i ∈ ((View.whole main_v48_2).slice (win0_9.rect t)).set
      rw [View.set_slice_whole, Rect.mem_set_unit]
      intro a
      match a with
      | ⟨0, _⟩ =>
        show win0_9.index t 0 * 1 ≤ (i 0 : ℕ) ∧ (i 0 : ℕ) < win0_9.index t 0 * 1 + 1
        rw [hi.1]; omega
      | ⟨1, _⟩ =>
        show win0_9.index t 1 * 3 ≤ (i 1 : ℕ) ∧ (i 1 : ℕ) < win0_9.index t 1 * 3 + 3
        rw [hi.2.1]; omega
      | ⟨2, _⟩ =>
        show win0_9.index t 2 * 256 ≤ (i 2 : ℕ) ∧ (i 2 : ℕ) < win0_9.index t 2 * 256 + 256
        rw [hi.2.2.1]; omega
      | ⟨3, _⟩ =>
        show win0_9.index t 3 * 256 ≤ (i 3 : ℕ) ∧ (i 3 : ℕ) < win0_9.index t 3 * 256 + 256
        rw [hi.2.2.2]; omega
    exact ⟨⟨(i 0).val, h0.trans_eq points.symm⟩, flush0_9 _, key _ rfl⟩

end Cert.Kernel3Ideal.Own

end
-- ==== Proof.WaveRef.lean ====
/-
  What the spectrum call's reference computes, element by element, in the words of WaveSpec.lean.
-/
module

public import proofs.«01_k».proof.Proof.Gen.Reference3Ideal.Run
public import proofs.«01_k».proof.Proof.WaveSpec
public import Idealize.ShloMosaic.Lib.IdealHost
public import Idealize.ShloMosaic.Lib.Pointwise

@[expose] public section

set_option maxRecDepth 16384

noncomputable section

namespace Cert.Reference3Ideal.Own

open Cert.Reference3Ideal Cert.Reference3Ideal.Value Cert.Reference3Ideal.Gen Cert.Wave
open Idealize.ShloMosaic Idealize.ShloMosaic.TcCoe

variable (V0 : Valuation τ sig (Elt Ideal))

/-- The images. -/
abbrev b0 : S16x3x256x256.Idx → EReal := V0 (Proc.devRef .tc main_arg0)
/-- The cosines along a row. -/
abbrev b1 : S256x129.Idx → EReal := V0 (Proc.devRef .tc main_arg1)
/-- The sines along a row. -/
abbrev b2 : S256x129.Idx → EReal := V0 (Proc.devRef .tc main_arg2)
/-- The cosines along a column. -/
abbrev b3 : S256x256.Idx → EReal := V0 (Proc.devRef .tc main_arg3)
/-- The sines along a column. -/
abbrev b4 : S256x256.Idx → EReal := V0 (Proc.devRef .tc main_arg4)

/-- The weights of the first upsampling. -/
def weights : FVec Ideal S129x256 .f32 :=
  (select (broadcastInDim S129x256 ![0, 1] bcast_S1x256_S129x256_0_1 (broadcastInDim S1x256 ![1] bcast_S256_S1x256_1 (andi (cmpf .oge (res_main_call5_v9 V0) (broadcastInDim S256 ![] bcast_S_S256 (constant S_ .f32 0xBF000000#32))) (cmpf .ole (res_main_call5_v9 V0) (broadcastInDim S256 ![] bcast_S_S256 (constant S_ .f32 0x43008000#32)))))) (select (broadcastInDim S129x256 ![0, 1] bcast_S1x256_S129x256_0_1 (cmpf .ogt (Host.absf (res_main_call5_v26 V0)) (broadcastInDim S1x256 ![] bcast_S_S1x256 (constant S_ .f32 0x38FA0000#32)))) (Host.divf (res_main_call5_v24 V0) (broadcastInDim S129x256 ![0, 1] bcast_S1x256_S129x256_0_1 (select (cmpf .une (res_main_call5_v26 V0) (broadcastInDim S1x256 ![] bcast_S_S1x256 (constant S_ .f32 0x00000000#32))) (res_main_call5_v26 V0) (broadcastInDim S1x256 ![] bcast_S_S1x256 (sitofp .f32 (constantI S_ 32 1#32)))))) (broadcastInDim S129x256 ![] bcast_S_S129x256 (sitofp .f32 (constantI S_ 32 0#32)))) (broadcastInDim S129x256 ![] bcast_S_S129x256 (sitofp .f32 (constantI S_ 32 0#32))))

/-- The weights of the second, the same. -/
def weights' : FVec Ideal S129x256 .f32 :=
  (select (broadcastInDim S129x256 ![0, 1] bcast_S1x256_S129x256_0_1 (broadcastInDim S1x256 ![1] bcast_S256_S1x256_1 (andi (cmpf .oge (res_main_call6_v9 V0) (broadcastInDim S256 ![] bcast_S_S256 (constant S_ .f32 0xBF000000#32))) (cmpf .ole (res_main_call6_v9 V0) (broadcastInDim S256 ![] bcast_S_S256 (constant S_ .f32 0x43008000#32)))))) (select (broadcastInDim S129x256 ![0, 1] bcast_S1x256_S129x256_0_1 (cmpf .ogt (Host.absf (res_main_call6_v26 V0)) (broadcastInDim S1x256 ![] bcast_S_S1x256 (constant S_ .f32 0x38FA0000#32)))) (Host.divf (res_main_call6_v24 V0) (broadcastInDim S129x256 ![0, 1] bcast_S1x256_S129x256_0_1 (select (cmpf .une (res_main_call6_v26 V0) (broadcastInDim S1x256 ![] bcast_S_S1x256 (constant S_ .f32 0x00000000#32))) (res_main_call6_v26 V0) (broadcastInDim S1x256 ![] bcast_S_S1x256 (sitofp .f32 (constantI S_ 32 1#32)))))) (broadcastInDim S129x256 ![] bcast_S_S129x256 (sitofp .f32 (constantI S_ 32 0#32)))) (broadcastInDim S129x256 ![] bcast_S_S129x256 (sitofp .f32 (constantI S_ 32 0#32))))

theorem weights_eq : weights' V0 = weights V0 := rfl

theorem limited_apply (b : Fin 16) (c : Fin 3) (h j : Fin 256) :
    (res_main_v0 V0 : S16x3x256x256.Idx → EReal) (ix4 b c h j) = limited (b0 V0 (ix4 b c h j)) := by
  pointwise [res_main_v0]
  rfl

theorem cosines_apply (b : Fin 16) (c : Fin 3) (h : Fin 256) (k : Fin 129) :
    (res_main_v1 V0 : S16x3x256x129.Idx → EReal) (ix4 b c h k) = cosines (b0 V0) (b1 V0) b c h k := by
  pointwise [res_main_v1]
  simp only [limited_apply]
  rfl

theorem sines_apply (b : Fin 16) (c : Fin 3) (h : Fin 256) (k : Fin 129) :
    (res_main_v3 V0 : S16x3x256x129.Idx → EReal) (ix4 b c h k) = sines (b0 V0) (b2 V0) b c h k := by
  pointwise [res_main_v3]
  simp only [limited_apply]
  rfl

theorem re_apply (b : Fin 16) (c : Fin 3) (g : Fin 256) (k : Fin 129) :
    (res_main_v11 V0 : S16x3x256x129.Idx → EReal) (ix4 b c g k) = re (b0 V0) (b1 V0) (b2 V0) (b3 V0) (b4 V0) b c g k := by
  pointwise [res_main_v11]
  simp only [cosines_apply, sines_apply]
  rfl

/-- Whether a frequency is its own conjugate, as the reference asks it. -/
theorem own_word (n : ℕ) (hn : n < 256 := by omega) :
    IntOp.ori (IntOp.cmpi .eq (BitVec.ofNat 32 n) 0#32) (IntOp.cmpi .eq (BitVec.ofNat 32 n) 128#32)
      = BitVec.ofBool (decide (own n)) :=
  (by decide +kernel : ∀ g : Fin 256, IntOp.ori (IntOp.cmpi .eq (BitVec.ofNat 32 g.val) 0#32)
    (IntOp.cmpi .eq (BitVec.ofNat 32 g.val) 128#32) = BitVec.ofBool (decide (own g.val))) ⟨n, hn⟩

theorem im_apply (b : Fin 16) (c : Fin 3) (g : Fin 256) (k : Fin 129) :
    (res_main_v30 V0 : S16x3x256x129.Idx → EReal) (ix4 b c g k) = im (b0 V0) (b1 V0) (b2 V0) (b3 V0) (b4 V0) b c g k := by
  pointwise [res_main_v30, res_main_v14, res_main_v16]
  simp only [cosines_apply, sines_apply]
  rw [own_word g.val, own_word k.val]
  unfold im imag
  by_cases h1 : own g.val <;> by_cases h2 : own k.val
  · rw [if_pos ⟨h1, h2⟩, decide_eq_true h1, decide_eq_true h2]
    exact Ideal.ofBits_zero_f32
  · rw [if_neg (fun h => h2 h.2), decide_eq_true h1, decide_eq_false h2]
    rfl
  · rw [if_neg (fun h => h1 h.1), decide_eq_false h1, decide_eq_true h2]
    rfl
  · rw [if_neg (fun h => h1 h.1), decide_eq_false h1, decide_eq_false h2]
    rfl

theorem upsample (x : FVec Ideal S16x3x256x129 .f32) (u : FVec Ideal S129x256 .f32) (b : Fin 16) (c : Fin 3) (g q : Fin 256) :
    (Host.dotGeneral (F := Ideal) dot_S16x3x256x129_S129x256_S16x3x256x256_3_0_012_1_n_n (some .fp32) x u :
        S16x3x256x256.Idx → EReal) (ix4 b c g q)
      = ∑ k, (x : S16x3x256x129.Idx → EReal) (ix4 b c g k) * (u : S129x256.Idx → EReal) (ix2 k q) := by
  pointwise

theorem mags_apply (b : Fin 16) (c : Fin 3) (g : Fin 256) (k : Fin 129) :
    (val1 V0 (Proc.devRef .tc main_v35) : S16x3x256x129.Idx → EReal) (ix4 b c g k)
      = mag (re (b0 V0) (b1 V0) (b2 V0) (b3 V0) (b4 V0) b c g k) (im (b0 V0) (b1 V0) (b2 V0) (b3 V0) (b4 V0) b c g k) := by
  refine (congrFun (val1_main_v35 V0) _).trans ?_
  pointwise
  rw [re_apply, im_apply]
  rfl

theorem louds_apply (b : Fin 16) (c : Fin 3) (g q : Fin 256) :
    (val1 V0 (Proc.devRef .tc main_v42) : S16x3x256x256.Idx → EReal) (ix4 b c g q)
      = ∑ k, loud (re (b0 V0) (b1 V0) (b2 V0) (b3 V0) (b4 V0) b c g k) (im (b0 V0) (b1 V0) (b2 V0) (b3 V0) (b4 V0) b c g k)
          * (weights V0 : S129x256.Idx → EReal) (ix2 k q) := by
  refine (congrFun (val1_main_v42 V0) _).trans ((upsample _ _ _ _ _ _).trans ?_)
  refine Finset.sum_congr rfl fun k _ => congrArg (· * _) ?_
  pointwise
  rw [re_apply, im_apply]
  rfl

theorem phases_apply (b : Fin 16) (c : Fin 3) (g q : Fin 256) :
    (val1 V0 (Proc.devRef .tc main_v43) : S16x3x256x256.Idx → EReal) (ix4 b c g q)
      = ∑ k, phase (re (b0 V0) (b1 V0) (b2 V0) (b3 V0) (b4 V0) b c g k) (im (b0 V0) (b1 V0) (b2 V0) (b3 V0) (b4 V0) b c g k)
          * (weights V0 : S129x256.Idx → EReal) (ix2 k q) := by
  refine (congrFun (val1_main_v43 V0) _).trans ((upsample _ _ _ _ _ _).trans ?_)
  refine Finset.sum_congr rfl fun k _ => congrArg (· * _) ?_
  pointwise
  rw [re_apply, im_apply]
  show min (Ideal.ofBits .f32 0x3F800000#32) _ = _
  rw [Ideal.ofBits_one_f32]
  rfl

theorem mags_eq : (val1 V0 (Proc.devRef .tc main_v35) : S16x3x256x129.Idx → EReal)
    = mags (b0 V0) (b1 V0) (b2 V0) (b3 V0) (b4 V0) :=
  funext fun i => (congrArg _ (eq_ix4 i)).trans (mags_apply V0 (i 0) (i 1) (i 2) (i 3))

theorem louds_eq : (val1 V0 (Proc.devRef .tc main_v42) : S16x3x256x256.Idx → EReal)
    = louds (b0 V0) (b1 V0) (b2 V0) (b3 V0) (b4 V0) (weights V0) :=
  funext fun i => (congrArg _ (eq_ix4 i)).trans (louds_apply V0 (i 0) (i 1) (i 2) (i 3))

theorem phases_eq : (val1 V0 (Proc.devRef .tc main_v43) : S16x3x256x256.Idx → EReal)
    = phases (b0 V0) (b1 V0) (b2 V0) (b3 V0) (b4 V0) (weights V0) :=
  funext fun i => (congrArg _ (eq_ix4 i)).trans (phases_apply V0 (i 0) (i 1) (i 2) (i 3))

end Cert.Reference3Ideal.Own

end
-- ==== Proof.WaveBins.lean ====
/-
  The kernel's program and the reference build the upsampling's weights with the same operations.
-/
module

public import proofs.«01_k».proof.Proof.WaveHost
public import proofs.«01_k».proof.Proof.WaveRef

@[expose] public section

set_option maxRecDepth 16384

noncomputable section

namespace Cert.Kernel3Ideal.Own

open Cert.Kernel3Ideal Cert.Kernel3Ideal.Gen
open Idealize.ShloMosaic Idealize.ShloMosaic.TcCoe

variable (m : (ℓ : Loc nD τ sig) → Buf (Elt Ideal) ℓ) (c : Dev nD)
variable (V0 : Valuation Cert.Reference3Ideal.τ Cert.Reference3Ideal.sig (Elt Ideal))

set_option maxHeartbeats 4000000 in
theorem weights_eq : in5 m c = Cert.Reference3Ideal.Own.weights V0 := by
  simp only [in5, V, hostOps0, hostOps0_1, hostOps0_2, hostOps0_3, hostOps0_4, hostOps0_5, hostOps0_6, hostOps0_7,
    List.flatten_cons, List.flatten_nil, List.append_nil, List.cons_append, List.nil_append]
  entry_read
  simp only [StableHlo.TRef.toBuf, StableHlo.TRef.ofBuf, cast_eq]
  rfl

end Cert.Kernel3Ideal.Own

end
-- ==== Proof.lean ====
/-
  The certificate: the programs run to the end, leave their arguments and the machine as they found them, and, over the
  extended reals, the kernel's pooled features are the reference's, and so is the last call's result from the magnitudes
  and the pooled features, and so are the spectrum call's magnitudes and upsampled images.
-/
module

public import proofs.«01_k».proof.Defs
public import proofs.«01_k».proof.Proof.FrameBits
public import proofs.«01_k».proof.Proof.Equation
public import proofs.«01_k».proof.Proof.RefValue
public import proofs.«01_k».proof.Proof.Pre
public import Idealize.ShloMosaic.Lib.Quiescent
public import proofs.«01_k».proof.Proof.Gen.Kernel2.Frame
public import proofs.«01_k».proof.Proof.HeadBins
public import proofs.«01_k».proof.Proof.HeadEquation
public import proofs.«01_k».proof.Proof.HeadPre
public import proofs.«01_k».proof.Proof.HeadRef
public import proofs.«01_k».proof.Proof.Gen.Kernel3.Frame
public import proofs.«01_k».proof.Proof.WaveStores
public import proofs.«01_k».proof.Proof.WaveBins

@[expose] public section

set_option maxRecDepth 16384

noncomputable section

namespace Cert.Proof

open Idealize.ShloMosaic Idealize.ShloMosaic.TcCoe Idealize.SL.Sem Cert.Conv
open Idealize.ShloMosaic.StableHlo (launchContents)

/-- The kernel runs, keeps its arguments and ends quiescent, at the bits. -/
theorem frameKernel : Cert.quiescent_Kernel := fun m g _ => Cert.Kernel.Own.frame m g

/-- So it does at the extended reals. -/
theorem frameKernelIdeal : Cert.quiescent_KernelIdeal := fun m g _ => Cert.KernelIdeal.Own.frame m g

/-- The reference runs, keeps its arguments and ends quiescent. -/
theorem frameReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- A layer is determined by its arrays. -/
theorem layer_congr {n k : ℕ} {w w' : (⟨4, ![k, n, 3, 3]⟩ : Shape).Idx → EReal} {b b' : (⟨1, ![k]⟩ : Shape).Idx → EReal}
    {p p' : (⟨2, ![4, k]⟩ : Shape).Idx → EReal} (hw : w = w') (hb : b = b') (hp : p = p') :
    Layer.of w b p = Layer.of w' b' p' := by
  rw [hw, hb, hp]

/-- From the same arguments, fit to be folded, the reference's result is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hF : Cert.KernelIdeal.Own.Fits m c)
    (h0 : launchContents m' c (Proc.devRef .tc Cert.ReferenceIdeal.main_arg0) = Cert.KernelIdeal.Own.a0 m c)
    (h1 : launchContents m' c (Proc.devRef .tc Cert.ReferenceIdeal.main_arg1) = Cert.KernelIdeal.Own.a1 m c)
    (h2 : launchContents m' c (Proc.devRef .tc Cert.ReferenceIdeal.main_arg2) = Cert.KernelIdeal.Own.a2 m c)
    (h3 : launchContents m' c (Proc.devRef .tc Cert.ReferenceIdeal.main_arg3) = Cert.KernelIdeal.Own.a3 m c)
    (h4 : launchContents m' c (Proc.devRef .tc Cert.ReferenceIdeal.main_arg4) = Cert.KernelIdeal.Own.a4 m c)
    (h5 : launchContents m' c (Proc.devRef .tc Cert.ReferenceIdeal.main_arg5) = Cert.KernelIdeal.Own.a5 m c)
    (h6 : launchContents m' c (Proc.devRef .tc Cert.ReferenceIdeal.main_arg6) = Cert.KernelIdeal.Own.a6 m c)
    (h7 : launchContents m' c (Proc.devRef .tc Cert.ReferenceIdeal.main_arg7) = Cert.KernelIdeal.Own.a7 m c)
    (h8 : launchContents m' c (Proc.devRef .tc Cert.ReferenceIdeal.main_arg8) = Cert.KernelIdeal.Own.a8 m c)
    (h9 : launchContents m' c (Proc.devRef .tc Cert.ReferenceIdeal.main_arg9) = Cert.KernelIdeal.Own.a9 m c)
    (h10 : launchContents m' c (Proc.devRef .tc Cert.ReferenceIdeal.main_arg10) = Cert.KernelIdeal.Own.a10 m c)
    (h11 : launchContents m' c (Proc.devRef .tc Cert.ReferenceIdeal.main_arg11) = Cert.KernelIdeal.Own.a11 m c)
    (h12 : launchContents m' c (Proc.devRef .tc Cert.ReferenceIdeal.main_arg12) = Cert.KernelIdeal.Own.a12 m c)
    (h13 : launchContents m' c (Proc.devRef .tc Cert.ReferenceIdeal.main_arg13) = Cert.KernelIdeal.Own.a13 m c) :
    (Cert.ReferenceIdeal.Value.val6 (launchContents m' c) (Proc.devRef .tc Cert.ReferenceIdeal.main_v327) : Cert.KernelIdeal.S16x96x1.Idx → EReal)
      = Cert.KernelIdeal.Own.rows m c := by
  have e1 : Cert.ReferenceIdeal.Own.M1 (launchContents m' c) = Cert.KernelIdeal.Own.KM1 m c := layer_congr h2 h3 h4
  have e2 : Cert.ReferenceIdeal.Own.M2 (launchContents m' c) = Cert.KernelIdeal.Own.KM2 m c := layer_congr h5 h6 h7
  have e3 : Cert.ReferenceIdeal.Own.P1 (launchContents m' c) = Cert.KernelIdeal.Own.KP1 m c := layer_congr h8 h9 h10
  have e4 : Cert.ReferenceIdeal.Own.P2 (launchContents m' c) = Cert.KernelIdeal.Own.KP2 m c := layer_congr h11 h12 h13
  funext i
  have hi : i = ix3 (i 0) (i 1) 0 := by
    refine (eq_ix3 i).trans ?_
    exact congrArg (fun j => ix3 (i 0) (i 1) j) (Subsingleton.elim (α := Fin 1) _ _)
  rw [hi]
  refine (Cert.ReferenceIdeal.Own.result (launchContents m' c) (i 0) (i 1)).trans ?_
  refine Eq.trans ?_ (Cert.KernelIdeal.Own.rows_apply m c hF (i 0) (i 1)).symm
  rw [e1, e2, e3, e4, h0, h1]

/-- The kernel's pooled features are the reference's, over the extended reals. -/
theorem equal : Cert.algebraic_KernelIdeal_ReferenceIdeal_pre_parameters_ok
    (hPre_parameters_ok := Cert.Pre_parameters_ok.facts) := by
  intro m g m' g' hpre hargs
  refine ⟨fun c => Cert.KernelIdeal.Own.rows m c, Cert.KernelIdeal.Own.run_rows m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Value.val6_main_v327 (launchContents m' c)).symm.trans ?_
  obtain ⟨h0, h1, h2, h3, h4, h5, h6, h7, h8, h9, h10, h11, h12, h13⟩ := hargs c
  exact results m m' c (Cert.Pre_parameters_ok.fit _ _ _ _ _ _ _ _ _ _ _ _ _ _ (hpre c))
    h0 h1 h2 h3 h4 h5 h6 h7 h8 h9 h10 h11 h12 h13

/-- The last call runs, keeps its arguments and ends quiescent, at the bits. -/
theorem frameKernel2 : Cert.quiescent_Kernel2 := fun m g _ => Cert.Kernel2.Gen.frame m g

/-- So it does at the extended reals. -/
theorem frameKernel2Ideal : Cert.quiescent_Kernel2Ideal := fun m g _ => Cert.Kernel2Ideal.Gen.frame m g

/-- The last call's reference runs, keeps its arguments and ends quiescent. -/
theorem frameReference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- A layer on a line is determined by its arrays. -/
theorem line_layer_congr {n : ℕ} {w w' : (⟨3, ![32, n, 3]⟩ : Shape).Idx → EReal} {b b' : (⟨1, ![32]⟩ : Shape).Idx → EReal}
    {p p' : (⟨2, ![4, 32]⟩ : Shape).Idx → EReal} (hw : w = w') (hb : b = b') (hp : p = p') :
    Cert.Head.Layer.of w b p = Cert.Head.Layer.of w' b' p' := by
  rw [hw, hb, hp]

/-- From the same arguments, fit to be folded, the last call's result is its reference's. -/
theorem results2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (hF : Cert.Kernel2Ideal.Own.Fits m c)
    (h0 : launchContents m' c (Proc.devRef .tc Cert.Reference2Ideal.main_arg0) = Cert.Kernel2Ideal.Own.a0 m c)
    (h1 : launchContents m' c (Proc.devRef .tc Cert.Reference2Ideal.main_arg1) = Cert.Kernel2Ideal.Own.a1 m c)
    (h2 : launchContents m' c (Proc.devRef .tc Cert.Reference2Ideal.main_arg2) = Cert.Kernel2Ideal.Own.a2 m c)
    (h3 : launchContents m' c (Proc.devRef .tc Cert.Reference2Ideal.main_arg3) = Cert.Kernel2Ideal.Own.a3 m c)
    (h4 : launchContents m' c (Proc.devRef .tc Cert.Reference2Ideal.main_arg4) = Cert.Kernel2Ideal.Own.a4 m c)
    (h5 : launchContents m' c (Proc.devRef .tc Cert.Reference2Ideal.main_arg5) = Cert.Kernel2Ideal.Own.a5 m c)
    (h6 : launchContents m' c (Proc.devRef .tc Cert.Reference2Ideal.main_arg6) = Cert.Kernel2Ideal.Own.a6 m c)
    (h7 : launchContents m' c (Proc.devRef .tc Cert.Reference2Ideal.main_arg7) = Cert.Kernel2Ideal.Own.a7 m c)
    (h8 : launchContents m' c (Proc.devRef .tc Cert.Reference2Ideal.main_arg8) = Cert.Kernel2Ideal.Own.a8 m c)
    (h9 : launchContents m' c (Proc.devRef .tc Cert.Reference2Ideal.main_arg9) = Cert.Kernel2Ideal.Own.a9 m c)
    (h10 : launchContents m' c (Proc.devRef .tc Cert.Reference2Ideal.main_arg10) = Cert.Kernel2Ideal.Own.a10 m c)
    (h11 : launchContents m' c (Proc.devRef .tc Cert.Reference2Ideal.main_arg11) = Cert.Kernel2Ideal.Own.a11 m c)
    (h12 : launchContents m' c (Proc.devRef .tc Cert.Reference2Ideal.main_arg12) = Cert.Kernel2Ideal.Own.a12 m c)
    (h13 : launchContents m' c (Proc.devRef .tc Cert.Reference2Ideal.main_arg13) = Cert.Kernel2Ideal.Own.a13 m c) :
    (Cert.Reference2Ideal.Value.val5 (launchContents m' c) (Proc.devRef .tc Cert.Reference2Ideal.main_v208) : Cert.Kernel2Ideal.S16x128.Idx → EReal)
      = Cert.Kernel2Ideal.Own.whole m c := by
  have e1 : Cert.Reference2Ideal.Own.L1 (launchContents m' c) = Cert.Kernel2Ideal.Own.K1 m c := line_layer_congr h2 h3 h4
  have e2 : Cert.Reference2Ideal.Own.L2 (launchContents m' c) = Cert.Kernel2Ideal.Own.K2 m c := line_layer_congr h5 h6 h7
  have e3 : Cert.Reference2Ideal.Own.rings (launchContents m' c) = Cert.Kernel2Ideal.Own.krings m c :=
    funext fun u => funext fun k => (congrFun (Cert.Kernel2Ideal.Own.ring_eq m c (launchContents m' c)) (ix2 k u)).symm
  have e4 : Cert.Reference2Ideal.Own.secs (launchContents m' c) = Cert.Kernel2Ideal.Own.ksecs m c :=
    funext fun u => funext fun k => (congrFun (Cert.Kernel2Ideal.Own.sec_eq m c (launchContents m' c)) (ix2 k u)).symm
  have e5 : Cert.Reference2Ideal.Own.mags (launchContents m' c) = Cert.Kernel2Ideal.Own.kmags m c :=
    funext fun b => funext fun ch => funext fun k => congrFun h0 _
  funext i
  rw [eq_ix2 i]
  refine (Cert.Reference2Ideal.Own.result (launchContents m' c) (i 0) (i 1)).trans ?_
  refine Eq.trans ?_ (Cert.Kernel2Ideal.Own.whole_apply m c hF (i 0) (i 1)).symm
  rw [e1, e2, e3, e4, e5, h1, h8, h9, h10, h11, h12, h13]

/-- The last call's result is its reference's, over the extended reals. -/
theorem equal2 : Cert.algebraic_Kernel2Ideal_Reference2Ideal_pre_parameters2_ok
    (hPre_parameters2_ok := Cert.Pre_parameters2_ok.facts) := by
  intro m g m' g' hpre hargs
  refine ⟨fun c => Cert.Kernel2Ideal.Own.whole m c, ?_, ?_⟩
  · exact (θ_run Cert.Kernel2Ideal.defs _ _).mono (fun r h c => ⟨(h c).1.trans (Cert.Kernel2Ideal.Own.final m c), (h c).2⟩)
      (Cert.Kernel2Ideal.Value.run_blocks m g)
  refine (θ_run Cert.Reference2Ideal.defs _ _).mono (fun r h c => ⟨(h c).1.trans ?_, (h c).2⟩)
    (Cert.Reference2Ideal.Value.run (F := Ideal) m' g')
  refine (Cert.Reference2Ideal.Value.val5_main_v208 (launchContents m' c)).symm.trans ?_
  obtain ⟨h0, h1, h2, h3, h4, h5, h6, h7, h8, h9, h10, h11, h12, h13⟩ := hargs c
  exact results2 m m' c (Cert.Pre_parameters2_ok.fit _ _ _ _ _ _ _ _ _ _ _ _ _ _ (hpre c))
    h0 h1 h2 h3 h4 h5 h6 h7 h8 h9 h10 h11 h12 h13

/-- The spectrum call runs, keeps its arguments and ends quiescent, at the bits. -/
theorem frameKernel3 : Cert.quiescent_Kernel3 := fun m g _ => Cert.Kernel3.Gen.frame m g

/-- So it does at the extended reals. -/
theorem frameKernel3Ideal : Cert.quiescent_Kernel3Ideal := fun m g _ => Cert.Kernel3Ideal.Gen.frame m g

/-- The spectrum call's reference runs, keeps its arguments and ends quiescent. -/
theorem frameReference3Ideal : Cert.quiescent_Reference3Ideal := fun m g _ =>
  (θ_run Cert.Reference3Ideal.defs _ _).mono
    (fun r h => ⟨fun c => (h c).2.2.2, sem_eq_zero_of_no_sems (by decide) r.2⟩)
    (Cert.Reference3Ideal.Value.run (F := Ideal) m g)

/-- The kernel's factor is the inverse of the number the reference divides by. -/
theorem preserves3 : Cert.preserves_Kernel3_Kernel3Ideal :=
  IdealRules.named_const.statement Cert.Kernel3Ideal.κ "inv_pi" .f32 0x3EA2F983#32 ((4194304 / 13176795 : ℝ) : EReal) rfl

/-- The spectrum call's three results are its reference's, over the extended reals. -/
theorem equal3 : Cert.algebraic_Kernel3Ideal_Reference3Ideal := by
  intro m g m' g' _ hargs
  refine ⟨fun c => Cert.Wave.mags (Cert.Kernel3Ideal.Own.a0 m c) (Cert.Kernel3Ideal.Own.a1 m c)
      (Cert.Kernel3Ideal.Own.a2 m c) (Cert.Kernel3Ideal.Own.a3 m c) (Cert.Kernel3Ideal.Own.a4 m c),
    fun c => Cert.Wave.louds (Cert.Kernel3Ideal.Own.a0 m c) (Cert.Kernel3Ideal.Own.a1 m c)
      (Cert.Kernel3Ideal.Own.a2 m c) (Cert.Kernel3Ideal.Own.a3 m c) (Cert.Kernel3Ideal.Own.a4 m c)
      (Cert.Kernel3Ideal.Own.in5 m c),
    fun c => Cert.Wave.phases (Cert.Kernel3Ideal.Own.a0 m c) (Cert.Kernel3Ideal.Own.a1 m c)
      (Cert.Kernel3Ideal.Own.a2 m c) (Cert.Kernel3Ideal.Own.a3 m c) (Cert.Kernel3Ideal.Own.a4 m c)
      (Cert.Kernel3Ideal.Own.in5 m c), ?_, ?_⟩
  · exact (θ_run Cert.Kernel3Ideal.defs _ _).mono (fun r h c => ⟨(h c).1.trans (Cert.Kernel3Ideal.Own.final7 m c),
      (h c).2.1.trans (Cert.Kernel3Ideal.Own.final8 m c), (h c).2.2.1.trans (Cert.Kernel3Ideal.Own.final9 m c), (h c).2.2.2⟩)
      (Cert.Kernel3Ideal.Value.run_blocks m g)
  have hb (c : Dev Cert.Kernel3Ideal.nD) :
      Cert.Reference3Ideal.Own.b0 (launchContents m' c) = Cert.Kernel3Ideal.Own.a0 m c
      ∧ Cert.Reference3Ideal.Own.b1 (launchContents m' c) = Cert.Kernel3Ideal.Own.a1 m c
      ∧ Cert.Reference3Ideal.Own.b2 (launchContents m' c) = Cert.Kernel3Ideal.Own.a2 m c
      ∧ Cert.Reference3Ideal.Own.b3 (launchContents m' c) = Cert.Kernel3Ideal.Own.a3 m c
      ∧ Cert.Reference3Ideal.Own.b4 (launchContents m' c) = Cert.Kernel3Ideal.Own.a4 m c := hargs c
  refine (θ_run Cert.Reference3Ideal.defs _ _).mono
    (fun r h c => ⟨(h c).1.trans ?_, (h c).2.1.trans ?_, (h c).2.2.1.trans ?_, (h c).2.2.2⟩)
    (Cert.Reference3Ideal.Value.run (F := Ideal) m' g')
  · refine (Cert.Reference3Ideal.Value.val1_main_v35 (launchContents m' c)).symm.trans
      ((Cert.Reference3Ideal.Own.mags_eq (launchContents m' c)).trans ?_)
    obtain ⟨h0, h1, h2, h3, h4⟩ := hb c
    rw [h0, h1, h2, h3, h4]
  · refine (Cert.Reference3Ideal.Value.val1_main_v42 (launchContents m' c)).symm.trans
      ((Cert.Reference3Ideal.Own.louds_eq (launchContents m' c)).trans ?_)
    obtain ⟨h0, h1, h2, h3, h4⟩ := hb c
    rw [h0, h1, h2, h3, h4, ← Cert.Kernel3Ideal.Own.weights_eq m c (launchContents m' c)]
  · refine (Cert.Reference3Ideal.Value.val1_main_v43 (launchContents m' c)).symm.trans
      ((Cert.Reference3Ideal.Own.phases_eq (launchContents m' c)).trans ?_)
    obtain ⟨h0, h1, h2, h3, h4⟩ := hb c
    rw [h0, h1, h2, h3, h4, ← Cert.Kernel3Ideal.Own.weights_eq m c (launchContents m' c)]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Pre_parameters_ok.facts, Cert.Pre_parameters2_ok.facts,
    frameKernel, frameKernelIdeal, fun m g _ => frameKernelIdeal m g trivial, frameReferenceIdeal,
    fun m g _ => frameReferenceIdeal m g trivial, frameKernel2, frameKernel2Ideal,
    fun m g _ => frameKernel2Ideal m g trivial, frameReference2Ideal, fun m g _ => frameReference2Ideal m g trivial,
    frameKernel3, frameKernel3Ideal, frameReference3Ideal, trivial, equal, trivial, equal2, preserves3, equal3⟩

end Cert.Proof

end
